-- ==== Defs.lean ====
def Pre_Kernel [hPre_in_vocab_finite : Cert.Pre_in_vocab_finite.Facts] (m : (ℓ : Loc Cert.Kernel.nD Cert.Kernel.τ Cert.Kernel.sig) → Buf (Elt Bits) ℓ) : Prop :=
  ∀ c : Dev Cert.Kernel.nD,
    (Cert.Pre_in_vocab_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_vocab_finite : Cert.Pre_in_vocab_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_finite [hPre_in_vocab_finite : Cert.Pre_in_vocab_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_vocab_finite : Cert.Pre_in_vocab_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_vocab_finite [hReferenceIdeal : Cert.ReferenceIdeal.Facts] [hPre_in_vocab_finite : Cert.Pre_in_vocab_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_width" .f32 0x3BCCCCCD#32 ((1 / 160 : ℝ) : EReal)
  ∧ IdealRules.named_const.Statement Cert.KernelIdeal.κ "half_inv_len" .f32 0x3B23D70A#32 ((1 / 400 : ℝ) : EReal)

def algebraic_KernelIdeal_ReferenceIdeal [hKernelIdeal : Cert.KernelIdeal.Facts] [hReferenceIdeal : Cert.ReferenceIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_vocab_finite : Cert.Pre_in_vocab_finite.Facts),
    quiescent_Kernel (hKernel := hKernel) (hPre_in_vocab_finite := hPre_in_vocab_finite)
    ∧ quiescent_KernelIdeal (hKernelIdeal := hKernelIdeal) (hPre_in_vocab_finite := hPre_in_vocab_finite)
    ∧ quiescent_ReferenceIdeal (hReferenceIdeal := hReferenceIdeal)
    ∧ quiescent_ReferenceIdeal_pre_in_vocab_finite (hReferenceIdeal := hReferenceIdeal) (hPre_in_vocab_finite := hPre_in_vocab_finite)
    ∧ preserves_Kernel_KernelIdeal
    ∧ algebraic_KernelIdeal_ReferenceIdeal (hKernelIdeal := hKernelIdeal) (hReferenceIdeal := hReferenceIdeal) (hPre_in_vocab_finite := hPre_in_vocab_finite)
-- ==== Pre_in_vocab_finite.lean ====
abbrev S1024x200 : Shape := ⟨2, ![1024, 200]⟩
abbrev S100000x64 : Shape := ⟨2, ![100000, 64]⟩
abbrev S320x64 : Shape := ⟨2, ![320, 64]⟩
abbrev S320x80 : Shape := ⟨2, ![320, 80]⟩
abbrev S320 : Shape := ⟨1, ![320]⟩
abbrev S15x160 : Shape := ⟨2, ![15, 160]⟩
abbrev S15 : Shape := ⟨1, ![15]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S15x160 : S_.BroadcastsInDim S15x160 (![] : Fin 0 → Fin S15x160.rank)
  reducesTo_S15x160_S_d0_1 : S15x160.ReducesTo [0, 1] S_
  bcast_S_S15 : S_.BroadcastsInDim S15 (![] : Fin 0 → Fin S15.rank)
  reducesTo_S15_S_d0 : S15.ReducesTo [0] S_

variable [Facts]

def fn {F : FTy → Type} [FloatOps F] (main_arg0 : IVec S1024x200 32) (main_arg1 : FVec F S100000x64 .f32) (main_arg2 : FVec F S320x64 .f32) (main_arg3 : FVec F S320x80 .f32) (main_arg4 : FVec F S320 .f32) (main_arg5 : FVec F S320 .f32) (main_arg6 : FVec F S320x64 .f32) (main_arg7 : FVec F S320x80 .f32) (main_arg8 : FVec F S320 .f32) (main_arg9 : FVec F S320 .f32) (main_arg10 : FVec F S15x160 .f32) (main_arg11 : FVec F S15 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_v6 : FVec F S15x160 .f32 := Host.absf main_arg10
  let main_cst : FVec F S_ .f32 := constant S_ .f32 0x7F800000#32
  let main_v7 : FVec F S15x160 .f32 := broadcastInDim S15x160 ![] bcast_S_S15x160 main_cst
  let main_v8 : IVec S15x160 1 := cmpf .olt main_v6 main_v7
  let main_c_2 : IVec S_ 1 := constantI S_ 1 1#1
  let main_v9 : IVec S_ 1 := (fun x v => Host.reduce IntOp.andi x v reducesTo_S15x160_S_d0_1 h_S_) main_v8 main_c_2
  let main_v10 : IVec S_ 1 := andi main_v5 main_v9
  let main_v11 : FVec F S15 .f32 := Host.absf main_arg11
  let main_cst_3 : FVec F S_ .f32 := constant S_ .f32 0x7F800000#32
  let main_v12 : FVec F S15 .f32 := broadcastInDim S15 ![] bcast_S_S15 main_cst_3
  let main_v13 : IVec S15 1 := cmpf .olt main_v11 main_v12
  let main_c_4 : IVec S_ 1 := constantI S_ 1 1#1
  let main_v14 : IVec S_ 1 := (fun x v => Host.reduce IntOp.andi x v reducesTo_S15_S_d0 h_S_) main_v13 main_c_4
  let main_v15 : IVec S_ 1 := andi main_v10 main_v14
  main_v15
-- ==== Kernel.lean ====
abbrev S1024x200 : Shape := ⟨2, ![1024, 200]⟩
abbrev S100000x64 : Shape := ⟨2, ![100000, 64]⟩
abbrev S320x64 : Shape := ⟨2, ![320, 64]⟩
abbrev S320x80 : Shape := ⟨2, ![320, 80]⟩
abbrev S320 : Shape := ⟨1, ![320]⟩
abbrev S15x160 : Shape := ⟨2, ![15, 160]⟩
abbrev S15 : Shape := ⟨1, ![15]⟩
abbrev S200x1024 : Shape := ⟨2, ![200, 1024]⟩
abbrev S204800 : Shape := ⟨1, ![204800]⟩
abbrev S_ : Shape := ⟨0, ![]⟩
abbrev S100000x128 : Shape := ⟨2, ![100000, 128]⟩
abbrev S204800x128 : Shape := ⟨2, ![204800, 128]⟩
abbrev S800 : Shape := ⟨1, ![800]⟩
abbrev S800x128 : Shape := ⟨2, ![800, 128]⟩
abbrev S200x1024x128 : Shape := ⟨3, ![200, 1024, 128]⟩
abbrev S64x320 : Shape := ⟨2, ![64, 320]⟩
abbrev S80x320 : Shape := ⟨2, ![80, 320]⟩
abbrev S128x512 : Shape := ⟨2, ![128, 512]⟩
abbrev S1x512 : Shape := ⟨2, ![1, 512]⟩
abbrev S64x80 : Shape := ⟨2, ![64, 80]⟩
abbrev S1 : Shape := ⟨1, ![1]⟩
abbrev S2 : Shape := ⟨1, ![2]⟩
abbrev S80x80 : Shape := ⟨2, ![80, 80]⟩
abbrev S80 : Shape := ⟨1, ![80]⟩
abbrev S200x1024x80 : Shape := ⟨3, ![200, 1024, 80]⟩
abbrev S1x1024x128 : Shape := ⟨3, ![1, 1024, 128]⟩
abbrev S1x1024x80 : Shape := ⟨3, ![1, 1024, 80]⟩
abbrev S1024x128 : Shape := ⟨2, ![1024, 128]⟩
abbrev S1024x512 : Shape := ⟨2, ![1024, 512]⟩
abbrev S1024x80 : Shape := ⟨2, ![1024, 80]⟩
abbrev S128x15 : Shape := ⟨2, ![128, 15]⟩
abbrev S15x80 : Shape := ⟨2, ![15, 80]⟩
abbrev S80x15 : Shape := ⟨2, ![80, 15]⟩
abbrev S1x15 : Shape := ⟨2, ![1, 15]⟩
abbrev S1024x15 : Shape := ⟨2, ![1024, 15]⟩
abbrev S1024 : Shape := ⟨1, ![1024]⟩
abbrev S1024x1 : Shape := ⟨2, ![1024, 1]⟩

abbrev nBuf : Table → Nat
  | .hbm => 217
  | .local .tc .vmem => 26
  | .local .scVector .vmem => 2
  | _ => 0

abbrev hbmTy0_0 (i : Nat) : BufTy := match i % 128 with
  | 0 => ⟨S1024x200, .i32⟩
  | 1 => ⟨S100000x64, .f32⟩
  | 2 => ⟨S320x64, .f32⟩
  | 3 => ⟨S320x80, .f32⟩
  | 4 => ⟨S320, .f32⟩
  | 5 => ⟨S320, .f32⟩
  | 6 => ⟨S320x64, .f32⟩
  | 7 => ⟨S320x80, .f32⟩
  | 8 => ⟨S320, .f32⟩
  | 9 => ⟨S320, .f32⟩
  | 10 => ⟨S15x160, .f32⟩
  | 11 => ⟨S15, .f32⟩
  | 12 => ⟨S200x1024, .i32⟩
  | 13 => ⟨S204800, .i32⟩
  | 14 => ⟨S_, .i32⟩
  | 15 => ⟨S_, .f32⟩
  | 16 => ⟨S100000x128, .f32⟩
  | 17 => ⟨S204800x128, .f32⟩
  | 18 => ⟨S200x1024x128, .f32⟩
  | 19 => ⟨S64x320, .f32⟩
  | 20 => ⟨S80x320, .f32⟩
  | 21 => ⟨S320, .f32⟩
  | 22 => ⟨S_, .f32⟩
  | 23 => ⟨S128x512, .f32⟩
  | 24 => ⟨S_, .f32⟩
  | 25 => ⟨S128x512, .f32⟩
  | 26 => ⟨S_, .f32⟩
  | 27 => ⟨S1x512, .f32⟩
  | 28 => ⟨S64x80, .f32⟩
  | 29 => ⟨S_, .i32⟩
  | 30 => ⟨S1, .i32⟩
  | 31 => ⟨S_, .i32⟩
  | 32 => ⟨S1, .i32⟩
  | 33 => ⟨S2, .i32⟩
  | 34 => ⟨S128x512, .f32⟩
  | 35 => ⟨S80x80, .f32⟩
  | 36 => ⟨S_, .i32⟩
  | 37 => ⟨S1, .i32⟩
  | 38 => ⟨S_, .i32⟩
  | 39 => ⟨S1, .i32⟩
  | 40 => ⟨S2, .i32⟩
  | 41 => ⟨S128x512, .f32⟩
  | 42 => ⟨S80, .f32⟩
  | 43 => ⟨S_, .i32⟩
  | 44 => ⟨S1, .i32⟩
  | 45 => ⟨S_, .i32⟩
  | 46 => ⟨S1, .i32⟩
  | 47 => ⟨S2, .i32⟩
  | 48 => ⟨S1x512, .f32⟩
  | 49 => ⟨S64x80, .f32⟩
  | 50 => ⟨S_, .i32⟩
  | 51 => ⟨S1, .i32⟩
  | 52 => ⟨S_, .i32⟩
  | 53 => ⟨S1, .i32⟩
  | 54 => ⟨S2, .i32⟩
  | 55 => ⟨S128x512, .f32⟩
  | 56 => ⟨S80x80, .f32⟩
  | 57 => ⟨S_, .i32⟩
  | 58 => ⟨S1, .i32⟩
  | 59 => ⟨S_, .i32⟩
  | 60 => ⟨S1, .i32⟩
  | 61 => ⟨S2, .i32⟩
  | 62 => ⟨S128x512, .f32⟩
  | 63 => ⟨S80, .f32⟩
  | 64 => ⟨S_, .i32⟩
  | 65 => ⟨S1, .i32⟩
  | 66 => ⟨S_, .i32⟩
  | 67 => ⟨S1, .i32⟩
  | 68 => ⟨S2, .i32⟩
  | 69 => ⟨S1x512, .f32⟩
  | 70 => ⟨S64x80, .f32⟩
  | 71 => ⟨S_, .i32⟩
  | 72 => ⟨S1, .i32⟩
  | 73 => ⟨S_, .i32⟩
  | 74 => ⟨S1, .i32⟩
  | 75 => ⟨S2, .i32⟩
  | 76 => ⟨S128x512, .f32⟩
  | 77 => ⟨S80x80, .f32⟩
  | 78 => ⟨S_, .i32⟩
  | 79 => ⟨S1, .i32⟩
  | 80 => ⟨S_, .i32⟩
  | 81 => ⟨S1, .i32⟩
  | 82 => ⟨S2, .i32⟩
  | 83 => ⟨S128x512, .f32⟩
  | 84 => ⟨S80, .f32⟩
  | 85 => ⟨S_, .i32⟩
  | 86 => ⟨S1, .i32⟩
  | 87 => ⟨S_, .i32⟩
  | 88 => ⟨S1, .i32⟩
  | 89 => ⟨S2, .i32⟩
  | 90 => ⟨S1x512, .f32⟩
  | 91 => ⟨S64x80, .f32⟩
  | 92 => ⟨S_, .i32⟩
  | 93 => ⟨S1, .i32⟩
  | 94 => ⟨S_, .i32⟩
  | 95 => ⟨S1, .i32⟩
  | 96 => ⟨S2, .i32⟩
  | 97 => ⟨S128x512, .f32⟩
  | 98 => ⟨S80x80, .f32⟩
  | 99 => ⟨S_, .i32⟩
  | 100 => ⟨S1, .i32⟩
  | 101 => ⟨S_, .i32⟩
  | 102 => ⟨S1, .i32⟩
  | 103 => ⟨S2, .i32⟩
  | 104 => ⟨S128x512, .f32⟩
  | 105 => ⟨S80, .f32⟩
  | 106 => ⟨S_, .i32⟩
  | 107 => ⟨S1, .i32⟩
  | 108 => ⟨S_, .i32⟩
  | 109 => ⟨S1, .i32⟩
  | 110 => ⟨S2, .i32⟩
  | 111 => ⟨S1x512, .f32⟩
  | 112 => ⟨S64x320, .f32⟩
  | 113 => ⟨S80x320, .f32⟩
  | 114 => ⟨S320, .f32⟩
  | 115 => ⟨S_, .f32⟩
  | 116 => ⟨S128x512, .f32⟩
  | 117 => ⟨S_, .f32⟩
  | 118 => ⟨S128x512, .f32⟩
  | 119 => ⟨S_, .f32⟩
  | 120 => ⟨S1x512, .f32⟩
  | 121 => ⟨S64x80, .f32⟩
  | 122 => ⟨S_, .i32⟩
  | 123 => ⟨S1, .i32⟩
  | 124 => ⟨S_, .i32⟩
  | 125 => ⟨S1, .i32⟩
  | 126 => ⟨S2, .i32⟩
  | 127 => ⟨S128x512, .f32⟩
  | _ => ⟨S1024x200, .i32⟩

abbrev hbmTy0_1 (i : Nat) : BufTy := match i % 128 with
  | 0 => ⟨S80x80, .f32⟩
  | 1 => ⟨S_, .i32⟩
  | 2 => ⟨S1, .i32⟩
  | 3 => ⟨S_, .i32⟩
  | 4 => ⟨S1, .i32⟩
  | 5 => ⟨S2, .i32⟩
  | 6 => ⟨S128x512, .f32⟩
  | 7 => ⟨S80, .f32⟩
  | 8 => ⟨S_, .i32⟩
  | 9 => ⟨S1, .i32⟩
  | 10 => ⟨S_, .i32⟩
  | 11 => ⟨S1, .i32⟩
  | 12 => ⟨S2, .i32⟩
  | 13 => ⟨S1x512, .f32⟩
  | 14 => ⟨S64x80, .f32⟩
  | 15 => ⟨S_, .i32⟩
  | 16 => ⟨S1, .i32⟩
  | 17 => ⟨S_, .i32⟩
  | 18 => ⟨S1, .i32⟩
  | 19 => ⟨S2, .i32⟩
  | 20 => ⟨S128x512, .f32⟩
  | 21 => ⟨S80x80, .f32⟩
  | 22 => ⟨S_, .i32⟩
  | 23 => ⟨S1, .i32⟩
  | 24 => ⟨S_, .i32⟩
  | 25 => ⟨S1, .i32⟩
  | 26 => ⟨S2, .i32⟩
  | 27 => ⟨S128x512, .f32⟩
  | 28 => ⟨S80, .f32⟩
  | 29 => ⟨S_, .i32⟩
  | 30 => ⟨S1, .i32⟩
  | 31 => ⟨S_, .i32⟩
  | 32 => ⟨S1, .i32⟩
  | 33 => ⟨S2, .i32⟩
  | 34 => ⟨S1x512, .f32⟩
  | 35 => ⟨S64x80, .f32⟩
  | 36 => ⟨S_, .i32⟩
  | 37 => ⟨S1, .i32⟩
  | 38 => ⟨S_, .i32⟩
  | 39 => ⟨S1, .i32⟩
  | 40 => ⟨S2, .i32⟩
  | 41 => ⟨S128x512, .f32⟩
  | 42 => ⟨S80x80, .f32⟩
  | 43 => ⟨S_, .i32⟩
  | 44 => ⟨S1, .i32⟩
  | 45 => ⟨S_, .i32⟩
  | 46 => ⟨S1, .i32⟩
  | 47 => ⟨S2, .i32⟩
  | 48 => ⟨S128x512, .f32⟩
  | 49 => ⟨S80, .f32⟩
  | 50 => ⟨S_, .i32⟩
  | 51 => ⟨S1, .i32⟩
  | 52 => ⟨S_, .i32⟩
  | 53 => ⟨S1, .i32⟩
  | 54 => ⟨S2, .i32⟩
  | 55 => ⟨S1x512, .f32⟩
  | 56 => ⟨S64x80, .f32⟩
  | 57 => ⟨S_, .i32⟩
  | 58 => ⟨S1, .i32⟩
  | 59 => ⟨S_, .i32⟩
  | 60 => ⟨S1, .i32⟩
  | 61 => ⟨S2, .i32⟩
  | 62 => ⟨S128x512, .f32⟩
  | 63 => ⟨S80x80, .f32⟩
  | 64 => ⟨S_, .i32⟩
  | 65 => ⟨S1, .i32⟩
  | 66 => ⟨S_, .i32⟩
  | 67 => ⟨S1, .i32⟩
  | 68 => ⟨S2, .i32⟩
  | 69 => ⟨S128x512, .f32⟩
  | 70 => ⟨S80, .f32⟩
  | 71 => ⟨S_, .i32⟩
  | 72 => ⟨S1, .i32⟩
  | 73 => ⟨S_, .i32⟩
  | 74 => ⟨S1, .i32⟩
  | 75 => ⟨S2, .i32⟩
  | 76 => ⟨S1x512, .f32⟩
  | 77 => ⟨S200x1024x80, .f32⟩
  | 78 => ⟨S_, .f32⟩
  | 79 => ⟨S128x15, .f32⟩
  | 80 => ⟨S15x80, .f32⟩
  | 81 => ⟨S80x15, .f32⟩
  | 82 => ⟨S_, .i32⟩
  | 83 => ⟨S1, .i32⟩
  | 84 => ⟨S128x15, .f32⟩
  | 85 => ⟨S15x80, .f32⟩
  | 86 => ⟨S80x15, .f32⟩
  | 87 => ⟨S1x15, .f32⟩
  | 88 => ⟨S1024x15, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (nBuf tb) → BufTy
  | .hbm, ⟨i, _⟩ => hbmTy i
  | .local .tc .vmem, ⟨0, _⟩ => ⟨S1x1024x128, .f32⟩
  | .local .tc .vmem, ⟨1, _⟩ => ⟨S1x1024x128, .f32⟩
  | .local .tc .vmem, ⟨2, _⟩ => ⟨S128x512, .f32⟩
  | .local .tc .vmem, ⟨3, _⟩ => ⟨S128x512, .f32⟩
  | .local .tc .vmem, ⟨4, _⟩ => ⟨S1x512, .f32⟩
  | .local .tc .vmem, ⟨5, _⟩ => ⟨S1x1024x80, .f32⟩
  | .local .tc .vmem, ⟨6, _⟩ => ⟨S1x1024x80, .f32⟩
  | .local .tc .vmem, ⟨7, _⟩ => ⟨S1024x128, .f32⟩
  | .local .tc .vmem, ⟨8, _⟩ => ⟨S1024x128, .f32⟩
  | .local .tc .vmem, ⟨9, _⟩ => ⟨S1x1024x128, .f32⟩
  | .local .tc .vmem, ⟨10, _⟩ => ⟨S1x1024x128, .f32⟩
  | .local .tc .vmem, ⟨11, _⟩ => ⟨S1x1024x80, .f32⟩
  | .local .tc .vmem, ⟨12, _⟩ => ⟨S1x1024x80, .f32⟩
  | .local .tc .vmem, ⟨13, _⟩ => ⟨S128x512, .f32⟩
  | .local .tc .vmem, ⟨14, _⟩ => ⟨S128x512, .f32⟩
  | .local .tc .vmem, ⟨15, _⟩ => ⟨S1x512, .f32⟩
  | .local .tc .vmem, ⟨16, _⟩ => ⟨S128x15, .f32⟩
  | .local .tc .vmem, ⟨17, _⟩ => ⟨S80x15, .f32⟩
  | .local .tc .vmem, ⟨18, _⟩ => ⟨S1x15, .f32⟩
  | .local .tc .vmem, ⟨19, _⟩ => ⟨S1024x15, .f32⟩
  | .local .tc .vmem, ⟨20, _⟩ => ⟨S1024x128, .f32⟩
  | .local .tc .vmem, ⟨21, _⟩ => ⟨S1024x128, .f32⟩
  | .local .tc .vmem, ⟨22, _⟩ => ⟨S1024x128, .f32⟩
  | .local .tc .vmem, ⟨23, _⟩ => ⟨S1024x128, .f32⟩
  | .local .tc .vmem, ⟨24, _⟩ => ⟨S1024x80, .f32⟩
  | .local .tc .vmem, ⟨25, _⟩ => ⟨S1024x80, .f32⟩
  | .local .scVector .vmem, ⟨0, _⟩ => ⟨S800, .i32⟩
  | .local .scVector .vmem, ⟨1, _⟩ => ⟨S800x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_12 : Ref sig .tc := ⟨.hbm, 64, rfl⟩
abbrev main_v37 : Ref sig .tc := ⟨.hbm, 65, rfl⟩
abbrev main_c_13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_14 : Ref sig .tc := ⟨.hbm, 71, rfl⟩
abbrev main_v42 : Ref sig .tc := ⟨.hbm, 72, rfl⟩
abbrev main_c_15 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_16 : Ref sig .tc := ⟨.hbm, 78, rfl⟩
abbrev main_v47 : Ref sig .tc := ⟨.hbm, 79, rfl⟩
abbrev main_c_17 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_18 : Ref sig .tc := ⟨.hbm, 85, rfl⟩
abbrev main_v52 : Ref sig .tc := ⟨.hbm, 86, rfl⟩
abbrev main_c_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_20 : Ref sig .tc := ⟨.hbm, 92, rfl⟩
abbrev main_v57 : Ref sig .tc := ⟨.hbm, 93, rfl⟩
abbrev main_c_21 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_22 : Ref sig .tc := ⟨.hbm, 99, rfl⟩
abbrev main_v62 : Ref sig .tc := ⟨.hbm, 100, rfl⟩
abbrev main_c_23 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_24 : Ref sig .tc := ⟨.hbm, 106, rfl⟩
abbrev main_v67 : Ref sig .tc := ⟨.hbm, 107, rfl⟩
abbrev main_c_25 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_26 : Ref sig .tc := ⟨.hbm, 115, rfl⟩
abbrev main_v74 : Ref sig .tc := ⟨.hbm, 116, rfl⟩
abbrev main_cst_27 : Ref sig .tc := ⟨.hbm, 117, rfl⟩
abbrev main_v75 : Ref sig .tc := ⟨.hbm, 118, rfl⟩
abbrev main_cst_28 : Ref sig .tc := ⟨.hbm, 119, rfl⟩
abbrev main_v76 : Ref sig .tc := ⟨.hbm, 120, rfl⟩
abbrev main_v77 : Ref sig .tc := ⟨.hbm, 121, rfl⟩
abbrev main_c_29 : Ref sig .tc := ⟨.hbm, 122, rfl⟩
abbrev main_v78 : Ref sig .tc := ⟨.hbm, 123, rfl⟩
abbrev main_c_30 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_31 : Ref sig .tc := ⟨.hbm, 129, rfl⟩
abbrev main_v83 : Ref sig .tc := ⟨.hbm, 130, rfl⟩
abbrev main_c_32 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_33 : Ref sig .tc := ⟨.hbm, 136, rfl⟩
abbrev main_v88 : Ref sig .tc := ⟨.hbm, 137, rfl⟩
abbrev main_c_34 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_c_35 : Ref sig .tc := ⟨.hbm, 143, rfl⟩
abbrev main_v93 : Ref sig .tc := ⟨.hbm, 144, rfl⟩
abbrev main_c_36 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_37 : Ref sig .tc := ⟨.hbm, 150, rfl⟩
abbrev main_v98 : Ref sig .tc := ⟨.hbm, 151, rfl⟩
abbrev main_c_38 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_39 : Ref sig .tc := ⟨.hbm, 157, rfl⟩
abbrev main_v103 : Ref sig .tc := ⟨.hbm, 158, rfl⟩
abbrev main_c_40 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_41 : Ref sig .tc := ⟨.hbm, 164, rfl⟩
abbrev main_v108 : Ref sig .tc := ⟨.hbm, 165, rfl⟩
abbrev main_c_42 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_43 : Ref sig .tc := ⟨.hbm, 171, rfl⟩
abbrev main_v113 : Ref sig .tc := ⟨.hbm, 172, rfl⟩
abbrev main_c_44 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_45 : Ref sig .tc := ⟨.hbm, 178, rfl⟩
abbrev main_v118 : Ref sig .tc := ⟨.hbm, 179, rfl⟩
abbrev main_c_46 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_c_47 : Ref sig .tc := ⟨.hbm, 185, rfl⟩
abbrev main_v123 : Ref sig .tc := ⟨.hbm, 186, rfl⟩
abbrev main_c_48 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_c_49 : Ref sig .tc := ⟨.hbm, 192, rfl⟩
abbrev main_v128 : Ref sig .tc := ⟨.hbm, 193, rfl⟩
abbrev main_c_50 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_c_51 : Ref sig .tc := ⟨.hbm, 199, rfl⟩
abbrev main_v133 : Ref sig .tc := ⟨.hbm, 200, rfl⟩
abbrev main_c_52 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_53 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_c_54 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v2_scv : Ref sig .scVector := ⟨.hbm, 16, rfl⟩
abbrev main_v1_scv : Ref sig .scVector := ⟨.hbm, 13, rfl⟩
abbrev main_v3_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_scratch0 : Ref sig .tc := ⟨.vmem, 7, rfl⟩
abbrev cc1_scratch1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc2_scratch3 : Ref sig .tc := ⟨.vmem, 23, rfl⟩
abbrev cc2_scratch4 : Ref sig .tc := ⟨.vmem, 24, rfl⟩
abbrev cc2_scratch5 : Ref sig .tc := ⟨.vmem, 25, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v3 : BitVec 32 := Scalar.addi v2 c0_i32
  let c0_i32_32_r1 : BitVec 32 := 0#32
  ![v3.toNat, 0]
abbrev grid1 : Pipeline.Grid := ⟨1, ![200], ![false]⟩

def cc1_transform_0 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1024x80 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def k2_cond2 (i : grid2.Coords) : BitVec 1 :=
  let arg0 : BitVec 32 := BitVec.ofNat 32 (i 0).val
  let c199_i32 : BitVec 32 := 199#32
  let v88 : BitVec 1 := Scalar.cmpi .eq arg0 c199_i32
  let v89 : BitVec 32 := Scalar.extui v88
  let c0_i32_44 : BitVec 32 := 0#32
  let v90 : BitVec 1 := Scalar.cmpi .ne v89 c0_i32_44
  v90

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x80 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x15 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S80x15 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x15 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x15 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "half_inv_len" => some ((1 / 400 : ℝ) : EReal)
  | "inv_width" => some ((1 / 160 : ℝ) : EReal)
  | _ => none
-- ==== ReferenceIdeal.lean ====
abbrev S1024x200 : Shape := ⟨2, ![1024, 200]⟩
abbrev S100000x64 : Shape := ⟨2, ![100000, 64]⟩
abbrev S320x64 : Shape := ⟨2, ![320, 64]⟩
abbrev S320x80 : Shape := ⟨2, ![320, 80]⟩
abbrev S320 : Shape := ⟨1, ![320]⟩
abbrev S15x160 : Shape := ⟨2, ![15, 160]⟩
abbrev S15 : Shape := ⟨1, ![15]⟩
abbrev S160x15 : Shape := ⟨2, ![160, 15]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩
abbrev S200x1024x64 : Shape := ⟨3, ![200, 1024, 64]⟩
abbrev S1024x80 : Shape := ⟨2, ![1024, 80]⟩
abbrev S200x1024x80 : Shape := ⟨3, ![200, 1024, 80]⟩
abbrev S1x1024x64 : Shape := ⟨3, ![1, 1024, 64]⟩
abbrev S1024x64 : Shape := ⟨2, ![1024, 64]⟩
abbrev S64x320 : Shape := ⟨2, ![64, 320]⟩
abbrev S1024x320 : Shape := ⟨2, ![1024, 320]⟩
abbrev S80x320 : Shape := ⟨2, ![80, 320]⟩
abbrev S1x320 : Shape := ⟨2, ![1, 320]⟩
abbrev S1x1024x80 : Shape := ⟨3, ![1, 1024, 80]⟩
abbrev S200x1024x160 : Shape := ⟨3, ![200, 1024, 160]⟩
abbrev S1024x200x160 : Shape := ⟨3, ![1024, 200, 160]⟩
abbrev S1024x160 : Shape := ⟨2, ![1024, 160]⟩
abbrev S1024x15 : Shape := ⟨2, ![1024, 15]⟩
abbrev S1x15 : Shape := ⟨2, ![1, 15]⟩
abbrev S1024 : Shape := ⟨1, ![1024]⟩
abbrev S1024x1 : Shape := ⟨2, ![1024, 1]⟩

abbrev nBuf : Space → Nat
  | .hbm => 231
  | .vmem => 0
  | .smem => 0
  | _ => 0

abbrev hbmTy0_0 (i : Nat) : BufTy := match i % 128 with
  | 0 => ⟨S1024x200, .i32⟩
  | 1 => ⟨S100000x64, .f32⟩
  | 2 => ⟨S320x64, .f32⟩
  | 3 => ⟨S320x80, .f32⟩
  | 4 => ⟨S320, .f32⟩
  | 5 => ⟨S320, .f32⟩
  | 6 => ⟨S320x64, .f32⟩
  | 7 => ⟨S320x80, .f32⟩
  | 8 => ⟨S320, .f32⟩
  | 9 => ⟨S320, .f32⟩
  | 10 => ⟨S15x160, .f32⟩
  | 11 => ⟨S15, .f32⟩
  | 12 => ⟨S160x15, .f32⟩
  | 13 => ⟨S_, .i32⟩
  | 14 => ⟨S1024x200, .i32⟩
  | 15 => ⟨S1024x200, .i1⟩
  | 16 => ⟨S_, .i32⟩
  | 17 => ⟨S1024x200, .i32⟩
  | 18 => ⟨S1024x200, .i32⟩
  | 19 => ⟨S1024x200, .i32⟩
  | 20 => ⟨S1024x200x1, .i32⟩
  | 21 => ⟨S1, .i32⟩
  | 22 => ⟨S_, .i32⟩
  | 23 => ⟨S1024x200x1, .i32⟩
  | 24 => ⟨S1024x200x1, .i1⟩
  | 25 => ⟨S1x1x1, .i32⟩
  | 26 => ⟨S1024x200x1, .i32⟩
  | 27 => ⟨S1024x200x1, .i1⟩
  | 28 => ⟨S1024x200x1, .i1⟩
  | 29 => ⟨S_, .i1⟩
  | 30 => ⟨S1024x200, .i1⟩
  | 31 => ⟨S1024x200x64, .f32⟩
  | 32 => ⟨S1024x200x64, .i1⟩
  | 33 => ⟨S_, .f32⟩
  | 34 => ⟨S1024x200x64, .f32⟩
  | 35 => ⟨S1024x200x64, .f32⟩
  | 36 => ⟨S200x1024x64, .f32⟩
  | 37 => ⟨S_, .f32⟩
  | 38 => ⟨S1024x80, .f32⟩
  | 39 => ⟨S200x1024x64, .f32⟩
  | 40 => ⟨S_, .f32⟩
  | 41 => ⟨S200x1024x80, .f32⟩
  | 42 => ⟨S_, .f32⟩
  | 43 => ⟨S200x1024x80, .f32⟩
  | 44 => ⟨S_, .i32⟩
  | 45 => ⟨S200x1024x64, .f32⟩
  | 46 => ⟨S200x1024x64, .f32⟩
  | 47 => ⟨S320x64, .f32⟩
  | 48 => ⟨S320x80, .f32⟩
  | 49 => ⟨S320, .f32⟩
  | 50 => ⟨S320, .f32⟩
  | 51 => ⟨S320x64, .f32⟩
  | 52 => ⟨S320x80, .f32⟩
  | 53 => ⟨S320, .f32⟩
  | 54 => ⟨S320, .f32⟩
  | 55 => ⟨S_, .i32⟩
  | 56 => ⟨S1024x80, .f32⟩
  | 57 => ⟨S1024x80, .f32⟩
  | 58 => ⟨S1024x80, .f32⟩
  | 59 => ⟨S1024x80, .f32⟩
  | 60 => ⟨S200x1024x80, .f32⟩
  | 61 => ⟨S200x1024x80, .f32⟩
  | 62 => ⟨S_, .i32⟩
  | 63 => ⟨S_, .i1⟩
  | 64 => ⟨S_, .i32⟩
  | 65 => ⟨S_, .i32⟩
  | 66 => ⟨S1x1024x64, .f32⟩
  | 67 => ⟨S1024x64, .f32⟩
  | 68 => ⟨S_, .i32⟩
  | 69 => ⟨S_, .i32⟩
  | 70 => ⟨S1x1024x64, .f32⟩
  | 71 => ⟨S1024x64, .f32⟩
  | 72 => ⟨S64x320, .f32⟩
  | 73 => ⟨S1024x320, .f32⟩
  | 74 => ⟨S80x320, .f32⟩
  | 75 => ⟨S1024x320, .f32⟩
  | 76 => ⟨S1024x320, .f32⟩
  | 77 => ⟨S1x320, .f32⟩
  | 78 => ⟨S1024x320, .f32⟩
  | 79 => ⟨S1024x320, .f32⟩
  | 80 => ⟨S1x320, .f32⟩
  | 81 => ⟨S1024x320, .f32⟩
  | 82 => ⟨S1024x320, .f32⟩
  | 83 => ⟨S1024x80, .f32⟩
  | 84 => ⟨S1024x80, .f32⟩
  | 85 => ⟨S1024x80, .f32⟩
  | 86 => ⟨S1024x80, .f32⟩
  | 87 => ⟨S1024x80, .f32⟩
  | 88 => ⟨S1024x80, .f32⟩
  | 89 => ⟨S_, .f32⟩
  | 90 => ⟨S1024x80, .f32⟩
  | 91 => ⟨S1024x80, .f32⟩
  | 92 => ⟨S_, .f32⟩
  | 93 => ⟨S1024x80, .f32⟩
  | 94 => ⟨S1024x80, .f32⟩
  | 95 => ⟨S1024x80, .f32⟩
  | 96 => ⟨S1024x80, .f32⟩
  | 97 => ⟨S_, .f32⟩
  | 98 => ⟨S1024x80, .f32⟩
  | 99 => ⟨S1024x80, .f32⟩
  | 100 => ⟨S_, .f32⟩
  | 101 => ⟨S1024x80, .f32⟩
  | 102 => ⟨S1024x80, .f32⟩
  | 103 => ⟨S1024x80, .f32⟩
  | 104 => ⟨S1024x80, .f32⟩
  | 105 => ⟨S1024x80, .f32⟩
  | 106 => ⟨S_, .f32⟩
  | 107 => ⟨S1024x80, .f32⟩
  | 108 => ⟨S1024x80, .f32⟩
  | 109 => ⟨S_, .f32⟩
  | 110 => ⟨S1024x80, .f32⟩
  | 111 => ⟨S1024x80, .f32⟩
  | 112 => ⟨S1024x80, .f32⟩
  | 113 => ⟨S1024x80, .f32⟩
  | 114 => ⟨S1024x80, .f32⟩
  | 115 => ⟨S1024x80, .f32⟩
  | 116 => ⟨S1024x80, .f32⟩
  | 117 => ⟨S64x320, .f32⟩
  | 118 => ⟨S1024x320, .f32⟩
  | 119 => ⟨S80x320, .f32⟩
  | 120 => ⟨S1024x320, .f32⟩
  | 121 => ⟨S1024x320, .f32⟩
  | 122 => ⟨S1x320, .f32⟩
  | 123 => ⟨S1024x320, .f32⟩
  | 124 => ⟨S1024x320, .f32⟩
  | 125 => ⟨S1x320, .f32⟩
  | 126 => ⟨S1024x320, .f32⟩
  | 127 => ⟨S1024x320, .f32⟩
  | _ => ⟨S1024x200, .i32⟩

abbrev hbmTy0_1 (i : Nat) : BufTy := match i % 128 with
  | 0 => ⟨S1024x80, .f32⟩
  | 1 => ⟨S1024x80, .f32⟩
  | 2 => ⟨S1024x80, .f32⟩
  | 3 => ⟨S1024x80, .f32⟩
  | 4 => ⟨S1024x80, .f32⟩
  | 5 => ⟨S1024x80, .f32⟩
  | 6 => ⟨S_, .f32⟩
  | 7 => ⟨S1024x80, .f32⟩
  | 8 => ⟨S1024x80, .f32⟩
  | 9 => ⟨S_, .f32⟩
  | 10 => ⟨S1024x80, .f32⟩
  | 11 => ⟨S1024x80, .f32⟩
  | 12 => ⟨S1024x80, .f32⟩
  | 13 => ⟨S1024x80, .f32⟩
  | 14 => ⟨S_, .f32⟩
  | 15 => ⟨S1024x80, .f32⟩
  | 16 => ⟨S1024x80, .f32⟩
  | 17 => ⟨S_, .f32⟩
  | 18 => ⟨S1024x80, .f32⟩
  | 19 => ⟨S1024x80, .f32⟩
  | 20 => ⟨S1024x80, .f32⟩
  | 21 => ⟨S1024x80, .f32⟩
  | 22 => ⟨S1024x80, .f32⟩
  | 23 => ⟨S_, .f32⟩
  | 24 => ⟨S1024x80, .f32⟩
  | 25 => ⟨S1024x80, .f32⟩
  | 26 => ⟨S_, .f32⟩
  | 27 => ⟨S1024x80, .f32⟩
  | 28 => ⟨S1024x80, .f32⟩
  | 29 => ⟨S1024x80, .f32⟩
  | 30 => ⟨S1024x80, .f32⟩
  | 31 => ⟨S1024x80, .f32⟩
  | 32 => ⟨S1024x80, .f32⟩
  | 33 => ⟨S1024x80, .f32⟩
  | 34 => ⟨S1x1024x80, .f32⟩
  | 35 => ⟨S_, .i32⟩
  | 36 => ⟨S_, .i32⟩
  | 37 => ⟨S200x1024x80, .f32⟩
  | 38 => ⟨S1x1024x80, .f32⟩
  | 39 => ⟨S_, .i32⟩
  | 40 => ⟨S_, .i32⟩
  | 41 => ⟨S200x1024x80, .f32⟩
  | 42 => ⟨S_, .i32⟩
  | 43 => ⟨S_, .i32⟩
  | 44 => ⟨S200x1024x80, .f32⟩
  | 45 => ⟨S200x1024x160, .f32⟩
  | 46 => ⟨S1024x200x160, .f32⟩
  | 47 => ⟨S_, .f32⟩
  | 48 => ⟨S1024x200, .f32⟩
  | 49 => ⟨S1024x200x1, .f32⟩
  | 50 => ⟨S_, .f32⟩
  | 51 => ⟨S1024x200x1, .f32⟩
  | 52 => ⟨S1024x200x1, .f32⟩
  | 53 => ⟨S1024x200x160, .f32⟩
  | 54 => ⟨S1024x200x160, .f32⟩
  | 55 => ⟨S1024x200x160, .f32⟩
  | 56 => ⟨S_, .f32⟩
  | 57 => ⟨S1024x200, .f32⟩
  | 58 => ⟨S1024x200x1, .f32⟩
  | 59 => ⟨S_, .f32⟩
  | 60 => ⟨S1024x200x1, .f32⟩
  | 61 => ⟨S1024x200x1, .f32⟩
  | 62 => ⟨S1024x200x160, .f32⟩
  | 63 => ⟨S1024x200x160, .f32⟩
  | 64 => ⟨S_, .f32⟩
  | 65 => ⟨S1024x200x1, .f32⟩
  | 66 => ⟨S1024x200x1, .f32⟩
  | 67 => ⟨S1024x200x1, .f32⟩
  | 68 => ⟨S1024x200x160, .f32⟩
  | 69 => ⟨S1024x200x160, .f32⟩
  | 70 => ⟨S_, .f32⟩
  | 71 => ⟨S1024x160, .f32⟩
  | 72 => ⟨S_, .f32⟩
  | 73 => ⟨S1024x160, .f32⟩
  | 74 => ⟨S_, .f32⟩
  | 75 => ⟨S1024x160, .f32⟩
  | 76 => ⟨S1024x160, .f32⟩
  | 77 => ⟨S_, .f32⟩
  | 78 => ⟨S1024x160, .f32⟩
  | 79 => ⟨S1024x160, .f32⟩
  | 80 => ⟨S_, .f32⟩
  | 81 => ⟨S1024x160, .f32⟩
  | 82 => ⟨S1024x160, .f32⟩
  | 83 => ⟨S1024x160, .f32⟩
  | 84 => ⟨S1024x15, .f32⟩
  | 85 => ⟨S1x15, .f32⟩
  | 86 => ⟨S1024x15, .f32⟩
  | 87 => ⟨S1024x15, .f32⟩
  | 88 => ⟨S_, .f32⟩
  | 89 => ⟨S1024, .f32⟩
  | 90 => ⟨S_, .f32⟩
  | 91 => ⟨S1024, .f32⟩
  | 92 => ⟨S1024, .f32⟩
  | 93 => ⟨S1024x1, .f32⟩
  | 94 => ⟨S1024x15, .f32⟩
  | 95 => ⟨S1024x15, .f32⟩
  | 96 => ⟨S1024x15, .f32⟩
  | 97 => ⟨S_, .f32⟩
  | 98 => ⟨S1024, .f32⟩
  | 99 => ⟨S1024x1, .f32⟩
  | 100 => ⟨S1024x1, .f32⟩
  | 101 => ⟨S1024x15, .f32⟩
  | 102 => ⟨S1024x15, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_v2 : Ref sig .tc := ⟨.hbm, 36, rfl⟩
abbrev main_cst : Ref sig .tc := ⟨.hbm, 37, rfl⟩
abbrev main_v3 : Ref sig .tc := ⟨.hbm, 38, rfl⟩
abbrev main_v4 : Ref sig .tc := ⟨.hbm, 39, rfl⟩
abbrev main_cst_0 : Ref sig .tc := ⟨.hbm, 40, rfl⟩
abbrev main_v5 : Ref sig .tc := ⟨.hbm, 41, rfl⟩
abbrev main_cst_1 : Ref sig .tc := ⟨.hbm, 42, rfl⟩
abbrev main_v6 : Ref sig .tc := ⟨.hbm, 43, rfl⟩
abbrev main_c : Ref sig .tc := ⟨.hbm, 44, rfl⟩
abbrev main_v7_0 : Ref sig .tc := ⟨.hbm, 45, rfl⟩
abbrev main_v7_1 : Ref sig .tc := ⟨.hbm, 46, rfl⟩
abbrev main_v7_2 : Ref sig .tc := ⟨.hbm, 47, rfl⟩
abbrev main_v7_3 : Ref sig .tc := ⟨.hbm, 48, rfl⟩
abbrev main_v7_4 : Ref sig .tc := ⟨.hbm, 49, rfl⟩
abbrev main_v7_5 : Ref sig .tc := ⟨.hbm, 50, rfl⟩
abbrev main_v7_6 : Ref sig .tc := ⟨.hbm, 51, rfl⟩
abbrev main_v7_7 : Ref sig .tc := ⟨.hbm, 52, rfl⟩
abbrev main_v7_8 : Ref sig .tc := ⟨.hbm, 53, rfl⟩
abbrev main_v7_9 : Ref sig .tc := ⟨.hbm, 54, rfl⟩
abbrev main_v7_10 : Ref sig .tc := ⟨.hbm, 55, rfl⟩
abbrev main_v7_11 : Ref sig .tc := ⟨.hbm, 56, rfl⟩
abbrev main_v7_12 : Ref sig .tc := ⟨.hbm, 57, rfl⟩
abbrev main_v7_13 : Ref sig .tc := ⟨.hbm, 58, rfl⟩
abbrev main_v7_14 : Ref sig .tc := ⟨.hbm, 59, rfl⟩
abbrev main_v7_15 : Ref sig .tc := ⟨.hbm, 60, rfl⟩
abbrev main_v7_16 : Ref sig .tc := ⟨.hbm, 61, rfl⟩
abbrev main_while0c_c_28 : Ref sig .tc := ⟨.hbm, 62, rfl⟩
abbrev main_while0c_v43 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_v0 : Ref sig .tc := ⟨.hbm, 66, rfl⟩
abbrev main_while0b_v43 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_v0 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_cst_28 : Ref sig .tc := ⟨.hbm, 89, rfl⟩
abbrev main_while0b_v62 : Ref sig .tc := ⟨.hbm, 90, rfl⟩
abbrev main_while0b_v63 : Ref sig .tc := ⟨.hbm, 91, rfl⟩
abbrev main_while0b_cst_29 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_cst_30 : Ref sig .tc := ⟨.hbm, 97, rfl⟩
abbrev main_while0b_v68 : Ref sig .tc := ⟨.hbm, 98, rfl⟩
abbrev main_while0b_v69 : Ref sig .tc := ⟨.hbm, 99, rfl⟩
abbrev main_while0b_cst_31 : Ref sig .tc := ⟨.hbm, 100, rfl⟩
abbrev main_while0b_v70 : Ref sig .tc := ⟨.hbm, 101, rfl⟩
abbrev main_while0b_v71 : Ref sig .tc := ⟨.hbm, 102, rfl⟩
abbrev main_while0b_v72 : Ref sig .tc := ⟨.hbm, 103, rfl⟩
abbrev main_while0b_v73 : Ref sig .tc := ⟨.hbm, 104, rfl⟩
abbrev main_while0b_v74 : Ref sig .tc := ⟨.hbm, 105, rfl⟩
abbrev main_while0b_cst_32 : Ref sig .tc := ⟨.hbm, 106, rfl⟩
abbrev main_while0b_v75 : Ref sig .tc := ⟨.hbm, 107, rfl⟩
abbrev main_while0b_v76 : Ref sig .tc := ⟨.hbm, 108, rfl⟩
abbrev main_while0b_cst_33 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_cst_34 : Ref sig .tc := ⟨.hbm, 134, rfl⟩
abbrev main_while0b_v101 : Ref sig .tc := ⟨.hbm, 135, rfl⟩
abbrev main_while0b_v102 : Ref sig .tc := ⟨.hbm, 136, rfl⟩
abbrev main_while0b_cst_35 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_cst_36 : Ref sig .tc := ⟨.hbm, 142, rfl⟩
abbrev main_while0b_v107 : Ref sig .tc := ⟨.hbm, 143, rfl⟩
abbrev main_while0b_v108 : Ref sig .tc := ⟨.hbm, 144, rfl⟩
abbrev main_while0b_cst_37 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_cst_38 : Ref sig .tc := ⟨.hbm, 151, rfl⟩
abbrev main_while0b_v114 : Ref sig .tc := ⟨.hbm, 152, rfl⟩
abbrev main_while0b_v115 : Ref sig .tc := ⟨.hbm, 153, rfl⟩
abbrev main_while0b_cst_39 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_call3_v0 : Ref sig .tc := ⟨.hbm, 162, rfl⟩
abbrev main_while0b_call3_c : Ref sig .tc := ⟨.hbm, 163, rfl⟩
abbrev main_while0b_call3_c_0 : Ref sig .tc := ⟨.hbm, 164, rfl⟩
abbrev main_while0b_v123 : Ref sig .tc := ⟨.hbm, 165, rfl⟩
abbrev main_while0b_call4_v0 : Ref sig .tc := ⟨.hbm, 166, rfl⟩
abbrev main_while0b_call4_c : Ref sig .tc := ⟨.hbm, 167, rfl⟩
abbrev main_while0b_call4_c_0 : Ref sig .tc := ⟨.hbm, 168, rfl⟩
abbrev main_while0b_v124 : Ref sig .tc := ⟨.hbm, 169, rfl⟩
abbrev main_while0b_c_40 : Ref sig .tc := ⟨.hbm, 170, rfl⟩
abbrev main_while0b_v125 : Ref sig .tc := ⟨.hbm, 171, rfl⟩
abbrev main_v8 : Ref sig .tc := ⟨.hbm, 172, rfl⟩
abbrev main_v9 : Ref sig .tc := ⟨.hbm, 173, rfl⟩
abbrev main_v10 : Ref sig .tc := ⟨.hbm, 174, rfl⟩
abbrev main_cst_2 : Ref sig .tc := ⟨.hbm, 175, rfl⟩
abbrev main_v11 : Ref sig .tc := ⟨.hbm, 176, rfl⟩
abbrev main_v12 : Ref sig .tc := ⟨.hbm, 177, rfl⟩
abbrev main_cst_3 : Ref sig .tc := ⟨.hbm, 178, rfl⟩
abbrev main_v13 : Ref sig .tc := ⟨.hbm, 179, rfl⟩
abbrev main_v14 : Ref sig .tc := ⟨.hbm, 180, rfl⟩
abbrev main_v15 : Ref sig .tc := ⟨.hbm, 181, rfl⟩
abbrev main_v16 : Ref sig .tc := ⟨.hbm, 182, rfl⟩
abbrev main_v17 : Ref sig .tc := ⟨.hbm, 183, rfl⟩
abbrev main_cst_4 : Ref sig .tc := ⟨.hbm, 184, rfl⟩
abbrev main_v18 : Ref sig .tc := ⟨.hbm, 185, rfl⟩
abbrev main_v19 : Ref sig .tc := ⟨.hbm, 186, rfl⟩
abbrev main_cst_5 : Ref sig .tc := ⟨.hbm, 187, rfl⟩
abbrev main_v20 : Ref sig .tc := ⟨.hbm, 188, rfl⟩
abbrev main_v21 : Ref sig .tc := ⟨.hbm, 189, rfl⟩
abbrev main_v22 : Ref sig .tc := ⟨.hbm, 190, rfl⟩
abbrev main_v23 : Ref sig .tc := ⟨.hbm, 191, rfl⟩
abbrev main_cst_6 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_v27 : Ref sig .tc := ⟨.hbm, 196, rfl⟩
abbrev main_v28 : Ref sig .tc := ⟨.hbm, 197, rfl⟩
abbrev main_cst_7 : Ref sig .tc := ⟨.hbm, 198, rfl⟩
abbrev main_v29 : Ref sig .tc := ⟨.hbm, 199, rfl⟩
abbrev main_cst_8 : Ref sig .tc := ⟨.hbm, 200, rfl⟩
abbrev main_v30 : Ref sig .tc := ⟨.hbm, 201, rfl⟩
abbrev main_cst_9 : Ref sig .tc := ⟨.hbm, 202, rfl⟩
abbrev main_v31 : Ref sig .tc := ⟨.hbm, 203, rfl⟩
abbrev main_v32 : Ref sig .tc := ⟨.hbm, 204, rfl⟩
abbrev main_cst_10 : Ref sig .tc := ⟨.hbm, 205, rfl⟩
abbrev main_v33 : Ref sig .tc := ⟨.hbm, 206, rfl⟩
abbrev main_v34 : Ref sig .tc := ⟨.hbm, 207, rfl⟩
abbrev main_cst_11 : Ref sig .tc := ⟨.hbm, 208, rfl⟩
abbrev main_v35 : Ref sig .tc := ⟨.hbm, 209, rfl⟩
abbrev main_v36 : Ref sig .tc := ⟨.hbm, 210, rfl⟩
abbrev main_v37 : Ref sig .tc := ⟨.hbm, 211, rfl⟩
abbrev main_v38 : Ref sig .tc := ⟨.hbm, 212, rfl⟩
abbrev main_v39 : Ref sig .tc := ⟨.hbm, 213, rfl⟩
abbrev main_v40 : Ref sig .tc := ⟨.hbm, 214, rfl⟩
abbrev main_v41 : Ref sig .tc := ⟨.hbm, 215, rfl⟩
abbrev main_call5_cst : Ref sig .tc := ⟨.hbm, 216, rfl⟩
abbrev main_call5_v0 : Ref sig .tc := ⟨.hbm, 217, rfl⟩
abbrev main_call5_cst_0 : Ref sig .tc := ⟨.hbm, 218, rfl⟩
abbrev main_call5_v1 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_call5_v5 : Ref sig .tc := ⟨.hbm, 223, rfl⟩
abbrev main_call5_v6 : Ref sig .tc := ⟨.hbm, 224, rfl⟩
abbrev main_call5_cst_1 : Ref sig .tc := ⟨.hbm, 225, rfl⟩
abbrev main_call5_v7 : Ref sig .tc := ⟨.hbm, 226, rfl⟩
abbrev main_call5_v8 : Ref sig .tc := ⟨.hbm, 227, rfl⟩
abbrev main_call5_v9 : Ref sig .tc := ⟨.hbm, 228, rfl⟩
abbrev main_call5_v10 : Ref sig .tc := ⟨.hbm, 229, rfl⟩
abbrev main_v42 : Ref sig .tc := ⟨.hbm, 230, rfl⟩

abbrev nD : Nat := 1
abbrev τ : Topo := Topo.v7x

variable {F : FTy → Type} [FloatOps F]

abbrev main_while0_count : Scf.Loop 32 := ⟨0#32, 200#32, 1#32⟩
-- ==== Proof.Rows.lean ====
/-
  The rows the reference takes: under the range the row numbers have, its `take` is the table's own row; and that range,
  read back from the precondition.
-/
module

public import proofs.«01_k».proof.Defs
public import proofs.«01_k».proof.Proof.Gen.ReferenceIdeal
public import proofs.«01_k».proof.Proof.Gen.Pre_in_vocab_finite
public import Idealize.ShloMosaic.Lib.ReduceAll
public import Idealize.ShloMosaic.Lib.ValueIdx
public import Idealize.ShloMosaic.Lib.KernelVsHost
public import Idealize.ShloMosaic.Lib.Pipeline.Value

@[expose] public section

noncomputable section

namespace Cert.Proof.Rows

open Idealize.ShloMosaic Idealize.ShloMosaic.ValueIdx
open Cert.ReferenceIdeal Cert.ReferenceIdeal.Gen

/-- Every row number is one of the table's rows. -/
def InRange (x : IVec S1024x200 32) : Prop := ∀ j, (x j).toNat < 100000

theorem toInt_of_lt {a : BitVec 32} (h : a.toNat < 100000) : a.toInt = a.toNat := by
  rw [BitVec.toInt_eq_toNat_cond, if_pos (by omega)]

section Pre

variable {F : FTy → Type} [FloatOps F] (x : IVec S1024x200 32) (e : FVec F S100000x64 .f32) (wih : FVec F S320x64 .f32) (whh : FVec F S320x80 .f32) (bih bhh : FVec F S320 .f32)
  (wih' : FVec F S320x64 .f32) (whh' : FVec F S320x80 .f32) (bih' bhh' : FVec F S320 .f32) (fcw : FVec F S15x160 .f32) (fcb : FVec F S15 .f32)

theorem inRange_of_pre (h : Cert.Pre_in_vocab_finite.fn x e wih whh bih bhh wih' whh' bih' bhh' fcw fcb = fun _ => 1#1) : InRange x := by
  intro j
  haveI : Subsingleton Cert.Pre_in_vocab_finite.S_.Idx := ⟨fun a b => funext fun q => q.elim0⟩
  obtain ⟨h1, -⟩ := IntOp.andi_eq_one.1 (congrFun h ix0)
  obtain ⟨h1, -⟩ := IntOp.andi_eq_one.1 h1
  have e1 := Host.reduce_andi_all _ _ _ _ _ h1 j
  obtain ⟨h0, h1⟩ := IntOp.andi_eq_one.1 e1
  have h0' := IntOp.cmpi_sge.1 h0
  have h1' := IntOp.cmpi_slt.1 h1
  have a0 : (0 : Int) ≤ (x j).toInt := h0'
  have a1 : (x j).toInt < 100000 := h1'
  rw [BitVec.toInt_eq_toNat_cond] at a0 a1
  split at a0 <;> omega

/-- The last layer's weights and bias are finite. -/
theorem finite_of_pre (h : Cert.Pre_in_vocab_finite.fn x e wih whh bih bhh wih' whh' bih' bhh' fcw fcb = fun _ => 1#1) :
    (∀ i, FloatOps.cmpf .olt (FloatOps.hostAbsf (fcw i)) (FloatOps.ofBits .f32 0x7F800000#32) = 1#1) ∧ ∀ i, FloatOps.cmpf .olt (FloatOps.hostAbsf (fcb i)) (FloatOps.ofBits .f32 0x7F800000#32) = 1#1 := by
  haveI : Subsingleton Cert.Pre_in_vocab_finite.S_.Idx := ⟨fun a b => funext fun q => q.elim0⟩
  obtain ⟨h1, h2⟩ := IntOp.andi_eq_one.1 (congrFun h ix0)
  obtain ⟨-, h1⟩ := IntOp.andi_eq_one.1 h1
  exact ⟨fun i => Host.reduce_andi_all _ _ _ _ _ h1 i, fun i => Host.reduce_andi_all _ _ _ _ _ h2 i⟩

end Pre

section Take

variable {F : FTy → Type} [FloatOps F] (x : IVec S1024x200 32) (e : FVec F S100000x64 .f32)

/-- The row numbers, negative ones counted from the end. -/
abbrev wrapped : IVec S1024x200 32 :=
  select (cmpi .slt x (broadcastInDim S1024x200 ![] bcast_S_S1024x200 (constantI S_ 32 0#32))) (addi x (broadcastInDim S1024x200 ![] bcast_S_S1024x200 (constantI S_ 32 100000#32))) x
abbrev wrapped3 : IVec S1024x200x1 32 := broadcastInDim S1024x200x1 ![0, 1] bcast_S1024x200_S1024x200x1_0_1 (wrapped x)
/-- Which row numbers name a row. -/
abbrev named : IVec S1024x200 1 :=
  Host.reduce IntOp.andi (andi (cmpi .sge (wrapped3 x) (broadcastInDim S1024x200x1 ![] bcast_S_S1024x200x1 (constantI S_ 32 0#32))) (cmpi .sle (wrapped3 x) (broadcastInDim S1024x200x1 ![0, 1, 2] bcast_S1x1x1_S1024x200x1_0_1_2 (broadcastInDim S1x1x1 ![2] bcast_S1_S1x1x1_2 (constantI S1 32 99999#32))))) (constantI S_ 1 1#1) reducesTo_S1024x200x1_S1024x200_d2 h_S_
/-- The rows taken. -/
abbrev taken : FVec F S1024x200x64 .f32 :=
  select (broadcastInDim S1024x200x64 ![0, 1] bcast_S1024x200_S1024x200x64_0_1 (named x)) (Host.gather gather_S100000x64_S1024x200x1_S1024x200x64_2_0_n_n_0_2_164 e (wrapped3 x)) (broadcastInDim S1024x200x64 ![] bcast_S_S1024x200x64 (constant S_ .f32 0x7FC00000#32))

variable (hx : InRange x)
include hx

theorem wrapped_apply (j : S1024x200.Idx) : wrapped x j = x j := by
  show Scalar.select (IntOp.cmpi .slt (x j) 0#32) _ _ = _
  rw [eq_zero_of_ne_one (b := IntOp.cmpi .slt (x j) 0#32) (by
    rw [IntOp.cmpi_slt, toInt_of_lt (hx j)]
    show ¬ ((x j).toNat : Int) < 0
    omega)]
  rfl

theorem wrapped3_apply (j : S1024x200x1.Idx) : wrapped3 x j = x (ix2 (n0 := 1024) (n1 := 200) (j 0) (j 1)) := by
  rw [← wrapped_apply x hx]
  refine broadcastInDim_apply _ _ _ _ _ fun a => ?_
  match a with
  | ⟨0, _⟩ => rfl
  | ⟨1, _⟩ => rfl

theorem named_apply (j : S1024x200.Idx) : named x j = 1#1 := by
  refine Host.reduce_andi_one _ _ _ _ _ rfl fun i => IntOp.andi_eq_one.2 ⟨?_, ?_⟩
  · show IntOp.cmpi .sge (wrapped3 x i) 0#32 = 1#1
    rw [wrapped3_apply x hx, IntOp.cmpi_sge, toInt_of_lt (hx _)]
    show (0 : Int) ≤ _
    omega
  · show IntOp.cmpi .sle (wrapped3 x i) 99999#32 = 1#1
    rw [wrapped3_apply x hx, IntOp.cmpi_sle, toInt_of_lt (hx _)]
    show _ ≤ (99999 : Int)
    have := hx (ix2 (n0 := 1024) (n1 := 200) (i 0) (i 1))
    omega

/-- The row a row number names. -/
abbrev rowOf (b : Fin 1024) (t : Fin 200) : Fin 100000 := ⟨(x (ix2 (n0 := 1024) (n1 := 200) b t)).toNat, hx _⟩

theorem gathered_apply (b : Fin 1024) (t : Fin 200) (c : Fin 64) :
    Host.gather gather_S100000x64_S1024x200x1_S1024x200x64_2_0_n_n_0_2_164 e (wrapped3 x) (ix3 (n0 := 1024) (n1 := 200) (n2 := 64) b t c)
      = e (ix2 (n0 := 100000) (n1 := 64) (rowOf x hx b t) c) := by
  unfold Host.gather
  congr 1
  funext a
  refine Fin.ext ?_
  show (gather_S100000x64_S1024x200x1_S1024x200x64_2_0_n_n_0_2_164).start _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x64_S1024x200x1_S1024x200x64_2_0_n_n_0_2_164).startIndexMap from List.mem_singleton.mpr rfl)]
    have hsi : (gather_S100000x64_S1024x200x1_S1024x200x64_2_0_n_n_0_2_164).siIdx (ix3 (n0 := 1024) (n1 := 200) (n2 := 64) b t c) ⟨List.idxOf (0 : Fin 2) (gather_S100000x64_S1024x200x1_S1024x200x64_2_0_n_n_0_2_164).startIndexMap,
        List.idxOf_lt_length_iff.2 (List.mem_singleton.mpr rfl)⟩ = ix3 (n0 := 1024) (n1 := 200) (n2 := 1) b t 0 := by
      funext q; refine Fin.ext ?_
      match q with
      | ⟨0, _⟩ => rfl
      | ⟨1, _⟩ => rfl
      | ⟨2, _⟩ => rfl
    rw [hsi, wrapped3_apply x hx]
    show min (x (ix2 (n0 := 1024) (n1 := 200) b t)).toInt.toNat (100000 - 1) = _
    have := hx (ix2 (n0 := 1024) (n1 := 200) b t)
    rw [toInt_of_lt this]
    omega
  · have h1 : (gather_S100000x64_S1024x200x1_S1024x200x64_2_0_n_n_0_2_164).start (ix3 (n0 := 1024) (n1 := 200) (n2 := 64) b t c) (wrapped3 x) 1 = 0 := by
      unfold GatherDims.start
      rw [dif_neg (show (1 : Fin 2) ∉ (gather_S100000x64_S1024x200x1_S1024x200x64_2_0_n_n_0_2_164).startIndexMap from by decide)]
    refine (congrArg (· + 0 + _) h1).trans ?_
    show 0 + 0 + GatherDims.offCoord gather_S100000x64_S1024x200x1_S1024x200x64_2_0_n_n_0_2_164 (ix3 (n0 := 1024) (n1 := 200) (n2 := 64) b t c) 1 = c.val
    unfold GatherDims.offCoord
    rw [dif_pos (by decide)]
    simp only [Nat.zero_add]
    rfl

/-- The rows taken, under the range: row `x[b, t]` of the table. -/
theorem taken_apply (b : Fin 1024) (t : Fin 200) (c : Fin 64) :
    taken x e (ix3 (n0 := 1024) (n1 := 200) (n2 := 64) b t c) = e (ix2 (n0 := 100000) (n1 := 64) (rowOf x hx b t) c) := by
  rw [← gathered_apply x e hx]
  unfold taken
  rw [select_apply, broadcastInDim_apply _ _ (named x) _ (ix2 (n0 := 1024) (n1 := 200) b t) (fun a => by
    match a with
    | ⟨0, _⟩ => rfl
    | ⟨1, _⟩ => rfl), named_apply x hx, select_one]

end Take

end Cert.Proof.Rows

end
-- ==== Proof.ScTileI.lean ====
/-
  The SparseCore gather: the program as the launch theorem sees it, one chunk of a subcore's task, the whole task.
  Each of the 32 vector subcores takes 6400 rows in eight chunks of 800: it fetches 800 row numbers, gathers those rows
  of the table into its row scratch and copies them to its rows of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev NP : Nat := 2
abbrev ΛP : Labels := Pipeline.Sig Λ₀ (Fin NP) fun p => (pcfgs (F := F) p).Adm
abbrev K : SparseCore.Cfg τ sig (ΛP (F := F)) 1 := sc (F := F)
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev iLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

local notation "iV" => (Memref.whole Cert.KernelIdeal.main_v1_scv : Memref Cert.KernelIdeal.sig Kind.scVector Space.hbm Cert.KernelIdeal.S204800 EltTy.i32)
local notation "tV" => (Memref.whole Cert.KernelIdeal.main_v2_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S800 EltTy.i32)
local notation "rV" => (Memref.whole Cert.KernelIdeal.cc0_scratch1 : Memref Cert.KernelIdeal.sig Kind.scVector Space.vmem Cert.KernelIdeal.S800x128 EltTy.f32)

/-- The gathered array: row `r` is the table's row at the `r`-th row number. -/
def gat (tC : S100000x128.Idx → Elt F .f32) (iC : S204800.Idx → Elt F .i32) : S204800x128.Idx → Elt F .f32 :=
  fun y => tC (ix2 (n0 := 100000) (n1 := 128) ⟨(iC (ix1 (n := 204800) (y 0))).toNat % 100000, Nat.mod_lt _ (by decide)⟩ (y 1))

/-! ## One chunk -/

section Tile

variable [FloatOps F] [Named F] (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The 800 row numbers and the 800 rows of the result of chunk `r`, as the task addresses them; all of the table. -/
abbrev iCh (L : grid0.Coords) (r : Fin 8) : Memref sig .scVector .hbm S800 .i32 :=
  (iV).slice (Rect.unit (s := S204800) (k0_off1 L (BitVec.ofNat 32 (800 * r.val))) S800.size (k0_off1_inb L r)) (fun _ => rfl)
abbrev oCh (L : grid0.Coords) (r : Fin 8) : Memref sig .scVector .hbm S800x128 .f32 :=
  (oV).slice (Rect.unit (s := S204800x128) (k0_off2 L (BitVec.ofNat 32 (800 * r.val))) S800x128.size (k0_off2_inb L r)) (fun _ => rfl)
abbrev tAll : Memref sig .scVector .hbm S100000x128 .f32 :=
  (tV).slice (Rect.unit (s := S100000x128) ![0, 0] S100000x128.size inb_S100000x128_S100000x128_0_0) (fun _ => rfl)

/-- One chunk of the task: fetch the row numbers, gather the rows, copy them out. -/
def chunk (L : grid0.Coords) (r : Fin 8) (sA sB : DmaSems sig S_) :
    Prog (TpuEff nD τ sig (Elt F) Λ₀ (.scVector (cV L) (jV L))) PUnit := do
  Prog.lift (.enqueueDma (iCh L r) (.here sV) (.dma sA.sem) (View.wordExact_bits rfl) (Memref.isWhole_whole _).wordExact ⟨Or.inl rfl, trivial⟩)
  Prog.lift (.waitDma2 sA.sem (iCh L r) sV (View.wordExact_bits rfl) (Memref.isWhole_whole _).wordExact)
  SparseCore.enqueueIndirectGather rfl tAll rV gathers_S100000x128_S800x128 sV rfl cc0_scratch2.sem (View.wordExact_bits rfl) rfl (Or.inl rfl)
  SparseCore.waitIndirectGather cc0_scratch2.sem tAll rV (View.wordExact_bits rfl) (Memref.isWhole_whole _).wordExact
  Prog.lift (.enqueueDma rV (.here (oCh L r)) (.dma sB.sem) (Memref.isWhole_whole _).wordExact (View.wordExact_bits rfl) ⟨Or.inl rfl, trivial⟩)
  Prog.lift (.waitDma2 sB.sem rV (oCh L r) (Memref.isWhole_whole _).wordExact (View.wordExact_bits rfl))
  pure ⟨⟩

/-- The chunks in order. -/
def chunks (L : grid0.Coords) (sA sB : Fin 8 → DmaSems sig S_) : List (Fin 8) → Prog (TpuEff nD τ sig (Elt F) Λ₀ (.scVector (cV L) (jV L))) PUnit
  | [] => pure ⟨⟩
  | r :: l => chunk L r (sA r) (sB r) >>= fun _ => chunks L sA sB l

abbrev semA : Fin 8 → DmaSems sig S_ := ![cc0_scoped0, cc0_scoped2, cc0_scoped4, cc0_scoped6, cc0_scoped8, cc0_scoped10, cc0_scoped12, cc0_scoped14]
abbrev semB : Fin 8 → DmaSems sig S_ := ![cc0_scoped1, cc0_scoped3, cc0_scoped5, cc0_scoped7, cc0_scoped9, cc0_scoped11, cc0_scoped13, cc0_scoped15]

set_option maxRecDepth 65536 in
set_option maxHeartbeats 4000000 in
/-- The printed task is its eight chunks. -/
theorem body_eq (L : grid0.Coords) :
    cc0_gather_k (F := F) L tV (Memref.isWhole_whole _) iV (Memref.isWhole_whole _) oV (Memref.isWhole_whole _)
        sV (Memref.isWhole_whole _) rV (Memref.isWhole_whole _) cc0_scratch2 cc0_scoped0 cc0_scoped1 cc0_scoped2 cc0_scoped3 cc0_scoped4 cc0_scoped5
        cc0_scoped6 cc0_scoped7 cc0_scoped8 cc0_scoped9 cc0_scoped10 cc0_scoped11 cc0_scoped12 cc0_scoped13 cc0_scoped14 cc0_scoped15
      = chunks L semA semB [0, 1, 2, 3, 4, 5, 6, 7] := rfl

/-- The row numbers the fetch of chunk `r` lands in the list. -/
abbrev lst (L : grid0.Coords) (r : Fin 8) (iC : S204800.Idx → Elt F .i32) : S800.Idx → Elt F .i32 := (iCh L r).view.read (Elt F) iC

omit [FloatOps F] [Named F] in
theorem list_lt {iC : S204800.Idx → Elt F .i32} (hin : ∀ j, (iC j).toNat < 100000) (r : Fin 8) :
    ∀ x, ((sV).view.read (Elt F) (lst L r iC) x).toNat < S100000x128.size gathers_S100000x128_S800x128.axis := by
  intro x
  show (lst L r iC x).toNat < 100000
  rw [show ∀ j, lst L r iC j = iC ((iCh L r).view.emb j) from fun j => (View.read_apply _ _).trans (cast_eq _ _)]
  exact hin _

set_option maxRecDepth 65536 in
omit [FloatOps F] [Named F] in
theorem credit_rows : ∀ h : S100000x128.Gathers 0 S800x128, ∑ j, ((rV).slice (S800x128.rowRect h.axis' j) (S800x128.stride_rowRect h.axis' j)).view.dmaCredit
    = (rV).view.dmaCredit := by
  intro h
  have e : ∀ j, ((rV).slice (S800x128.rowRect h.axis' j) (S800x128.stride_rowRect h.axis' j)).view.dmaCredit
      = ((rV).slice (S800x128.rowRect (0 : Fin 2) (⟨0, by decide⟩ : Fin 800)) (S800x128.stride_rowRect (0 : Fin 2) (⟨0, by decide⟩ : Fin 800))).view.dmaCredit := fun j => rfl
  rw [Finset.sum_congr rfl fun j _ => e j, Finset.sum_const, Finset.card_univ, smul_eq_mul]
  clear e
  exact (congrArg (· * _) (Fintype.card_fin 800)).trans (by decide)

/-- What one chunk leaves in its rows of the result is the gathered array there. -/
theorem chunk_val {iC : S204800.Idx → Elt F .i32} (tC : S100000x128.Idx → Elt F .f32) (oC : S204800x128.Idx → Elt F .f32)
    (hin : ∀ j, (iC j).toNat < 100000) (r : Fin 8) (h : _) (pay : S800x128.Idx → Elt F .f32)
    (hp : pay = SparseCore.gatherPayload gathers_S100000x128_S800x128 ((tAll).view.read (Elt F) tC)
      (SparseCore.rows ((sV).view.read (Elt F) (lst L r iC)) rfl h)) :
    ∀ i ∈ (oCh L r).view.set, (oCh L r).view.writes (Elt F) oC [⟨Rect.whole S800x128, pay⟩] i = gat tC iC i := by
  intro i hi
  obtain ⟨x, -, rfl⟩ := Finset.mem_map.mp hi
  have hw : ((oCh L r).view.slice (Rect.whole S800x128)).emb x = (oCh L r).view.emb x := congrArg (oCh L r).view.emb (Rect.emb_whole_apply S800x128 x)
  rw [View.writes_singleton, ← hw, View.write_emb_of_mem _ _ (Finset.mem_univ _), hw]
  subst hp
  have hrow : ∀ k : Fin 800, S800.rowMajor.symm (k.cast (rfl : 800 = S800.numel)) = ix1 (n := 800) k := fun k => by
    rw [Equiv.symm_apply_eq]; exact Fin.ext (Shape.rowMajor_val_one (d := ![800]) (ix1 (n := 800) k)).symm
  show tC ((tAll).view.emb (gathers_S100000x128_S800x128.idx (SparseCore.rows (lst L r iC) rfl h) x)) = _
  unfold gat
  have e0 : ((((oCh L r).view.emb x) 0 : Fin 204800) : ℕ) = 12800 * (L 1).val + 6400 * (L 0).val + 800 * r.val + ((x 0 : Fin 800) : ℕ) := by
    show (k0_off2 L (BitVec.ofNat 32 (800 * r.val))) 0 + 1 * ((x 0 : Fin 800) : ℕ) = _
    rw [k0_off2_eq]; simp
  have e1 : ((((oCh L r).view.emb x) 1 : Fin 128) : ℕ) = ((x 1 : Fin 128) : ℕ) := by
    show (k0_off2 L (BitVec.ofNat 32 (800 * r.val))) 1 + 1 * ((x 1 : Fin 128) : ℕ) = _
    rw [k0_off2_eq]; simp
  have ei : ((iCh L r).view.emb (ix1 (n := 800) (x 0)) : S204800.Idx) = ix1 (n := 204800) (((oCh L r).view.emb x) 0) := by
    funext a
    match a with
    | 0 =>
      refine Fin.ext ?_
      show (k0_off1 L (BitVec.ofNat 32 (800 * r.val))) 0 + 1 * ((x 0 : Fin 800) : ℕ) = ((((oCh L r).view.emb x) 0 : Fin 204800) : ℕ)
      rw [e0, k0_off1_eq]; simp
  refine congrArg tC (funext fun a => ?_)
  match a with
  | 0 =>
    refine Fin.ext ?_
    show 0 + 1 * ((lst L r iC (S800.rowMajor.symm ((x 0 : Fin 800).cast (rfl : 800 = S800.numel)))).toNat) = (iC _).toNat % 100000
    have el : ∀ j, lst L r iC j = iC ((iCh L r).view.emb j) := fun j => (View.read_apply _ _).trans (cast_eq _ _)
    have e := (congrArg (fun j => (lst L r iC j).toNat) (hrow (x 0))).trans (congrArg BitVec.toNat ((el _).trans (congrArg iC ei)))
    refine (congrArg (0 + 1 * ·) e).trans ?_
    rw [Nat.mod_eq_of_lt (hin _)]
    omega
  | 1 =>
    refine Fin.ext ?_
    show 0 + 1 * ((x 1 : Fin 128) : ℕ) = ((((oCh L r).view.emb x) 1 : Fin 128) : ℕ)
    rw [e1]; omega

abbrev cell (d : Dev nD) (L : grid0.Coords) (s : DmaSems sig S_) : GSem nD τ sig := (thr d L, .dma s.sem)

/-- What the chunks keep between them: the row numbers and the table at a share, the two scratches, the gather's semaphore, what
    the subcore owes. -/
def Keep (O : CellTallies nD τ sig (HIx 1)) (W : Waits sig (HIx 1)) (qi qt : PosShare TreeShare) (iC : S204800.Idx → Elt F .i32)
    (tC : S100000x128.Idx → Elt F .f32) : sProp 𝕄 :=
  iprop((iLoc d ↦{qi} iC) ∗ (tLoc d ↦{qt} tC) ∗ (∃ f, (thr d L).loc cc0_scratch0 ↦{fullShare} f) ∗ (∃ f, (thr d L).loc cc0_scratch1 ↦{fullShare} f)
    ∗ semVal (cell d L cc0_scratch2) 0 ∗ ∃ W', ⌜∀ p ∈ W', p ∈ W ∨ p.2 = none⌝ ∗ owes (thr d L) O W')

set_option maxHeartbeats 4000000 in
/-- One chunk: its rows of the result go from what they held to the gathered rows. -/
theorem chunk_run (O : CellTallies nD τ sig (HIx 1)) (W : Waits sig (HIx 1)) (hO : ∀ g, O g none = 0) (qi qt : PosShare TreeShare)
    {iC : S204800.Idx → Elt F .i32} (tC : S100000x128.Idx → Elt F .f32) (oC : S204800x128.Idx → Elt F .f32)
    (hin : ∀ j, (iC j).toNat < 100000) (r : Fin 8) (sA sB : DmaSems sig S_) :
    iprop(levAts (K (F := F)).L (K (F := F)).lev ∗ Keep d L O W qi qt iC tC ∗ semVal (cell d L sA) 0 ∗ semVal (cell d L sB) 0
        ∗ (oLoc d ↦[(oCh L r).view.set]{fullShare} oC))
      ⊢ wp frame (wpE (defs₀ (F := F)) 𝒱₀ (thr d L) none) Set.univ (chunk L r sA sB)
          fun _ => iprop(Keep d L O W qi qt iC tC ∗ semVal (cell d L sA) 0 ∗ semVal (cell d L sB) 0
            ∗ (oLoc d ↦[(oCh L r).view.set]{fullShare} gat tC iC)) := by
  unfold chunk Keep
  iintro ⟨#Hlv, ⟨Hi, Ht, ⟨%fs, Hs⟩, ⟨%fr, Hr⟩, HsemG, %W', %hW', HO⟩, HsemA, HsemB, Ho⟩
  ihave Hmw := (show levAts (K (F := F)).L (K (F := F)).lev ⊢ Transfers.MayWaits (thr d L) (default : HIx 1) O from
    (K (F := F)).mayWaits_none (thr := thr d L) hO) $$ Hlv
  ihave Hi2 := (pointsTo_split_subset (q := qi) (f := iC) (S := Finset.univ) (Finset.subset_univ (iCh L r).view.set)).1 $$ Hi
  icases Hi2 with ⟨Hi, Hirest⟩
  ihave Hi' := (Entails.of_eq (show (iLoc d ↦[(iCh L r).view.set]{qi} iC : sProp 𝕄) = (iCh L r).view.loc (thr d L) ↦[(iCh L r).view.set]{qi} iC from rfl)) $$ Hi
  ihave Ho' := (Entails.of_eq (show (oLoc d ↦[(oCh L r).view.set]{fullShare} oC : sProp 𝕄) = (oCh L r).view.loc (thr d L) ↦[(oCh L r).view.set]{fullShare} oC from rfl)) $$ Ho
  ihave Ht' := (Entails.of_eq (show (tLoc d ↦{qt} tC : sProp 𝕄) = (tV).view.loc (thr d L) ↦{qt} tC from rfl)) $$ Ht
  ihave Hs' := (Entails.of_eq (show ((thr d L).loc cc0_scratch0 ↦{fullShare} fs : sProp 𝕄) = (sV).view.loc (thr d L) ↦{fullShare} fs from rfl)) $$ Hs
  ihave Hr' := (Entails.of_eq (show ((thr d L).loc cc0_scratch1 ↦{fullShare} fr : sProp 𝕄) = (rV).view.loc (thr d L) ↦{fullShare} fr from rfl)) $$ Hr
  sl_exec
  have hT : (tLoc d ↦{qt} tC : sProp 𝕄) ⊣⊢ iprop((tLoc d ↦[(tAll).view.set]{qt} tC) ∗ (tLoc d ↦[Finset.univ \ (tAll).view.set]{qt} tC)) :=
    pointsTo_split_subset (ℓ := tLoc d) (q := qt) (f := tC) (Finset.subset_univ (tAll).view.set)
  ihave Ht2 := hT.1 $$ Ht'
  icases Ht2 with ⟨Hts, Htr⟩
  have hrs : (rV).view.set = Finset.univ := View.set_whole _
  have hss : (sV).view.set = Finset.univ := View.set_whole _
  ihave Hr2 := (Entails.of_eq (show ((rV).view.loc (thr d L) ↦{fullShare} fr : sProp 𝕄) = (rV).view.loc (thr d L) ↦[(rV).view.set]{fullShare} fr by rw [hrs])) $$ Hr'
  ihave Hs2 := (Entails.of_eq (show ((sV).view.loc (thr d L) ↦{fullShare} View.write (Elt F) (sV).view fs (chunk_run.sl.dma0 L r) Finset.univ : sProp 𝕄)
      = (sV).view.loc (thr d L) ↦[(sV).view.set]{fullShare} lst L r iC by rw [hss, View.write_whole_univ]; rfl)) $$ Hs'
  iapply (SparseCore.wp_indirectGatherLocal countersEmb 𝒱₀ (thr d L) none (hg := gathers_S100000x128_S800x128) (default : HIx 1)
      (rV).view.dmaCredit (credit_rows _) (by decide) (list_lt L hin r)) $$ [Hts Hr2 Hs2 HsemG]
  · isplitl [Hts]; · iexact Hts
    isplitl [Hr2]; · iexact Hr2
    isplitl [Hs2]; · iexact Hs2
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := hT.2 $$ [Hts Htr]; · isplitl [Hts] <;> iassumption
  ihave Hr3 := (Entails.of_eq (show ((rV).view.loc (thr d L) ↦[(rV).view.set]{fullShare} _ : sProp 𝕄) = (rV).view.loc (thr d L) ↦{fullShare} _ by rw [hrs])) $$ Hr'
  ihave Hs3 := (Entails.of_eq (show ((sV).view.loc (thr d L) ↦[(sV).view.set]{fullShare} _ : sProp 𝕄) = (sV).view.loc (thr d L) ↦{fullShare} _ by rw [hss])) $$ Hs'
  sl_exec
  sl_step
  ihave Ho2 := (Entails.of_eq (show ((oCh L r).view.loc (thr d L) ↦[(oCh L r).view.set]{fullShare}
        (oCh L r).view.writes (Elt F) oC [⟨Rect.whole S800x128, chunk_run.sl.dma0_1 d L tC hin r fr⟩] : sProp 𝕄)
      = oLoc d ↦[(oCh L r).view.set]{fullShare} gat tC iC from pointsTo_congr (chunk_val L tC oC hin r (list_lt L hin r) _
        ((show chunk_run.sl.dma0_1 d L tC hin r fr = (rV).view.read (Elt F) ((rV).view.write (Elt F) fr _ Finset.univ) from rfl).trans (View.read_write_univ _ _))))) $$ Ho'
  isplitl [Hirest Ht' Hs3 Hr3 HsemG HO]
  · isplitl [Hirest]; · iexact Hirest
    isplitl [Ht']; · iexact Ht'
    isplitl [Hs3]; · iexists _; iexact Hs3
    isplitl [Hr3]; · iexists _; iexact Hr3
    isplitl [HsemG]; · iexact HsemG
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HsemA]; · iexact HsemA
  isplitl [HsemB]; · iexact HsemB
  iexact Ho2

/-- What chunk `r` has of its own: its two semaphores and its rows of the result. -/
abbrev Own (r : Fin 8) (f : S204800x128.Idx → Elt F .f32) : sProp 𝕄 :=
  iprop(semVal (cell d L (semA r)) 0 ∗ semVal (cell d L (semB r)) 0 ∗ (oLoc d ↦[(oCh L r).view.set]{fullShare} f))

/-- The chunks of a list in order. -/
theorem chunks_run (O : CellTallies nD τ sig (HIx 1)) (W : Waits sig (HIx 1)) (hO : ∀ g, O g none = 0) (qi qt : PosShare TreeShare)
    {iC : S204800.Idx → Elt F .i32} (tC : S100000x128.Idx → Elt F .f32) (oC : S204800x128.Idx → Elt F .f32)
    (hin : ∀ j, (iC j).toNat < 100000) : ∀ (l : List (Fin 8)), l.Nodup →
    (iprop(levAts (K (F := F)).L (K (F := F)).lev ∗ Keep d L O W qi qt iC tC ∗ bigSep l.toFinset fun r => Own d L r oC)
      ⊢ wp frame (wpE (defs₀ (F := F)) 𝒱₀ (thr d L) none) Set.univ (chunks L semA semB l)
          fun _ => iprop(Keep d L O W qi qt iC tC ∗ bigSep l.toFinset fun r => Own d L r (gat tC iC)))
  | [], _ => by
    rw [chunks, wp_pure, List.toFinset_nil, BI.bigSep_empty, BI.bigSep_empty]
    iintro ⟨-, HK⟩
    imodintro
    iexact HK
  | r :: l, hl => by
    have hr : r ∉ l.toFinset := by simpa using (List.nodup_cons.mp hl).1
    rw [chunks, wp_bind, List.toFinset_cons, SparseCore.bigSep_insert' hr, SparseCore.bigSep_insert' hr]
    iintro ⟨#Hlv, HK, ⟨HA, HB, Ho⟩, Hl⟩
    iapply (wp_wand_r frame (wpE (defs₀ (F := F)) 𝒱₀ (thr d L) none) Set.univ)
    isplitl [HK HA HB Ho]
    · iapply (chunk_run d L O W hO qi qt tC oC hin r (semA r) (semB r))
      isplitr; · iexact Hlv
      isplitl [HK]; · iexact HK
      isplitl [HA]; · iexact HA
      isplitl [HB] <;> iassumption
    iintro %a ⟨HK, HA, HB, Ho⟩
    iapply (wp_wand_r frame (wpE (defs₀ (F := F)) 𝒱₀ (thr d L) none) Set.univ)
    isplitl [HK Hl]
    · iapply (chunks_run O W hO qi qt tC oC hin l (List.nodup_cons.mp hl).2)
      isplitr; · iexact Hlv
      isplitl [HK] <;> iassumption
    iintro %b ⟨HK, Hl⟩
    isplitl [HK]; · iexact HK
    isplitr [Hl]
    · isplitl [HA]; · iexact HA
      isplitl [HB] <;> iassumption
    iexact Hl

/-! ## The task -/

/-- What a task holds of the two read arrays and, chunk by chunk, of the result. -/
abbrev taskPay (qi qt : PosShare TreeShare) (iC : S204800.Idx → Elt F .i32) (tC : S100000x128.Idx → Elt F .f32) (f : S204800x128.Idx → Elt F .f32) : sProp 𝕄 :=
  iprop((iLoc d ↦{qi} iC) ∗ (tLoc d ↦{qt} tC) ∗ bigSep Finset.univ fun r : Fin 8 => (oLoc d ↦[(oCh L r).view.set]{fullShare} f))

abbrev dcell (d : Dev nD) (L : grid0.Coords) (k : Fin 17) : GSem nD τ sig := (thr d L, .dma (Fin.castLE (show 17 ≤ sig.nDmaSem by decide) k))
def allCells (d : Dev nD) (L : grid0.Coords) : Finset (GSem nD τ sig) := Finset.univ.image (dcell d L)

omit [FloatOps F] [Named F] in
theorem cell_A (r : Fin 8) : cell d L (semA r) = dcell d L ⟨2 * r.val + 1, by omega⟩ := by
  match r with | 0 => rfl | 1 => rfl | 2 => rfl | 3 => rfl | 4 => rfl | 5 => rfl | 6 => rfl | 7 => rfl
omit [FloatOps F] [Named F] in
theorem cell_B (r : Fin 8) : cell d L (semB r) = dcell d L ⟨2 * r.val + 2, by omega⟩ := by
  match r with | 0 => rfl | 1 => rfl | 2 => rfl | 3 => rfl | 4 => rfl | 5 => rfl | 6 => rfl | 7 => rfl
theorem injA : Function.Injective fun r : Fin 8 => (⟨2 * r.val + 1, by omega⟩ : Fin 17) := by decide
theorem injB : Function.Injective fun r : Fin 8 => (⟨2 * r.val + 2, by omega⟩ : Fin 17) := by decide

omit [FloatOps F] [Named F] in
/-- The seventeen semaphores: the gather's, the eight of the fetches, the eight of the copies out. -/
theorem bigSep_sems (Φ : Fin 17 → sProp 𝕄) :
    bigSep Finset.univ Φ = iprop(Φ 0 ∗ (bigSep Finset.univ fun r : Fin 8 => Φ ⟨2 * r.val + 1, by omega⟩)
      ∗ bigSep Finset.univ fun r : Fin 8 => Φ ⟨2 * r.val + 2, by omega⟩) := by
  rw [← SparseCore.bigSep_image_of_injOn (injA.injOn) Φ, ← SparseCore.bigSep_image_of_injOn (injB.injOn) Φ,
    ← SparseCore.bigSep_union' (by decide), ← SparseCore.bigSep_insert' (by decide)]
  congr 1; decide

theorem dcell_inj : Function.Injective (dcell d L) := fun a b h => by
  injection (Prod.mk.inj h).2 with e
  exact Fin.castLE_injective _ e

theorem dma_scoped : ∀ k : Fin 17, (SemLoc.dma (Fin.castLE (show 17 ≤ sig.nDmaSem by decide) k) : SemLoc sig).isScoped .scVector = true := by decide

theorem allCells_sub : allCells d L ⊆ ownCells (thr d L) := fun g hg => by
  obtain ⟨k, -, rfl⟩ := Finset.mem_image.mp hg
  exact mem_ownCells.mpr ⟨rfl, dma_scoped k⟩

omit [FloatOps F] [Named F] in
theorem allCells_sep :
    (bigSep (allCells d L) (fun g => semVal g 0) : sProp 𝕄)
      = iprop(semVal (cell d L cc0_scratch2) 0 ∗ (bigSep Finset.univ fun r : Fin 8 => semVal (cell d L (semA r)) 0)
          ∗ bigSep Finset.univ fun r : Fin 8 => semVal (cell d L (semB r)) 0) := by
  simp only [cell_A, cell_B]
  unfold allCells
  rw [SparseCore.bigSep_image_of_injOn (dcell_inj d L).injOn, bigSep_sems]
  rfl

omit [FloatOps F] [Named F] in
/-- The task's semaphores among the subcore's own. -/
theorem sems_split :
    (ownSems0 (thr d L) : sProp 𝕄)
      = iprop((semVal (cell d L cc0_scratch2) 0 ∗ (bigSep Finset.univ fun r : Fin 8 => semVal (cell d L (semA r)) 0)
          ∗ bigSep Finset.univ fun r : Fin 8 => semVal (cell d L (semB r)) 0) ∗ bigSep (ownCells (thr d L) \ allCells d L) fun g => semVal g 0) := by
  rw [← allCells_sep]
  exact SparseCore.bigSep_sdiff_split' (allCells_sub d L)

omit [FloatOps F] [Named F] in
/-- The two scratches among the subcore's own buffers. -/
theorem bufs_split :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (thr d L).2).erase ((thr d L).2.devRef cc0_scratch0)).erase ((thr d L).2.devRef cc0_scratch1))
              fun b => iprop(∃ f, ((d, b) : Loc nD τ sig) ↦{fullShare} f)) := by
  unfold SparseCore.Cfg.ownBufs
  have h1 := SparseCore.Cfg.mem_ownRefs_of_owner (p := (thr d L).2) (b := (thr d L).2.devRef cc0_scratch1) rfl
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e)
    (show (cc0_scratch1 : Ref sig .scVector) ≠ cc0_scratch0 by decide), h1⟩)]

omit [FloatOps F] [Named F] in
theorem own_sep (f : S204800x128.Idx → Elt F .f32) :
    (bigSep Finset.univ fun r : Fin 8 => Own d L r f : sProp 𝕄)
      = iprop((bigSep Finset.univ fun r : Fin 8 => semVal (cell d L (semA r)) 0) ∗ (bigSep Finset.univ fun r : Fin 8 => semVal (cell d L (semB r)) 0)
          ∗ bigSep Finset.univ fun r : Fin 8 => (oLoc d ↦[(oCh L r).view.set]{fullShare} f)) := by
  rw [← bigSep_sep', ← bigSep_sep']

/-- The task of one subcore, from the launch's hands back to them: its rows of the result at the gathered rows. -/
theorem tile_body (hF : (K (F := F)).Facts) (O : CellTallies nD τ sig (HIx 1)) (W : Waits sig (HIx 1)) (hO : ∀ g, O g none = 0)
    (qi qt : PosShare TreeShare) {iC : S204800.Idx → Elt F .i32} (tC : S100000x128.Idx → Elt F .f32) (oC : S204800x128.Idx → Elt F .f32)
    (hin : ∀ j, (iC j).toNat < 100000) :
    iprop(levAts (K (F := F)).L (K (F := F)).lev ∗ emp ∗ taskPay d L qi qt iC tC oC
        ∗ scopedBufs (thr d L) ∗ scopedSems0 (thr d L) ∗ owes (thr d L) O W)
      ⊢ wp frame (wpE (defs₀ (F := F)) 𝒱₀ (thr d L) none) Set.univ
          (cc0_gather_k (F := F) L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15)
          fun _ => iprop(taskPay d L qi qt iC tC (gat tC iC) ∗ scopedBufs (thr d L) ∗ scopedSems0 (thr d L)
            ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), sems_split, bufs_split]
  iintro ⟨#Hlv, -, ⟨Hi, Ht, Ho⟩, ⟨Hs, Hr, Hbufs⟩, ⟨⟨HG, HA, HB⟩, Hsems⟩, HO⟩
  iapply (wp_wand_r frame (wpE (defs₀ (F := F)) 𝒱₀ (thr d L) none) Set.univ)
  isplitl [Hi Ht Ho Hs Hr HG HA HB HO]
  · iapply (chunks_run d L O W hO qi qt tC oC hin [0, 1, 2, 3, 4, 5, 6, 7] (by decide))
    rw [show [0, 1, 2, 3, 4, 5, 6, 7].toFinset = (Finset.univ : Finset (Fin 8)) by decide, own_sep]
    isplitr; · iexact Hlv
    isplitl [Hi Ht Hs Hr HG HO]
    · unfold Keep
      isplitl [Hi]; · iexact Hi
      isplitl [Ht]; · iexact Ht
      isplitl [Hs]; · iexact Hs
      isplitl [Hr]; · iexact Hr
      isplitl [HG]; · iexact HG
      iexists W; isplitr
      · ipureintro; exact fun p hp => .inl hp
      · iexact HO
    isplitl [HA]; · iexact HA
    isplitl [HB] <;> iassumption
  rw [show [0, 1, 2, 3, 4, 5, 6, 7].toFinset = (Finset.univ : Finset (Fin 8)) by decide, own_sep]
  unfold Keep
  iintro %a ⟨⟨Hi, Ht, Hs, Hr, HG, HO⟩, HA, HB, Ho⟩
  isplitl [Hi Ht Ho]
  · isplitl [Hi]; · iexact Hi
    isplitl [Ht] <;> iassumption
  isplitl [Hs Hr Hbufs]
  · isplitl [Hs]; · iexact Hs
    isplitl [Hr] <;> iassumption
  isplitl [HG HA HB Hsems]
  · isplitr [Hsems]
    · isplitl [HG]; · iexact HG
      isplitl [HA] <;> iassumption
    · iexact Hsems
  iexact HO

end Tile

end Cert.Proof.KernelIdealRun

end
-- ==== Proof.ScLaunchI.lean ====
/-
  The launch of the gather: what the handshakes carry, each subcore's obligation, and the split of the three arrays over
  the subcores: the row numbers and the table go to every subcore at a share, the result in 256 blocks of 800 rows.
-/
module

public import proofs.«01_k».proof.Proof.ScTileI

@[expose] public section

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v1_scv : Memref Cert.KernelIdeal.sig Kind.scVector Space.hbm Cert.KernelIdeal.S204800 EltTy.i32)
local notation "tV" => (Memref.whole Cert.KernelIdeal.main_v2_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S800 EltTy.i32)
local notation "rV" => (Memref.whole Cert.KernelIdeal.cc0_scratch1 : Memref Cert.KernelIdeal.sig Kind.scVector Space.vmem Cert.KernelIdeal.S800x128 EltTy.f32)

/-! ## Shares by halving -/

/-- The `i`-th of the `2 ^ n` shares that `n` halvings of `q` give; the top bit of `i` picks the first half. -/
def piece : (n : ℕ) → PosShare TreeShare → Fin (2 ^ n) → PosShare TreeShare
  | 0, q, _ => q
  | n + 1, q, i => match finSumFinEquiv.symm (i.cast (by omega : 2 ^ (n + 1) = 2 ^ n + 2 ^ n)) with
    | .inl j => piece n q.left j
    | .inr j => piece n q.right j

/-- The first and the second half of the places. -/
def halves (n : ℕ) : Fin (2 ^ n) ⊕ Fin (2 ^ n) ≃ Fin (2 ^ (n + 1)) := finSumFinEquiv.trans (finCongr (by omega))

theorem piece_halves (n : ℕ) (q : PosShare TreeShare) (x : Fin (2 ^ n) ⊕ Fin (2 ^ n)) :
    piece (n + 1) q (halves n x) = Sum.elim (piece n q.left) (piece n q.right) x := by
  have h : finSumFinEquiv.symm ((halves n x).cast (by omega : 2 ^ (n + 1) = 2 ^ n + 2 ^ n)) = x := by
    rw [Equiv.symm_apply_eq]; rfl
  rw [piece, h]
  cases x <;> rfl

/-- Holding at a share is holding at all its pieces. -/
theorem pointsTo_pieces {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{piece n q i} f := by
  induction n with
  | zero => intro q; exact (bigSep_univ_of_subsingleton (0 : Fin 1) (Φ := fun i : Fin (2 ^ 0) => (ℓ ↦[I]{piece 0 q i} f : sProp 𝕄))).symm
  | succ n ih =>
    intro q
    have hs := pointsTo_share (ℓ := ℓ) (I := I) (f := f) (Ix := HIx 1) (Name := ℕ) (U := UU) (Lvl := ℕ) (PosShare.mem_left_op_right q)
    rw [bigSep_univ_equiv (halves n) (fun i : Fin (2 ^ (n + 1)) => (ℓ ↦[I]{piece (n + 1) q i} f : sProp 𝕄)), bigSep_univ_sum]
    simp only [piece_halves, Sum.elim_inl, Sum.elim_inr]
    rw [← ih, ← ih]
    exact BI.Entails.antisymm hs.1 hs.2

/-- The share of SparseCore `c`'s subcore `i`. -/
abbrev shr (c : Fin 2) (i : Fin 16) : PosShare TreeShare := piece 4 (piece 1 fullShare c) i

theorem shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [pointsTo_pieces Finset.univ f 1 fullShare]
  exact bigSep_congr fun c _ => pointsTo_pieces Finset.univ f 4 _

/-! ## The result's blocks -/

def coordsV (c : Fin (grid0.bound 0)) (s : Fin (grid0.bound 1)) : grid0.Coords :=
  fun | 0 => c | 1 => s | ⟨_ + 2, h⟩ => absurd h (Nat.not_lt.2 (Nat.le_add_left _ _))

abbrev lp (c : Fin 2) (i : Fin 16) : grid0.Coords := coordsV c i

theorem mem_oCh (c : Fin 2) (i : Fin 16) (r : Fin 8) (y : S204800x128.Idx) :
    y ∈ (oCh (lp c i) r).view.set ↔ 12800 * i.val + 6400 * c.val + 800 * r.val ≤ ((y 0 : Fin 204800) : ℕ)
      ∧ ((y 0 : Fin 204800) : ℕ) < 12800 * i.val + 6400 * c.val + 800 * r.val + 800 := by
  have e : (oCh (lp c i) r).view.set = (Rect.unit (s := S204800x128) (k0_off2 (lp c i) (BitVec.ofNat 32 (800 * r.val))) S800x128.size (k0_off2_inb (lp c i) r)).set := by
    show ((View.whole (main_v3_scv : Ref sig .scVector)).slice _).set = _
    rw [View.set_slice]; exact Finset.map_refl
  rw [e, Rect.mem_set_unit, k0_off2_eq]
  have e0 : ((lp c i) 0 : Fin 2) = c := rfl
  have e1 : ((lp c i) 1 : Fin 16) = i := rfl
  constructor
  · intro h
    have := h 0
    simp [S800x128, e0, e1] at this
    exact this
  · intro h a
    match a with
    | 0 => simp [S800x128]; exact h
    | 1 => simp [S800x128]; exact (y 1).isLt

abbrev outSet (t : Fin 2 × Fin 16 × Fin 8) : Finset S204800x128.Idx := (oCh (lp t.1 t.2.1) t.2.2).view.set

theorem out_disjoint : ∀ t ∈ (Finset.univ : Finset (Fin 2 × Fin 16 × Fin 8)), ∀ t' ∈ (Finset.univ : Finset (Fin 2 × Fin 16 × Fin 8)),
    t ≠ t' → Disjoint (outSet t) (outSet t') := by
  rintro ⟨c, i, r⟩ - ⟨c', i', r'⟩ - h
  refine Finset.disjoint_left.mpr fun y hy hy' => h ?_
  have h1 := (mem_oCh c i r y).mp hy
  have h2 := (mem_oCh c' i' r' y).mp hy'
  have : i.val = i'.val ∧ c.val = c'.val ∧ r.val = r'.val := by omega
  rw [Fin.ext this.1, Fin.ext this.2.1, Fin.ext this.2.2]

theorem out_cover : (Finset.univ : Finset (Fin 2 × Fin 16 × Fin 8)).biUnion outSet = Finset.univ := by
  refine Finset.eq_univ_iff_forall.mpr fun y => Finset.mem_biUnion.mpr ?_
  obtain ⟨n, hn⟩ : ∃ n, n = ((y 0 : Fin 204800) : ℕ) := ⟨_, rfl⟩
  have hy : n < 204800 := by rw [hn]; exact Fin.isLt (y 0)
  have hc : n % 12800 / 6400 < 2 := by omega
  have hi : n / 12800 < 16 := by omega
  have hr : n % 6400 / 800 < 8 := by omega
  refine ⟨(⟨_, hc⟩, ⟨_, hi⟩, ⟨_, hr⟩), Finset.mem_univ _, (mem_oCh _ _ _ y).mpr ?_⟩
  rw [← hn]
  dsimp only
  omega

theorem out_blocks (d : Dev nD) (f : S204800x128.Idx → Elt F .f32) :
    (oLoc d ↦{fullShare} f : sProp 𝕄)
      = bigSep Finset.univ fun c : Fin 2 => bigSep Finset.univ fun i : Fin 16 => bigSep Finset.univ fun r : Fin 8 =>
          (oLoc d ↦[(oCh (lp c i) r).view.set]{fullShare} f) := by
  have h := pointsTo_biUnion (ℓ := oLoc d) (q := fullShare) (f := f) (Ix := HIx 1) (Name := ℕ) (U := UU) (Lvl := ℕ) Finset.univ outSet out_disjoint
  rw [out_cover] at h
  refine h.trans ?_
  rw [bigSep_univ_prod]
  exact bigSep_congr fun c _ => bigSep_univ_prod _

variable [FloatOps F] [Named F]

/-- The three arrays whole are every task's parts. -/
theorem pay_all (d : Dev nD) (iC : S204800.Idx → Elt F .i32) (tC : S100000x128.Idx → Elt F .f32) (f : S204800x128.Idx → Elt F .f32) :
    (bigSep Finset.univ fun c : Fin 2 => bigSep Finset.univ fun i : Fin 16 => taskPay d (lp c i) (shr c i) (shr c i) iC tC f : sProp 𝕄)
      = iprop((iLoc d ↦{fullShare} iC) ∗ (tLoc d ↦{fullShare} tC) ∗ (oLoc d ↦{fullShare} f)) := by
  rw [shares (F := F) (ℓ := iLoc d) iC, shares (F := F) (ℓ := tLoc d) tC, out_blocks]
  simp only [bigSep_sep']

/-! ## What the handshakes carry -/

section Pay

variable (iC : Dev nD → S204800.Idx → Elt F .i32) (tC : Dev nD → S100000x128.Idx → Elt F .f32) (oC : Dev nD → S204800x128.Idx → Elt F .f32)

theorem nCore_zero : (K (F := F)).nCore 0 = 2 := rfl

/-- Each task takes its shares of the row numbers and of the table and its blocks of the result, and brings them back with
    the gathered rows. -/
def P : (K (F := F)).Pay (nD := nD) (Val := Elt F) (Name := ℕ) (U := UU) where
  st := fun q d c => match q with
    | 0 => bigSep Finset.univ fun i : Fin 16 => taskPay d (lp (Fin.cast nCore_zero c) i) (shr (Fin.cast nCore_zero c) i) (shr (Fin.cast nCore_zero c) i) (iC d) (tC d) (oC d)
  dn := fun q d c => match q with
    | 0 => bigSep Finset.univ fun i : Fin 16 => taskPay d (lp (Fin.cast nCore_zero c) i) (shr (Fin.cast nCore_zero c) i) (shr (Fin.cast nCore_zero c) i) (iC d) (tC d) (gat (tC d) (iC d))
  go := fun q d c i => match q with
    | 0 => taskPay d (lp (Fin.cast nCore_zero c) (Fin.cast nSub_zero i)) (shr (Fin.cast nCore_zero c) (Fin.cast nSub_zero i)) (shr (Fin.cast nCore_zero c) (Fin.cast nSub_zero i)) (iC d) (tC d) (oC d)
  td := fun q d c i => match q with
    | 0 => taskPay d (lp (Fin.cast nCore_zero c) (Fin.cast nSub_zero i)) (shr (Fin.cast nCore_zero c) (Fin.cast nSub_zero i)) (shr (Fin.cast nCore_zero c) (Fin.cast nSub_zero i)) (iC d) (tC d) (gat (tC d) (iC d))
  x := fun _ _ => iprop(emp)

instance taskPay_storable (d : Dev nD) (L : grid0.Coords) (qi qt : PosShare TreeShare) (iC : S204800.Idx → Elt F .i32)
    (tC : S100000x128.Idx → Elt F .f32) (f : S204800x128.Idx → Elt F .f32) : BI.Storable (upEmb : UEmb _ 𝕄) (taskPay d L qi qt iC tC f) := by
  unfold taskPay; infer_instance

instance P_storable : (P (F := F) iC tC oC).IsStorable where
  st q d c := match q with
    | 0 => (inferInstance : BI.Storable (upEmb : UEmb _ 𝕄) (bigSep Finset.univ fun i : Fin 16 =>
        taskPay d (lp (Fin.cast nCore_zero c) i) (shr (Fin.cast nCore_zero c) i) (shr (Fin.cast nCore_zero c) i) (iC d) (tC d) (oC d)))
  dn q d c := match q with
    | 0 => (inferInstance : BI.Storable (upEmb : UEmb _ 𝕄) (bigSep Finset.univ fun i : Fin 16 =>
        taskPay d (lp (Fin.cast nCore_zero c) i) (shr (Fin.cast nCore_zero c) i) (shr (Fin.cast nCore_zero c) i) (iC d) (tC d) (gat (tC d) (iC d))))
  go q d c i := match q with
    | 0 => taskPay_storable d (lp (Fin.cast nCore_zero c) (Fin.cast nSub_zero i)) _ _ (iC d) (tC d) (oC d)
  td q d c i := match q with
    | 0 => taskPay_storable d (lp (Fin.cast nCore_zero c) (Fin.cast nSub_zero i)) _ _ (iC d) (tC d) (gat (tC d) (iC d))

theorem tasks_cast (Φ : Fin 16 → sProp 𝕄) :
    (bigSep Finset.univ fun i : Fin ((K (F := F)).nSub 0) => Φ (Fin.cast nSub_zero i)) = bigSep Finset.univ Φ :=
  bigSep_congr fun _ _ => rfl

theorem vecSplit : (K (F := F)).VecSplit' (P iC tC oC) 0 := by
  intro d c
  show (bigSep Finset.univ fun i : Fin 16 => taskPay d (lp (Fin.cast nCore_zero c) i) (shr (Fin.cast nCore_zero c) i) (shr (Fin.cast nCore_zero c) i) (iC d) (tC d) (oC d))
    ⊢ |={Set.univ}=> iprop((bigSep Finset.univ fun i : Fin ((K (F := F)).nSub 0) => (P iC tC oC).go 0 d c i)
      ∗ ((bigSep Finset.univ fun i : Fin ((K (F := F)).nSub 0) => (P iC tC oC).td 0 d c i)
        -∗ bigSep Finset.univ fun i : Fin 16 => taskPay d (lp (Fin.cast nCore_zero c) i) (shr (Fin.cast nCore_zero c) i) (shr (Fin.cast nCore_zero c) i) (iC d) (tC d) (gat (tC d) (iC d))))
  iintro H; imodintro
  isplitl [H]; · iexact H
  iintro H; iexact H

theorem st_all (d : Dev nD) : (bigSep Finset.univ fun c : Fin ((K (F := F)).nCore 0) => (P iC tC oC).st 0 d c)
    = iprop((iLoc d ↦{fullShare} iC d) ∗ (tLoc d ↦{fullShare} tC d) ∗ (oLoc d ↦{fullShare} oC d)) :=
  pay_all d (iC d) (tC d) (oC d)
theorem dn_all (d : Dev nD) : (bigSep Finset.univ fun c : Fin ((K (F := F)).nCore 0) => (P iC tC oC).dn 0 d c)
    = iprop((iLoc d ↦{fullShare} iC d) ∗ (tLoc d ↦{fullShare} tC d) ∗ (oLoc d ↦{fullShare} gat (tC d) (iC d))) :=
  pay_all d (iC d) (tC d) (gat (tC d) (iC d))

/-! ## The obligation of a subcore -/

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3 cc0_scoped4 cc0_scoped5
          cc0_scoped6 cc0_scoped7 cc0_scoped8 cc0_scoped9 cc0_scoped10 cc0_scoped11 cc0_scoped12 cc0_scoped13 cc0_scoped14 cc0_scoped15) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).elim .inl fun h => .inr (.inl h)
  · iexact HO

set_option maxRecDepth 16384 in
theorem tileObl (hF : (K (F := F)).Facts) (hin : ∀ d j, (iC d j).toNat < 100000) : (K (F := F)).TileObl (D (F := F)) 𝒱 (P iC tC oC) v₀ 0 := by
  intro d c i O W hO _ _
  simp only [show (P iC tC oC).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (shr (Fin.cast nCore_zero c) (Fin.cast nSub_zero i)) (shr (Fin.cast nCore_zero c) (Fin.cast nSub_zero i))
    (tC d) (oC d) (hin d)).trans (wp_mono frame _ _ fun _ => obl_post)

end Pay

end Cert.Proof.KernelIdealRun

end
-- ==== Proof.ScOpsI.lean ====
/-
  The host operations of the program: those before the gather, those between the gather and the backward pass, which lay
  the two passes' weights out, and those between the two passes, which lay the last layer's out; and the arrays that they
  run over.
-/
module

public import proofs.«01_k».proof.Proof.ScLaunchI
public import Idealize.ShloMosaic.Lib.Pipeline.Frame
public import Idealize.ShloMosaic.Lib.StableHlo.RunRead

@[expose] public section

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq after wp_seq)
open Idealize.ShloMosaic.Tactic

variable {F : FTy → Type}

local notation "𝕄" => MT nD τ sig (HIx 1) (Elt F) ℕ UU ℕ

/-! ## The TensorCore's arrays -/

/-- The arrays that live through the whole run. -/
abbrev arrays : Finset (DevRef τ sig) := Pipeline.ucRefs τ sig

theorem mem_arrays {b : Ref sig .tc} (h : b.isScoped = false) : Proc.devRef (τ := τ) .tc b ∈ arrays :=
  Finset.mem_filter.mpr ⟨StableHlo.devRef_mem_tcRefs b, by rw [show (Proc.devRef (τ := τ) .tc b : DevRef τ sig).isScoped = b.isScoped from rfl, h]; decide⟩

theorem unscoped_held (d : Dev nD) (W : Valuation τ sig (Elt F)) :
    (unscopedBufs d (fun b => W (Proc.devRef .tc b)) : sProp 𝕄) = held (T d) arrays W :=
  Pipeline.unscopedBufs_held d W

abbrev iR : DevRef τ sig := Proc.devRef .tc (main_v1 : Ref sig .tc)
abbrev tR : DevRef τ sig := Proc.devRef .tc (main_v2 : Ref sig .tc)
abbrev oR : DevRef τ sig := Proc.devRef .tc (main_v3 : Ref sig .tc)
abbrev trio : Finset (DevRef τ sig) := {iR, tR, oR}

theorem trio_sub : trio ⊆ arrays := by
  intro b hb
  simp only [Finset.mem_insert, Finset.mem_singleton] at hb
  rcases hb with rfl | rfl | rfl <;> exact mem_arrays rfl

theorem oR_mem : oR ∈ trio := by decide

theorem held_trio (d : Dev nD) (W : Valuation τ sig (Elt F)) :
    (held (T d) trio W : sProp 𝕄) = iprop((iLoc d ↦{fullShare} W iR) ∗ (tLoc d ↦{fullShare} W tR) ∗ (oLoc d ↦{fullShare} W oR)) := by
  unfold held trio
  rw [SparseCore.bigSep_insert' (by decide), SparseCore.bigSep_insert' (by decide), bigSep_singleton]

variable [FloatOps F] [Named F]

/-! ## The host operations -/

abbrev opsA : List (HloOp τ sig (Elt F)) :=
  [StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
   StableHlo.reshape main_v0 main_v1 (rfl : (.i32 : EltTy) = .i32) shapeCasts_S200x1024_S204800,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S100000x64, .f32⟩) main_call0.v0 main_call0.v1 (fun x v => pad S100000x128 ![0, 0] ![0, 64] ![0, 0] x v pads_S100000x64_S100000x128_000_0640 h_S_)]
/-- The gathered rows by time, and the backward pass's weights. -/
abbrev opsB : List (HloOp τ sig (Elt F)) :=
  [StableHlo.reshape main_v3 main_v4 (rfl : (.f32 : EltTy) = .f32) shapeCasts_S204800x128_S200x1024x128,
   StableHlo.unary main_arg6 main_v5 ((transpose S64x320 [1, 0] · transposes_S320x64_S64x320_1_0) : (⟨S320x64, .f32⟩ : BufTy).Contents (Elt F) → (⟨S64x320, .f32⟩ : BufTy).Contents (Elt F)),
   StableHlo.unary main_arg7 main_v6 ((transpose S80x320 [1, 0] · transposes_S320x80_S80x320_1_0) : (⟨S320x80, .f32⟩ : BufTy).Contents (Elt F) → (⟨S80x320, .f32⟩ : BufTy).Contents (Elt F)),
   StableHlo.binary main_arg8 main_arg9 main_v7 (addf : (⟨S320, .f32⟩ : BufTy).Contents (Elt F) → (⟨S320, .f32⟩ : BufTy).Contents (Elt F) → (⟨S320, .f32⟩ : BufTy).Contents (Elt F)),
   StableHlo.nullary main_cst (constant S_ .f32 0x00000000#32),
   StableHlo.unary main_cst main_v8 (broadcastInDim S128x512 ![] bcast_S_S128x512 : (⟨S_, .f32⟩ : BufTy).Contents (Elt F) → (⟨S128x512, .f32⟩ : BufTy).Contents (Elt F)),
   StableHlo.nullary main_cst_0 (constant S_ .f32 0x00000000#32),
   StableHlo.unary main_cst_0 main_v9 (broadcastInDim S128x512 ![] bcast_S_S128x512 : (⟨S_, .f32⟩ : BufTy).Contents (Elt F) → (⟨S128x512, .f32⟩ : BufTy).Contents (Elt F)),
   StableHlo.nullary main_cst_1 (constant S_ .f32 0x00000000#32),
   StableHlo.unary main_cst_1 main_v10 (broadcastInDim S1x512 ![] bcast_S_S1x512 : (⟨S_, .f32⟩ : BufTy).Contents (Elt F) → (⟨S1x512, .f32⟩ : BufTy).Contents (Elt F)),
   StableHlo.unary main_v5 main_v11 ((extractStridedSlice S64x80 ![0, 0] · slices_S64x320_S64x80_0_0) : (⟨S64x320, .f32⟩ : BufTy).Contents (Elt F) → (⟨S64x80, .f32⟩ : BufTy).Contents (Elt F)),
   StableHlo.nullary main_c_2 (constantI S_ 32 0#32),
   StableHlo.unary main_c_2 main_v12 (broadcastInDim S1 ![] bcast_S_S1 : (⟨S_, .i32⟩ : BufTy).Contents (Elt F) → (⟨S1, .i32⟩ : BufTy).Contents (Elt F)),
   StableHlo.nullary main_c_3 (constantI S_ 32 0#32),
   StableHlo.unary main_c_3 main_v13 (broadcastInDim S1 ![] bcast_S_S1 : (⟨S_, .i32⟩ : BufTy).Contents (Elt F) → (⟨S1, .i32⟩ : BufTy).Contents (Elt F)),
   StableHlo.binary main_v12 main_v13 main_v14 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v8 main_v14 main_v11 main_v15 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v6 main_v16 ((extractStridedSlice S80x80 ![0, 0] · slices_S80x320_S80x80_0_0) : (⟨S80x320, .f32⟩ : BufTy).Contents (Elt F) → (⟨S80x80, .f32⟩ : BufTy).Contents (Elt F)),
   StableHlo.nullary main_c_4 (constantI S_ 32 0#32),
   StableHlo.unary main_c_4 main_v17 (broadcastInDim S1 ![] bcast_S_S1 : (⟨S_, .i32⟩ : BufTy).Contents (Elt F) → (⟨S1, .i32⟩ : BufTy).Contents (Elt F)),
   StableHlo.nullary main_c_5 (constantI S_ 32 0#32),
   StableHlo.unary main_c_5 main_v18 (broadcastInDim S1 ![] bcast_S_S1 : (⟨S_, .i32⟩ : BufTy).Contents (Elt F) → (⟨S1, .i32⟩ : BufTy).Contents (Elt F)),
   StableHlo.binary main_v17 main_v18 main_v19 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v9 main_v19 main_v16 main_v20 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v7 main_v21 ((extractStridedSlice S80 ![0] · slices_S320_S80_0) : (⟨S320, .f32⟩ : BufTy).Contents (Elt F) → (⟨S80, .f32⟩ : BufTy).Contents (Elt F)),
   StableHlo.nullary main_c_6 (constantI S_ 32 0#32),
   StableHlo.unary main_c_6 main_v22 (broadcastInDim S1 ![] bcast_S_S1 : (⟨S_, .i32⟩ : BufTy).Contents (Elt F) → (⟨S1, .i32⟩ : BufTy).Contents (Elt F)),
   StableHlo.nullary main_c_7 (constantI S_ 32 0#32),
   StableHlo.unary main_c_7 main_v23 (broadcastInDim S1 ![] bcast_S_S1 : (⟨S_, .i32⟩ : BufTy).Contents (Elt F) → (⟨S1, .i32⟩ : BufTy).Contents (Elt F)),
   StableHlo.binary main_v22 main_v23 main_v24 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v10 main_v24 main_v21 main_v25 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v5 main_v26 ((extractStridedSlice S64x80 ![0, 80] · slices_S64x320_S64x80_0_80) : (⟨S64x320, .f32⟩ : BufTy).Contents (Elt F) → (⟨S64x80, .f32⟩ : BufTy).Contents (Elt F)),
   StableHlo.nullary main_c_8 (constantI S_ 32 0#32),
   StableHlo.unary main_c_8 main_v27 (broadcastInDim S1 ![] bcast_S_S1 : (⟨S_, .i32⟩ : BufTy).Contents (Elt F) → (⟨S1, .i32⟩ : BufTy).Contents (Elt F)),
   StableHlo.nullary main_c_9 (constantI S_ 32 128#32),
   StableHlo.unary main_c_9 main_v28 (broadcastInDim S1 ![] bcast_S_S1 : (⟨S_, .i32⟩ : BufTy).Contents (Elt F) → (⟨S1, .i32⟩ : BufTy).Contents (Elt F)),
   StableHlo.binary main_v27 main_v28 main_v29 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v15 main_v29 main_v26 main_v30 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v6 main_v31 ((extractStridedSlice S80x80 ![0, 80] · slices_S80x320_S80x80_0_80) : (⟨S80x320, .f32⟩ : BufTy).Contents (Elt F) → (⟨S80x80, .f32⟩ : BufTy).Contents (Elt F)),
   StableHlo.nullary main_c_10 (constantI S_ 32 0#32),
   StableHlo.unary main_c_10 main_v32 (broadcastInDim S1 ![] bcast_S_S1 : (⟨S_, .i32⟩ : BufTy).Contents (Elt F) → (⟨S1, .i32⟩ : BufTy).Contents (Elt F)),
   StableHlo.nullary main_c_11 (constantI S_ 32 128#32),
   StableHlo.unary main_c_11 main_v33 (broadcastInDim S1 ![] bcast_S_S1 : (⟨S_, .i32⟩ : BufTy).Contents (Elt F) → (⟨S1, .i32⟩ : BufTy).Contents (Elt F)),
   StableHlo.binary main_v32 main_v33 main_v34 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v20 main_v34 main_v31 main_v35 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v7 main_v36 ((extractStridedSlice S80 ![80] · slices_S320_S80_80) : (⟨S320, .f32⟩ : BufTy).Contents (Elt F) → (⟨S80, .f32⟩ : BufTy).Contents (Elt F)),
   StableHlo.nullary main_c_12 (constantI S_ 32 0#32),
   StableHlo.unary main_c_12 main_v37 (broadcastInDim S1 ![] bcast_S_S1 : (⟨S_, .i32⟩ : BufTy).Contents (Elt F) → (⟨S1, .i32⟩ : BufTy).Contents (Elt F)),
   StableHlo.nullary main_c_13 (constantI S_ 32 128#32),
   StableHlo.unary main_c_13 main_v38 (broadcastInDim S1 ![] bcast_S_S1 : (⟨S_, .i32⟩ : BufTy).Contents (Elt F) → (⟨S1, .i32⟩ : BufTy).Contents (Elt F)),
   StableHlo.binary main_v37 main_v38 main_v39 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v25 main_v39 main_v36 main_v40 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v5 main_v41 ((extractStridedSlice S64x80 ![0, 160] · slices_S64x320_S64x80_0_160) : (⟨S64x320, .f32⟩ : BufTy).Contents (Elt F) → (⟨S64x80, .f32⟩ : BufTy).Contents (Elt F)),
   StableHlo.nullary main_c_14 (constantI S_ 32 0#32),
   StableHlo.unary main_c_14 main_v42 (broadcastInDim S1 ![] bcast_S_S1 : (⟨S_, .i32⟩ : BufTy).Contents (Elt F) → (⟨S1, .i32⟩ : BufTy).Contents (Elt F)),
   StableHlo.nullary main_c_15 (constantI S_ 32 256#32),
   StableHlo.unary main_c_15 main_v43 (broadcastInDim S1 ![] bcast_S_S1 : (⟨S_, .i32⟩ : BufTy).Contents (Elt F) → (⟨S1, .i32⟩ : BufTy).Contents (Elt F)),
   StableHlo.binary main_v42 main_v43 main_v44 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v30 main_v44 main_v41 main_v45 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v6 main_v46 ((extractStridedSlice S80x80 ![0, 160] · slices_S80x320_S80x80_0_160) : (⟨S80x320, .f32⟩ : BufTy).Contents (Elt F) → (⟨S80x80, .f32⟩ : BufTy).Contents (Elt F)),
   StableHlo.nullary main_c_16 (constantI S_ 32 0#32),
   StableHlo.unary main_c_16 main_v47 (broadcastInDim S1 ![] bcast_S_S1 : (⟨S_, .i32⟩ : BufTy).Contents (Elt F) → (⟨S1, .i32⟩ : BufTy).Contents (Elt F)),
   StableHlo.nullary main_c_17 (constantI S_ 32 256#32),
   StableHlo.unary main_c_17 main_v48 (broadcastInDim S1 ![] bcast_S_S1 : (⟨S_, .i32⟩ : BufTy).Contents (Elt F) → (⟨S1, .i32⟩ : BufTy).Contents (Elt F)),
   StableHlo.binary main_v47 main_v48 main_v49 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v35 main_v49 main_v46 main_v50 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v7 main_v51 ((extractStridedSlice S80 ![160] · slices_S320_S80_160) : (⟨S320, .f32⟩ : BufTy).Contents (Elt F) → (⟨S80, .f32⟩ : BufTy).Contents (Elt F)),
   StableHlo.nullary main_c_18 (constantI S_ 32 0#32),
   StableHlo.unary main_c_18 main_v52 (broadcastInDim S1 ![] bcast_S_S1 : (⟨S_, .i32⟩ : BufTy).Contents (Elt F) → (⟨S1, .i32⟩ : BufTy).Contents (Elt F)),
   StableHlo.nullary main_c_19 (constantI S_ 32 256#32),
   StableHlo.unary main_c_19 main_v53 (broadcastInDim S1 ![] bcast_S_S1 : (⟨S_, .i32⟩ : BufTy).Contents (Elt F) → (⟨S1, .i32⟩ : BufTy).Contents (Elt F)),
   StableHlo.binary main_v52 main_v53 main_v54 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v40 main_v54 main_v51 main_v55 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v5 main_v56 ((extractStridedSlice S64x80 ![0, 240] · slices_S64x320_S64x80_0_240) : (⟨S64x320, .f32⟩ : BufTy).Contents (Elt F) → (⟨S64x80, .f32⟩ : BufTy).Contents (Elt F)),
   StableHlo.nullary main_c_20 (constantI S_ 32 0#32),
   StableHlo.unary main_c_20 main_v57 (broadcastInDim S1 ![] bcast_S_S1 : (⟨S_, .i32⟩ : BufTy).Contents (Elt F) → (⟨S1, .i32⟩ : BufTy).Contents (Elt F)),
   StableHlo.nullary main_c_21 (constantI S_ 32 384#32),
   StableHlo.unary main_c_21 main_v58 (broadcastInDim S1 ![] bcast_S_S1 : (⟨S_, .i32⟩ : BufTy).Contents (Elt F) → (⟨S1, .i32⟩ : BufTy).Contents (Elt F)),
   StableHlo.binary main_v57 main_v58 main_v59 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v45 main_v59 main_v56 main_v60 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v6 main_v61 ((extractStridedSlice S80x80 ![0, 240] · slices_S80x320_S80x80_0_240) : (⟨S80x320, .f32⟩ : BufTy).Contents (Elt F) → (⟨S80x80, .f32⟩ : BufTy).Contents (Elt F)),
   StableHlo.nullary main_c_22 (constantI S_ 32 0#32),
   StableHlo.unary main_c_22 main_v62 (broadcastInDim S1 ![] bcast_S_S1 : (⟨S_, .i32⟩ : BufTy).Contents (Elt F) → (⟨S1, .i32⟩ : BufTy).Contents (Elt F)),
   StableHlo.nullary main_c_23 (constantI S_ 32 384#32),
   StableHlo.unary main_c_23 main_v63 (broadcastInDim S1 ![] bcast_S_S1 : (⟨S_, .i32⟩ : BufTy).Contents (Elt F) → (⟨S1, .i32⟩ : BufTy).Contents (Elt F)),
   StableHlo.binary main_v62 main_v63 main_v64 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v50 main_v64 main_v61 main_v65 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v7 main_v66 ((extractStridedSlice S80 ![240] · slices_S320_S80_240) : (⟨S320, .f32⟩ : BufTy).Contents (Elt F) → (⟨S80, .f32⟩ : BufTy).Contents (Elt F)),
   StableHlo.nullary main_c_24 (constantI S_ 32 0#32),
   StableHlo.unary main_c_24 main_v67 (broadcastInDim S1 ![] bcast_S_S1 : (⟨S_, .i32⟩ : BufTy).Contents (Elt F) → (⟨S1, .i32⟩ : BufTy).Contents (Elt F)),
   StableHlo.nullary main_c_25 (constantI S_ 32 384#32),
   StableHlo.unary main_c_25 main_v68 (broadcastInDim S1 ![] bcast_S_S1 : (⟨S_, .i32⟩ : BufTy).Contents (Elt F) → (⟨S1, .i32⟩ : BufTy).Contents (Elt F)),
   StableHlo.binary main_v67 main_v68 main_v69 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v55 main_v69 main_v66 main_v70 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F))]
/-- The forward pass's weights. -/
abbrev opsF : List (HloOp τ sig (Elt F)) :=
  [StableHlo.unary main_arg2 main_v71 ((transpose S64x320 [1, 0] · transposes_S320x64_S64x320_1_0) : (⟨S320x64, .f32⟩ : BufTy).Contents (Elt F) → (⟨S64x320, .f32⟩ : BufTy).Contents (Elt F)),
   StableHlo.unary main_arg3 main_v72 ((transpose S80x320 [1, 0] · transposes_S320x80_S80x320_1_0) : (⟨S320x80, .f32⟩ : BufTy).Contents (Elt F) → (⟨S80x320, .f32⟩ : BufTy).Contents (Elt F)),
   StableHlo.binary main_arg4 main_arg5 main_v73 (addf : (⟨S320, .f32⟩ : BufTy).Contents (Elt F) → (⟨S320, .f32⟩ : BufTy).Contents (Elt F) → (⟨S320, .f32⟩ : BufTy).Contents (Elt F)),
   StableHlo.nullary main_cst_26 (constant S_ .f32 0x00000000#32),
   StableHlo.unary main_cst_26 main_v74 (broadcastInDim S128x512 ![] bcast_S_S128x512 : (⟨S_, .f32⟩ : BufTy).Contents (Elt F) → (⟨S128x512, .f32⟩ : BufTy).Contents (Elt F)),
   StableHlo.nullary main_cst_27 (constant S_ .f32 0x00000000#32),
   StableHlo.unary main_cst_27 main_v75 (broadcastInDim S128x512 ![] bcast_S_S128x512 : (⟨S_, .f32⟩ : BufTy).Contents (Elt F) → (⟨S128x512, .f32⟩ : BufTy).Contents (Elt F)),
   StableHlo.nullary main_cst_28 (constant S_ .f32 0x00000000#32),
   StableHlo.unary main_cst_28 main_v76 (broadcastInDim S1x512 ![] bcast_S_S1x512 : (⟨S_, .f32⟩ : BufTy).Contents (Elt F) → (⟨S1x512, .f32⟩ : BufTy).Contents (Elt F)),
   StableHlo.unary main_v71 main_v77 ((extractStridedSlice S64x80 ![0, 0] · slices_S64x320_S64x80_0_0) : (⟨S64x320, .f32⟩ : BufTy).Contents (Elt F) → (⟨S64x80, .f32⟩ : BufTy).Contents (Elt F)),
   StableHlo.nullary main_c_29 (constantI S_ 32 0#32),
   StableHlo.unary main_c_29 main_v78 (broadcastInDim S1 ![] bcast_S_S1 : (⟨S_, .i32⟩ : BufTy).Contents (Elt F) → (⟨S1, .i32⟩ : BufTy).Contents (Elt F)),
   StableHlo.nullary main_c_30 (constantI S_ 32 0#32),
   StableHlo.unary main_c_30 main_v79 (broadcastInDim S1 ![] bcast_S_S1 : (⟨S_, .i32⟩ : BufTy).Contents (Elt F) → (⟨S1, .i32⟩ : BufTy).Contents (Elt F)),
   StableHlo.binary main_v78 main_v79 main_v80 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v74 main_v80 main_v77 main_v81 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v72 main_v82 ((extractStridedSlice S80x80 ![0, 0] · slices_S80x320_S80x80_0_0) : (⟨S80x320, .f32⟩ : BufTy).Contents (Elt F) → (⟨S80x80, .f32⟩ : BufTy).Contents (Elt F)),
   StableHlo.nullary main_c_31 (constantI S_ 32 0#32),
   StableHlo.unary main_c_31 main_v83 (broadcastInDim S1 ![] bcast_S_S1 : (⟨S_, .i32⟩ : BufTy).Contents (Elt F) → (⟨S1, .i32⟩ : BufTy).Contents (Elt F)),
   StableHlo.nullary main_c_32 (constantI S_ 32 0#32),
   StableHlo.unary main_c_32 main_v84 (broadcastInDim S1 ![] bcast_S_S1 : (⟨S_, .i32⟩ : BufTy).Contents (Elt F) → (⟨S1, .i32⟩ : BufTy).Contents (Elt F)),
   StableHlo.binary main_v83 main_v84 main_v85 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v75 main_v85 main_v82 main_v86 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v73 main_v87 ((extractStridedSlice S80 ![0] · slices_S320_S80_0) : (⟨S320, .f32⟩ : BufTy).Contents (Elt F) → (⟨S80, .f32⟩ : BufTy).Contents (Elt F)),
   StableHlo.nullary main_c_33 (constantI S_ 32 0#32),
   StableHlo.unary main_c_33 main_v88 (broadcastInDim S1 ![] bcast_S_S1 : (⟨S_, .i32⟩ : BufTy).Contents (Elt F) → (⟨S1, .i32⟩ : BufTy).Contents (Elt F)),
   StableHlo.nullary main_c_34 (constantI S_ 32 0#32),
   StableHlo.unary main_c_34 main_v89 (broadcastInDim S1 ![] bcast_S_S1 : (⟨S_, .i32⟩ : BufTy).Contents (Elt F) → (⟨S1, .i32⟩ : BufTy).Contents (Elt F)),
   StableHlo.binary main_v88 main_v89 main_v90 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v76 main_v90 main_v87 main_v91 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v71 main_v92 ((extractStridedSlice S64x80 ![0, 80] · slices_S64x320_S64x80_0_80) : (⟨S64x320, .f32⟩ : BufTy).Contents (Elt F) → (⟨S64x80, .f32⟩ : BufTy).Contents (Elt F)),
   StableHlo.nullary main_c_35 (constantI S_ 32 0#32),
   StableHlo.unary main_c_35 main_v93 (broadcastInDim S1 ![] bcast_S_S1 : (⟨S_, .i32⟩ : BufTy).Contents (Elt F) → (⟨S1, .i32⟩ : BufTy).Contents (Elt F)),
   StableHlo.nullary main_c_36 (constantI S_ 32 128#32),
   StableHlo.unary main_c_36 main_v94 (broadcastInDim S1 ![] bcast_S_S1 : (⟨S_, .i32⟩ : BufTy).Contents (Elt F) → (⟨S1, .i32⟩ : BufTy).Contents (Elt F)),
   StableHlo.binary main_v93 main_v94 main_v95 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v81 main_v95 main_v92 main_v96 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v72 main_v97 ((extractStridedSlice S80x80 ![0, 80] · slices_S80x320_S80x80_0_80) : (⟨S80x320, .f32⟩ : BufTy).Contents (Elt F) → (⟨S80x80, .f32⟩ : BufTy).Contents (Elt F)),
   StableHlo.nullary main_c_37 (constantI S_ 32 0#32),
   StableHlo.unary main_c_37 main_v98 (broadcastInDim S1 ![] bcast_S_S1 : (⟨S_, .i32⟩ : BufTy).Contents (Elt F) → (⟨S1, .i32⟩ : BufTy).Contents (Elt F)),
   StableHlo.nullary main_c_38 (constantI S_ 32 128#32),
   StableHlo.unary main_c_38 main_v99 (broadcastInDim S1 ![] bcast_S_S1 : (⟨S_, .i32⟩ : BufTy).Contents (Elt F) → (⟨S1, .i32⟩ : BufTy).Contents (Elt F)),
   StableHlo.binary main_v98 main_v99 main_v100 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v86 main_v100 main_v97 main_v101 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v73 main_v102 ((extractStridedSlice S80 ![80] · slices_S320_S80_80) : (⟨S320, .f32⟩ : BufTy).Contents (Elt F) → (⟨S80, .f32⟩ : BufTy).Contents (Elt F)),
   StableHlo.nullary main_c_39 (constantI S_ 32 0#32),
   StableHlo.unary main_c_39 main_v103 (broadcastInDim S1 ![] bcast_S_S1 : (⟨S_, .i32⟩ : BufTy).Contents (Elt F) → (⟨S1, .i32⟩ : BufTy).Contents (Elt F)),
   StableHlo.nullary main_c_40 (constantI S_ 32 128#32),
   StableHlo.unary main_c_40 main_v104 (broadcastInDim S1 ![] bcast_S_S1 : (⟨S_, .i32⟩ : BufTy).Contents (Elt F) → (⟨S1, .i32⟩ : BufTy).Contents (Elt F)),
   StableHlo.binary main_v103 main_v104 main_v105 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v91 main_v105 main_v102 main_v106 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v71 main_v107 ((extractStridedSlice S64x80 ![0, 160] · slices_S64x320_S64x80_0_160) : (⟨S64x320, .f32⟩ : BufTy).Contents (Elt F) → (⟨S64x80, .f32⟩ : BufTy).Contents (Elt F)),
   StableHlo.nullary main_c_41 (constantI S_ 32 0#32),
   StableHlo.unary main_c_41 main_v108 (broadcastInDim S1 ![] bcast_S_S1 : (⟨S_, .i32⟩ : BufTy).Contents (Elt F) → (⟨S1, .i32⟩ : BufTy).Contents (Elt F)),
   StableHlo.nullary main_c_42 (constantI S_ 32 256#32),
   StableHlo.unary main_c_42 main_v109 (broadcastInDim S1 ![] bcast_S_S1 : (⟨S_, .i32⟩ : BufTy).Contents (Elt F) → (⟨S1, .i32⟩ : BufTy).Contents (Elt F)),
   StableHlo.binary main_v108 main_v109 main_v110 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v96 main_v110 main_v107 main_v111 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v72 main_v112 ((extractStridedSlice S80x80 ![0, 160] · slices_S80x320_S80x80_0_160) : (⟨S80x320, .f32⟩ : BufTy).Contents (Elt F) → (⟨S80x80, .f32⟩ : BufTy).Contents (Elt F)),
   StableHlo.nullary main_c_43 (constantI S_ 32 0#32),
   StableHlo.unary main_c_43 main_v113 (broadcastInDim S1 ![] bcast_S_S1 : (⟨S_, .i32⟩ : BufTy).Contents (Elt F) → (⟨S1, .i32⟩ : BufTy).Contents (Elt F)),
   StableHlo.nullary main_c_44 (constantI S_ 32 256#32),
   StableHlo.unary main_c_44 main_v114 (broadcastInDim S1 ![] bcast_S_S1 : (⟨S_, .i32⟩ : BufTy).Contents (Elt F) → (⟨S1, .i32⟩ : BufTy).Contents (Elt F)),
   StableHlo.binary main_v113 main_v114 main_v115 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v101 main_v115 main_v112 main_v116 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v73 main_v117 ((extractStridedSlice S80 ![160] · slices_S320_S80_160) : (⟨S320, .f32⟩ : BufTy).Contents (Elt F) → (⟨S80, .f32⟩ : BufTy).Contents (Elt F)),
   StableHlo.nullary main_c_45 (constantI S_ 32 0#32),
   StableHlo.unary main_c_45 main_v118 (broadcastInDim S1 ![] bcast_S_S1 : (⟨S_, .i32⟩ : BufTy).Contents (Elt F) → (⟨S1, .i32⟩ : BufTy).Contents (Elt F)),
   StableHlo.nullary main_c_46 (constantI S_ 32 256#32),
   StableHlo.unary main_c_46 main_v119 (broadcastInDim S1 ![] bcast_S_S1 : (⟨S_, .i32⟩ : BufTy).Contents (Elt F) → (⟨S1, .i32⟩ : BufTy).Contents (Elt F)),
   StableHlo.binary main_v118 main_v119 main_v120 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v106 main_v120 main_v117 main_v121 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F)),
   StableHlo.unary main_v71 main_v122 ((extractStridedSlice S64x80 ![0, 240] · slices_S64x320_S64x80_0_240) : (⟨S64x320, .f32⟩ : BufTy).Contents (Elt F) → (⟨S64x80, .f32⟩ : BufTy).Contents (Elt F)),
   StableHlo.nullary main_c_47 (constantI S_ 32 0#32),
   StableHlo.unary main_c_47 main_v123 (broadcastInDim S1 ![] bcast_S_S1 : (⟨S_, .i32⟩ : BufTy).Contents (Elt F) → (⟨S1, .i32⟩ : BufTy).Contents (Elt F)),
   StableHlo.nullary main_c_48 (constantI S_ 32 384#32),
   StableHlo.unary main_c_48 main_v124 (broadcastInDim S1 ![] bcast_S_S1 : (⟨S_, .i32⟩ : BufTy).Contents (Elt F) → (⟨S1, .i32⟩ : BufTy).Contents (Elt F)),
   StableHlo.binary main_v123 main_v124 main_v125 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v111 main_v125 main_v122 main_v126 ((fun x i u => Host.scatter scatter_S128x512_S2_S64x80_01_n_01_0 (fun _ b => b) x i u) : (⟨S128x512, .f32⟩ : BufTy).Contents (Elt F) → (⟨S2, .i32⟩ : BufTy).Contents (Elt F) → (⟨S64x80, .f32⟩ : BufTy).Contents (Elt F) → (⟨S128x512, .f32⟩ : BufTy).Contents (Elt F)),
   StableHlo.unary main_v72 main_v127 ((extractStridedSlice S80x80 ![0, 240] · slices_S80x320_S80x80_0_240) : (⟨S80x320, .f32⟩ : BufTy).Contents (Elt F) → (⟨S80x80, .f32⟩ : BufTy).Contents (Elt F)),
   StableHlo.nullary main_c_49 (constantI S_ 32 0#32),
   StableHlo.unary main_c_49 main_v128 (broadcastInDim S1 ![] bcast_S_S1 : (⟨S_, .i32⟩ : BufTy).Contents (Elt F) → (⟨S1, .i32⟩ : BufTy).Contents (Elt F)),
   StableHlo.nullary main_c_50 (constantI S_ 32 384#32),
   StableHlo.unary main_c_50 main_v129 (broadcastInDim S1 ![] bcast_S_S1 : (⟨S_, .i32⟩ : BufTy).Contents (Elt F) → (⟨S1, .i32⟩ : BufTy).Contents (Elt F)),
   StableHlo.binary main_v128 main_v129 main_v130 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v116 main_v130 main_v127 main_v131 ((fun x i u => Host.scatter scatter_S128x512_S2_S80x80_01_n_01_0 (fun _ b => b) x i u) : (⟨S128x512, .f32⟩ : BufTy).Contents (Elt F) → (⟨S2, .i32⟩ : BufTy).Contents (Elt F) → (⟨S80x80, .f32⟩ : BufTy).Contents (Elt F) → (⟨S128x512, .f32⟩ : BufTy).Contents (Elt F)),
   StableHlo.unary main_v73 main_v132 ((extractStridedSlice S80 ![240] · slices_S320_S80_240) : (⟨S320, .f32⟩ : BufTy).Contents (Elt F) → (⟨S80, .f32⟩ : BufTy).Contents (Elt F)),
   StableHlo.nullary main_c_51 (constantI S_ 32 0#32),
   StableHlo.unary main_c_51 main_v133 (broadcastInDim S1 ![] bcast_S_S1 : (⟨S_, .i32⟩ : BufTy).Contents (Elt F) → (⟨S1, .i32⟩ : BufTy).Contents (Elt F)),
   StableHlo.nullary main_c_52 (constantI S_ 32 384#32),
   StableHlo.unary main_c_52 main_v134 (broadcastInDim S1 ![] bcast_S_S1 : (⟨S_, .i32⟩ : BufTy).Contents (Elt F) → (⟨S1, .i32⟩ : BufTy).Contents (Elt F)),
   StableHlo.binary main_v133 main_v134 main_v135 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v121 main_v135 main_v132 main_v136 ((fun x i u => Host.scatter scatter_S1x512_S2_S80_0_0_01_0 (fun _ b => b) x i u) : (⟨S1x512, .f32⟩ : BufTy).Contents (Elt F) → (⟨S2, .i32⟩ : BufTy).Contents (Elt F) → (⟨S80, .f32⟩ : BufTy).Contents (Elt F) → (⟨S1x512, .f32⟩ : BufTy).Contents (Elt F))]
/-- The last layer's weights. -/
abbrev opsC : List (HloOp τ sig (Elt F)) :=
  [StableHlo.nullary main_cst_53 (constant S_ .f32 0x00000000#32),
   StableHlo.unary main_cst_53 main_v138 (broadcastInDim S128x15 ![] bcast_S_S128x15 : (⟨S_, .f32⟩ : BufTy).Contents (Elt F) → (⟨S128x15, .f32⟩ : BufTy).Contents (Elt F)),
   StableHlo.unary main_arg10 main_v139 ((extractStridedSlice S15x80 ![0, 0] · slices_S15x160_S15x80_0_0) : (⟨S15x160, .f32⟩ : BufTy).Contents (Elt F) → (⟨S15x80, .f32⟩ : BufTy).Contents (Elt F)),
   StableHlo.unary main_v139 main_v140 ((transpose S80x15 [1, 0] · transposes_S15x80_S80x15_1_0) : (⟨S15x80, .f32⟩ : BufTy).Contents (Elt F) → (⟨S80x15, .f32⟩ : BufTy).Contents (Elt F)),
   StableHlo.nullary main_c_54 (constantI S_ 32 0#32),
   StableHlo.unary main_c_54 main_v141 (broadcastInDim S1 ![] bcast_S_S1 : (⟨S_, .i32⟩ : BufTy).Contents (Elt F) → (⟨S1, .i32⟩ : BufTy).Contents (Elt F)),
   StableHlo.ternary main_v138 main_v141 main_v140 main_v142 ((fun x i u => Host.scatter scatter_S128x15_S1_S80x15_01_n_0_0 (fun _ b => b) x i u) : (⟨S128x15, .f32⟩ : BufTy).Contents (Elt F) → (⟨S1, .i32⟩ : BufTy).Contents (Elt F) → (⟨S80x15, .f32⟩ : BufTy).Contents (Elt F) → (⟨S128x15, .f32⟩ : BufTy).Contents (Elt F)),
   StableHlo.unary main_arg10 main_v143 ((extractStridedSlice S15x80 ![0, 80] · slices_S15x160_S15x80_0_80) : (⟨S15x160, .f32⟩ : BufTy).Contents (Elt F) → (⟨S15x80, .f32⟩ : BufTy).Contents (Elt F)),
   StableHlo.unary main_v143 main_v144 ((transpose S80x15 [1, 0] · transposes_S15x80_S80x15_1_0) : (⟨S15x80, .f32⟩ : BufTy).Contents (Elt F) → (⟨S80x15, .f32⟩ : BufTy).Contents (Elt F)),
   StableHlo.reshape main_arg11 main_v145 (rfl : (.f32 : EltTy) = .f32) shapeCasts_S15_S1x15]

set_option maxHeartbeats 4000000 in
theorem main_eq (d : Dev nD) : main (F := F) d = (seq opsA >>= fun _ => (K (F := F)).run d 0 >>= fun _ => seq opsB >>= fun _ => seq opsF >>= fun _ =>
    SparseCore.liftProg (Prog.lift (.customCall (Pipeline.entry 0) ())) >>= fun _ => seq opsC >>= fun _ =>
    SparseCore.liftProg (Prog.lift (.customCall (Pipeline.entry 1) ())) >>= fun _ => pure ⟨⟩) := rfl

theorem opsA_sub : ∀ op ∈ opsA (F := F), op.bufs ⊆ arrays := fun op h => Pipeline.sub_ucRefs op
  ((List.forall_iff_forall_mem (p := fun op => op.bufs ⊆ StableHlo.tcRefs τ sig)).mp (by
    simp only [List.Forall, StableHlo.TRef.unary, StableHlo.TRef.binary, StableHlo.unary_bufs_sub, StableHlo.binary_bufs_sub, StableHlo.ternary_bufs_sub,
      StableHlo.nullary_bufs_sub, StableHlo.reshape_bufs_sub, and_self]) op h)
set_option maxHeartbeats 1000000 in
theorem opsB_tc : (opsB (F := F)).Forall fun op => op.bufs ⊆ StableHlo.tcRefs τ sig := by
  repeat' first
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.reshape_bufs_sub ..
    | refine (List.forall_cons ..).mpr ⟨?_, ?_⟩
    | exact True.intro
theorem opsB_sub : ∀ op ∈ opsB (F := F), op.bufs ⊆ arrays := fun op h => Pipeline.sub_ucRefs op
  ((List.forall_iff_forall_mem (p := fun op => op.bufs ⊆ StableHlo.tcRefs τ sig)).mp opsB_tc op h)
set_option maxHeartbeats 1000000 in
theorem opsF_tc : (opsF (F := F)).Forall fun op => op.bufs ⊆ StableHlo.tcRefs τ sig := by
  repeat' first
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.reshape_bufs_sub ..
    | refine (List.forall_cons ..).mpr ⟨?_, ?_⟩
    | exact True.intro
theorem opsF_sub : ∀ op ∈ opsF (F := F), op.bufs ⊆ arrays := fun op h => Pipeline.sub_ucRefs op
  ((List.forall_iff_forall_mem (p := fun op => op.bufs ⊆ StableHlo.tcRefs τ sig)).mp opsF_tc op h)
set_option maxHeartbeats 1000000 in
theorem opsC_tc : (opsC (F := F)).Forall fun op => op.bufs ⊆ StableHlo.tcRefs τ sig := by
  repeat' first
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.reshape_bufs_sub ..
    | refine (List.forall_cons ..).mpr ⟨?_, ?_⟩
    | exact True.intro
theorem opsC_sub : ∀ op ∈ opsC (F := F), op.bufs ⊆ arrays := fun op h => Pipeline.sub_ucRefs op
  ((List.forall_iff_forall_mem (p := fun op => op.bufs ⊆ StableHlo.tcRefs τ sig)).mp opsC_tc op h)
theorem opsA_fresh : ∀ op ∈ opsA (F := F), op.fresh = ∅ := fun op h =>
  (List.forall_iff_forall_mem (p := fun op => op.fresh = ∅)).mp (StableHlo.forall_fresh_of_map rfl) op h
theorem opsB_fresh : ∀ op ∈ opsB (F := F), op.fresh = ∅ := fun op h =>
  (List.forall_iff_forall_mem (p := fun op => op.fresh = ∅)).mp (StableHlo.forall_fresh_of_map rfl) op h
theorem opsF_fresh : ∀ op ∈ opsF (F := F), op.fresh = ∅ := fun op h =>
  (List.forall_iff_forall_mem (p := fun op => op.fresh = ∅)).mp (StableHlo.forall_fresh_of_map rfl) op h
theorem opsC_fresh : ∀ op ∈ opsC (F := F), op.fresh = ∅ := fun op h =>
  (List.forall_iff_forall_mem (p := fun op => op.fresh = ∅)).mp (StableHlo.forall_fresh_of_map rfl) op h

end Cert.Proof.KernelIdealRun

end
-- ==== Proof.TcBodyI.lean ====
/-
  One grid point of the backward pass, run: over its staging buffers and its two scratches, each held at named contents.
-/
module

public import proofs.«01_k».proof.Proof.ScTileI
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.TableIdle
public import Idealize.ShloMosaic.Lib.Writes
public import Idealize.ShloMosaic.Lib.Tactic

@[expose] public section

noncomputable section

namespace Cert.Proof.KernelIdealRun

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A whole load and a whole store over named contents -/

section access

variable (c : Dev nD) {sh : Shape} {e : EltTy} (M : Memref sig .tc .vmem sh e)
variable {α : Type} {E : Set ℕ}

theorem load_all {Q : α → sProp (MT nD τ sig (HIx 1) (Elt F) ℕ UU ℕ)} {off : Fin sh.rank → Nat} (hz : off = fun _ => 0) (inb : ∀ a, off a + sh.size a ≤ sh.size a)
    {hl : M.view.LoadsAt (Rect.unit off sh.size inb).toLoadRect} (X : sh.Idx → Elt F e)
    (k : (sh.Idx → Elt F e) → Prog (TpuEff nD τ sig (Elt F) Λ₀ .tc) α) :
    (owns (c : Thread nD τ) M fullShare X : sProp 𝕄)
      ⊢ iprop((owns (c : Thread nD τ) M fullShare X -∗ wp frame (wpE (defs₀ (F := F)) 𝒱₀ (c : Thread nD τ) none) E (k X) Q)
          -∗ wp frame (wpE (defs₀ (F := F)) 𝒱₀ (c : Thread nD τ) none) E (Prog.lift (.load M (Rect.unit off sh.size inb).toLoadRect hl) >>= k) Q) := by
  have h := wp_load (defs := defs₀ (F := F)) 𝒱₀ (c : Thread nD τ) none (Γ := .empty) E (Q := Q) (m := M) (r := (Rect.unit off sh.size inb).toLoadRect) (hl := hl)
    (k := k) (q := fullShare) (f := M.view.rep X) (S := M.view.set) (View.setOn_subset_set _ _)
  rw [View.readAt_eq_ld, View.read_rep, View.ld_unit_zero hz] at h
  rw [owns_eq_rep]
  exact h

theorem store_all {Q : α → sProp (MT nD τ sig (HIx 1) (Elt F) ℕ UU ℕ)} {off : Fin sh.rank → Nat} (hz : off = fun _ => 0) (inb : ∀ a, off a + sh.size a ≤ sh.size a)
    {hx : (M.access (Rect.unit off sh.size inb)).Stores Finset.univ} {hm : Finset.univ = Finset.univ ∨ ∀ a, (Rect.unit off sh.size inb).stride a = 1}
    (X w : sh.Idx → Elt F e) (k : PUnit → Prog (TpuEff nD τ sig (Elt F) Λ₀ .tc) α) :
    (owns (c : Thread nD τ) M fullShare X : sProp 𝕄)
      ⊢ iprop((owns (c : Thread nD τ) M fullShare w -∗ wp frame (wpE (defs₀ (F := F)) 𝒱₀ (c : Thread nD τ) none) E (k ⟨⟩) Q)
          -∗ wp frame (wpE (defs₀ (F := F)) 𝒱₀ (c : Thread nD τ) none) E (Prog.lift (.store M (Rect.unit off sh.size inb) w Finset.univ hx hm) >>= k) Q) := by
  have h := wp_store_writes₀ (defs := defs₀ (F := F)) 𝒱₀ (c : Thread nD τ) none E (Q := Q) (m := M) (r := Rect.unit off sh.size inb) (w := w)
    (hx := hx) (hm := hm) (k := k) (f := M.view.rep X) (S := M.view.set) (by rw [View.set_slice]; exact View.setOn_subset_set _ _)
  have hr : M.view.read (Elt F) (M.view.writes (Elt F) (M.view.rep X) [(⟨Rect.unit off sh.size inb, w⟩ : View.Piece (Elt F) sh e)]) = w := by
    rw [View.read_writes_eq_canon _ _ _ (fun y => ⟨_, List.mem_singleton.mpr rfl, ?_⟩), View.canon_unit_zero hz]
    subst hz
    exact (Rect.mem_set_unit (inb := inb)).mpr fun a => ⟨Nat.zero_le _, by simpa using (y a).isLt⟩
  rw [owns_eq_rep]
  iintro H Hk
  iapply h $$ H
  iintro H
  iapply Hk
  unfold owns
  iexists _
  isplitr
  swap
  · iexact H
  · ipureintro; exact hr

end access

theorem hz2 : (![0, 0] : Fin 2 → Nat) = fun _ => 0 := funext fun a => by fin_cases a <;> rfl
theorem hz3 : (![0, 0, 0] : Fin 3 → Nat) = fun _ => 0 := funext fun a => by fin_cases a <;> rfl

/-! ## The point's program -/

/-- The hidden and cell state a point leaves, over the state it finds. -/
def stepH (e : Vec F S1x1024x128 .f32) (wih whh : Vec F S128x512 .f32) (b : Vec F S1x512 .f32) (s : Vec F S1024x128 .f32 × Vec F S1024x128 .f32) :
    Vec F S1024x128 .f32 × Vec F S1024x128 .f32 :=
  (k1_pay8 e s.1 s.2 wih whh b, k1_pay1 (k1_pay6 e s.1 s.2 wih whh b))

/-- The state before the first point. -/
def state0 : Vec F S1024x128 .f32 × Vec F S1024x128 .f32 := (k1_pay3, k1_pay4)

/-- The state before point `n`, the points' words given. -/
def recur (e : ℕ → Vec F S1x1024x128 .f32) (wih whh : Vec F S128x512 .f32) (b : Vec F S1x512 .f32) : ℕ → Vec F S1024x128 .f32 × Vec F S1024x128 .f32
  | 0 => state0
  | n + 1 => stepH (e n) wih whh b (recur e wih whh b n)

variable (c : Dev nD) (i : grid1.Coords) {E : Set ℕ} (A1 : Memref sig .tc .vmem S1x1024x128 .f32) (h1 : A1.IsWhole) (A2 : Memref sig .tc .vmem S128x512 .f32) (h2 : A2.IsWhole)
  (A3 : Memref sig .tc .vmem S128x512 .f32) (h3 : A3.IsWhole) (A4 : Memref sig .tc .vmem S1x512 .f32) (h4 : A4.IsWhole)
  (A5 : Memref sig .tc .vmem S1x1024x80 .f32) (h5 : A5.IsWhole) (A6 : Memref sig .tc .vmem S1024x128 .f32) (h6 : A6.IsWhole)
  (A7 : Memref sig .tc .vmem S1024x128 .f32) (h7 : A7.IsWhole)

/-- The buffers a point runs over. -/
abbrev Held (e : Vec F S1x1024x128 .f32) (wih whh : Vec F S128x512 .f32) (b : Vec F S1x512 .f32) (o : Vec F S1x1024x80 .f32)
    (s : Vec F S1024x128 .f32 × Vec F S1024x128 .f32) : sProp 𝕄 :=
  iprop(owns (c : Thread nD τ) A1 fullShare e ∗ owns (c : Thread nD τ) A2 fullShare wih ∗ owns (c : Thread nD τ) A3 fullShare whh
    ∗ owns (c : Thread nD τ) A4 fullShare b ∗ owns (c : Thread nD τ) A5 fullShare o ∗ owns (c : Thread nD τ) A6 fullShare s.1 ∗ owns (c : Thread nD τ) A7 fullShare s.2)

/-- The point's condition: it is the first. -/
abbrev First (i : grid1.Coords) : Prop :=
  Scalar.cmpi .ne (Scalar.extui (Scalar.cmpi .eq (BitVec.ofNat 32 (i 0).val) 0#32) : BitVec 32) 0#32 = 1#1

theorem part_run (e : Vec F S1x1024x128 .f32) (wih whh : Vec F S128x512 .f32) (b : Vec F S1x512 .f32) (o : Vec F S1x1024x80 .f32)
    (s : Vec F S1024x128 .f32 × Vec F S1024x128 .f32) (s' : Vec F S1024x128 .f32 × Vec F S1024x128 .f32) (hs : s' = if First i then state0 else s)
    (Q : (Σ' (_ : FVec F S1024x128 .f32), FVec F S1024x128 .f32) → sProp 𝕄) :
    iprop(Held c A1 A2 A3 A4 A5 A6 A7 e wih whh b o s
        ∗ (Held c A1 A2 A3 A4 A5 A6 A7 e wih whh b o (k1_pay8 e s'.1 s'.2 wih whh b, s'.2)
            -∗ Q ⟨k1_pay6 e s'.1 s'.2 wih whh b, k1_pay7 e s'.1 s'.2 wih whh b⟩))
      ⊢ wp frame (wpE (defs₀ (F := F)) 𝒱₀ (c : Thread nD τ) none) E
          (k1_part1 i A1 h1 A2 h2 A3 h3 A4 h4 A5 h5 A6 h6 A7 h7) Q := by
  rw [k1_part1_eq_skeleton]
  unfold k1_part1_skel
  iintro ⟨⟨H1, H2, H3, H4, H5, H6, H7⟩, Hk⟩
  by_cases hc : First i
  · rw [if_pos hc] at hs; unfold state0 at hs; subst hs
    dsimp only
    rw [dif_pos hc]
    iapply (load_all c A6 hz2 _ _ _) $$ H6; iintro H6
    iapply (store_all c A6 hz2 _ _ _ _) $$ H6; iintro H6
    iapply (load_all c A7 hz2 _ _ _) $$ H7; iintro H7
    iapply (store_all c A7 hz2 _ _ _ _) $$ H7; iintro H7
    iapply (load_all c A1 hz3 _ _ _) $$ H1; iintro H1
    iapply (load_all c A6 hz2 _ _ _) $$ H6; iintro H6
    iapply (load_all c A7 hz2 _ _ _) $$ H7; iintro H7
    iapply (load_all c A2 hz2 _ _ _) $$ H2; iintro H2
    iapply (load_all c A3 hz2 _ _ _) $$ H3; iintro H3
    iapply (load_all c A4 hz2 _ _ _) $$ H4; iintro H4
    iapply (load_all c A6 hz2 _ _ _) $$ H6; iintro H6
    iapply (store_all c A6 hz2 _ _ _ _) $$ H6; iintro H6
    iapply (load_all c A7 hz2 _ _ _) $$ H7; iintro H7
    rw [wp_pure]; imodintro
    iapply Hk
    isplitl [H1]; · iexact H1
    isplitl [H2]; · iexact H2
    isplitl [H3]; · iexact H3
    isplitl [H4]; · iexact H4
    isplitl [H5]; · iexact H5
    isplitl [H6] <;> iassumption
  · rw [if_neg hc] at hs; subst hs
    dsimp only
    rw [dif_neg hc]
    iapply (load_all c A1 hz3 _ _ _) $$ H1; iintro H1
    iapply (load_all c A6 hz2 _ _ _) $$ H6; iintro H6
    iapply (load_all c A7 hz2 _ _ _) $$ H7; iintro H7
    iapply (load_all c A2 hz2 _ _ _) $$ H2; iintro H2
    iapply (load_all c A3 hz2 _ _ _) $$ H3; iintro H3
    iapply (load_all c A4 hz2 _ _ _) $$ H4; iintro H4
    iapply (load_all c A6 hz2 _ _ _) $$ H6; iintro H6
    iapply (store_all c A6 hz2 _ _ _ _) $$ H6; iintro H6
    iapply (load_all c A7 hz2 _ _ _) $$ H7; iintro H7
    rw [wp_pure]; imodintro
    iapply Hk
    isplitl [H1]; · iexact H1
    isplitl [H2]; · iexact H2
    isplitl [H3]; · iexact H3
    isplitl [H4]; · iexact H4
    isplitl [H5]; · iexact H5
    isplitl [H6] <;> iassumption

/-- One point, from the buffers it finds to the buffers it leaves. -/
theorem body_run (e : Vec F S1x1024x128 .f32) (wih whh : Vec F S128x512 .f32) (b : Vec F S1x512 .f32) (o : Vec F S1x1024x80 .f32)
    (s : Vec F S1024x128 .f32 × Vec F S1024x128 .f32) (s' : Vec F S1024x128 .f32 × Vec F S1024x128 .f32) (hs : s' = if First i then state0 else s)
    (Q : PUnit → sProp 𝕄) :
    iprop(Held c A1 A2 A3 A4 A5 A6 A7 e wih whh b o s
        ∗ (Held c A1 A2 A3 A4 A5 A6 A7 e wih whh b (k1_pay2 (stepH e wih whh b s').1) (stepH e wih whh b s') -∗ Q ⟨⟩))
      ⊢ wp frame (wpE (defs₀ (F := F)) 𝒱₀ (c : Thread nD τ) none) E
          (cc1__bwd_body i A1 h1 A2 h2 A3 h3 A4 h4 A5 h5 A6 h6 A7 h7) Q := by
  rw [cc1__bwd_body_eq_skeleton]
  have e7 : (stepH e wih whh b s').1 = k1_pay7 e s'.1 s'.2 wih whh b := by unfold stepH k1_pay8; dsimp only; rw [shapeCast_self]
  rw [e7]
  unfold cc1__bwd_body_skel stepH
  iintro ⟨H, Hk⟩
  rw [wp_bind]
  iapply (part_run c i A1 h1 A2 h2 A3 h3 A4 h4 A5 h5 A6 h6 A7 h7 e wih whh b o s s' hs _)
  isplitl [H]; · iexact H
  iintro ⟨H1, H2, H3, H4, H5, H6, H7⟩
  dsimp only
  iapply (store_all c A7 hz2 _ _ _ _) $$ H7; iintro H7
  iapply (load_all c A5 hz3 _ _ _) $$ H5; iintro H5
  iapply (store_all c A5 hz3 _ _ _ _) $$ H5; iintro H5
  rw [wp_pure]; imodintro
  iapply Hk
  isplitl [H1]; · iexact H1
  isplitl [H2]; · iexact H2
  isplitl [H3]; · iexact H3
  isplitl [H4]; · iexact H4
  isplitl [H5]; · iexact H5
  isplitl [H6]; · iexact H6
  iexact H7

end Cert.Proof.KernelIdealRun

end
-- ==== Proof.TcFwdBodyI.lean ====
/-
  One grid point of the forward pass, run: over its staging buffers and its six scratches, each held at named contents.
-/
module

public import proofs.«01_k».proof.Proof.TcBodyI

@[expose] public section

noncomputable section

namespace Cert.Proof.KernelIdealRun

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The point's state -/

/-- The six scratches: the hidden and cell state, and the running maxima and sums of the two normalised halves. -/
structure FS (F : FTy → Type) where
  h : Vec F S1024x128 .f32
  c : Vec F S1024x128 .f32
  mx : Vec F S1024x128 .f32
  sm : Vec F S1024x128 .f32
  mxb : Vec F S1024x80 .f32
  smb : Vec F S1024x80 .f32

/-- Before the first point. -/
def fstart : FS F := ⟨k2_pay5, k2_pay6, k2_pay7, k2_pay8, k2_pay9, k2_pay10⟩

/-- The new hidden state, as the point computes it. -/
abbrev newH (e : Vec F S1x1024x128 .f32) (wih whh : Vec F S128x512 .f32) (b : Vec F S1x512 .f32) (s : FS F) : FVec F S1024x128 .f32 :=
  k2_pay13 e s.h s.c wih whh b

/-- The state a point leaves, over the state it finds. -/
def fstep (e : Vec F S1x1024x128 .f32) (hb : Vec F S1x1024x80 .f32) (wih whh : Vec F S128x512 .f32) (b : Vec F S1x512 .f32) (s : FS F) : FS F :=
  ⟨k2_pay14 e s.h s.c wih whh b, k2_pay15 (k2_pay12 e s.h s.c wih whh b), k2_pay21 (newH e wih whh b s) hb s.mx, k2_pay1 (k2_pay22 (newH e wih whh b s) hb s.sm),
    k2_pay2 (k2_pay20 (newH e wih whh b s) hb) s.mxb, k2_pay3 (k2_pay20 (newH e wih whh b s) hb) s.smb⟩

/-- The result that the last point writes. -/
def fout (s : FS F) (fw : Vec F S128x15 .f32) (fb : Vec F S80x15 .f32) (b : Vec F S1x15 .f32) : FVec F S1024x15 .f32 :=
  k2_pay4 s.mx s.sm s.mxb s.smb fw fb b

/-! ## The point's program -/

section Point

variable (c : Dev nD) (i : grid2.Coords) {E : Set ℕ} (A1 : Memref sig .tc .vmem S1x1024x128 .f32) (h1 : A1.IsWhole) (A2 : Memref sig .tc .vmem S1x1024x80 .f32) (h2 : A2.IsWhole)
  (A3 : Memref sig .tc .vmem S128x512 .f32) (h3 : A3.IsWhole) (A4 : Memref sig .tc .vmem S128x512 .f32) (h4 : A4.IsWhole)
  (A5 : Memref sig .tc .vmem S1x512 .f32) (h5 : A5.IsWhole) (A6 : Memref sig .tc .vmem S128x15 .f32) (h6 : A6.IsWhole)
  (A7 : Memref sig .tc .vmem S80x15 .f32) (h7 : A7.IsWhole) (A8 : Memref sig .tc .vmem S1x15 .f32) (h8 : A8.IsWhole) (A9 : Memref sig .tc .vmem S1024x15 .f32) (h9 : A9.IsWhole)
  (A10 : Memref sig .tc .vmem S1024x128 .f32) (h10 : A10.IsWhole) (A11 : Memref sig .tc .vmem S1024x128 .f32) (h11 : A11.IsWhole)
  (A12 : Memref sig .tc .vmem S1024x128 .f32) (h12 : A12.IsWhole) (A13 : Memref sig .tc .vmem S1024x128 .f32) (h13 : A13.IsWhole)
  (A14 : Memref sig .tc .vmem S1024x80 .f32) (h14 : A14.IsWhole) (A15 : Memref sig .tc .vmem S1024x80 .f32) (h15 : A15.IsWhole)

/-- What a point takes. -/
abbrev Ins (e : Vec F S1x1024x128 .f32) (hb : Vec F S1x1024x80 .f32) (wih whh : Vec F S128x512 .f32) (b : Vec F S1x512 .f32) (fw : Vec F S128x15 .f32) (fb : Vec F S80x15 .f32) (b' : Vec F S1x15 .f32) : sProp 𝕄 :=
  iprop(owns (c : Thread nD τ) A1 fullShare e ∗ owns (c : Thread nD τ) A2 fullShare hb ∗ owns (c : Thread nD τ) A3 fullShare wih ∗ owns (c : Thread nD τ) A4 fullShare whh
    ∗ owns (c : Thread nD τ) A5 fullShare b ∗ owns (c : Thread nD τ) A6 fullShare fw ∗ owns (c : Thread nD τ) A7 fullShare fb ∗ owns (c : Thread nD τ) A8 fullShare b')

/-- The scratches. -/
abbrev Scr (s : FS F) : sProp 𝕄 :=
  iprop(owns (c : Thread nD τ) A10 fullShare s.h ∗ owns (c : Thread nD τ) A11 fullShare s.c ∗ owns (c : Thread nD τ) A12 fullShare s.mx ∗ owns (c : Thread nD τ) A13 fullShare s.sm
    ∗ owns (c : Thread nD τ) A14 fullShare s.mxb ∗ owns (c : Thread nD τ) A15 fullShare s.smb)

/-- The point's first condition: it is the first. -/
abbrev First2 (i : grid2.Coords) : Prop :=
  Scalar.cmpi .ne (Scalar.extui (Scalar.cmpi .eq (BitVec.ofNat 32 (i 0).val) 0#32) : BitVec 32) 0#32 = 1#1

theorem fwd_part2 (e : Vec F S1x1024x128 .f32) (hb : Vec F S1x1024x80 .f32) (wih whh : Vec F S128x512 .f32) (b : Vec F S1x512 .f32) (fw : Vec F S128x15 .f32) (fb : Vec F S80x15 .f32) (b' : Vec F S1x15 .f32)
    (s s' : FS F) (hs : s' = if First2 i then fstart else s)
    (Q : (Σ' (_ : BitVec 32) (_ : FVec F S1024x128 .f32), FVec F S1024x128 .f32) → sProp 𝕄) :
    iprop(Ins c A1 A2 A3 A4 A5 A6 A7 A8 e hb wih whh b fw fb b' ∗ Scr c A10 A11 A12 A13 A14 A15 s
        ∗ (Ins c A1 A2 A3 A4 A5 A6 A7 A8 e hb wih whh b fw fb b' -∗ Scr c A10 A11 A12 A13 A14 A15 ⟨k2_pay14 e s'.h s'.c wih whh b, s'.c, s'.mx, s'.sm, s'.mxb, s'.smb⟩
            -∗ Q ⟨BitVec.ofNat 32 (i 0).val, k2_pay12 e s'.h s'.c wih whh b, k2_pay13 e s'.h s'.c wih whh b⟩))
      ⊢ wp frame (wpE (defs₀ (F := F)) 𝒱₀ (c : Thread nD τ) none) E
          (k2_part2 i A1 h1 A2 h2 A3 h3 A4 h4 A5 h5 A6 h6 A7 h7 A8 h8 A9 h9 A10 h10 A11 h11 A12 h12 A13 h13 A14 h14 A15 h15) Q := by
  rw [k2_part2_eq_skeleton]
  unfold k2_part2_skel
  iintro ⟨⟨H1, H2, H3, H4, H5, H6, H7, H8⟩, ⟨H10, H11, H12, H13, H14, H15⟩, Hk⟩
  by_cases hc : First2 i
  · rw [if_pos hc] at hs; unfold fstart at hs; subst hs
    dsimp only
    rw [dif_pos hc]
    iapply (load_all c A10 hz2 _ _ _) $$ H10; iintro H10
    iapply (store_all c A10 hz2 _ _ _ _) $$ H10; iintro H10
    iapply (load_all c A11 hz2 _ _ _) $$ H11; iintro H11
    iapply (store_all c A11 hz2 _ _ _ _) $$ H11; iintro H11
    iapply (load_all c A12 hz2 _ _ _) $$ H12; iintro H12
    iapply (store_all c A12 hz2 _ _ _ _) $$ H12; iintro H12
    iapply (load_all c A13 hz2 _ _ _) $$ H13; iintro H13
    iapply (store_all c A13 hz2 _ _ _ _) $$ H13; iintro H13
    iapply (load_all c A14 hz2 _ _ _) $$ H14; iintro H14
    iapply (store_all c A14 hz2 _ _ _ _) $$ H14; iintro H14
    iapply (load_all c A15 hz2 _ _ _) $$ H15; iintro H15
    iapply (store_all c A15 hz2 _ _ _ _) $$ H15; iintro H15
    iapply (load_all c A1 hz3 _ _ _) $$ H1; iintro H1
    iapply (load_all c A10 hz2 _ _ _) $$ H10; iintro H10
    iapply (load_all c A11 hz2 _ _ _) $$ H11; iintro H11
    iapply (load_all c A3 hz2 _ _ _) $$ H3; iintro H3
    iapply (load_all c A4 hz2 _ _ _) $$ H4; iintro H4
    iapply (load_all c A5 hz2 _ _ _) $$ H5; iintro H5
    iapply (load_all c A10 hz2 _ _ _) $$ H10; iintro H10
    iapply (store_all c A10 hz2 _ _ _ _) $$ H10; iintro H10
    iapply (load_all c A11 hz2 _ _ _) $$ H11; iintro H11
    rw [wp_pure]; imodintro
    iapply Hk $$ [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7] <;> iassumption
    isplitl [H10]; · iexact H10
    isplitl [H11]; · iexact H11
    isplitl [H12]; · iexact H12
    isplitl [H13]; · iexact H13
    isplitl [H14] <;> iassumption
  · rw [if_neg hc] at hs; subst hs
    dsimp only
    rw [dif_neg hc]
    iapply (load_all c A1 hz3 _ _ _) $$ H1; iintro H1
    iapply (load_all c A10 hz2 _ _ _) $$ H10; iintro H10
    iapply (load_all c A11 hz2 _ _ _) $$ H11; iintro H11
    iapply (load_all c A3 hz2 _ _ _) $$ H3; iintro H3
    iapply (load_all c A4 hz2 _ _ _) $$ H4; iintro H4
    iapply (load_all c A5 hz2 _ _ _) $$ H5; iintro H5
    iapply (load_all c A10 hz2 _ _ _) $$ H10; iintro H10
    iapply (store_all c A10 hz2 _ _ _ _) $$ H10; iintro H10
    iapply (load_all c A11 hz2 _ _ _) $$ H11; iintro H11
    rw [wp_pure]; imodintro
    iapply Hk $$ [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7] <;> iassumption
    isplitl [H10]; · iexact H10
    isplitl [H11]; · iexact H11
    isplitl [H12]; · iexact H12
    isplitl [H13]; · iexact H13
    isplitl [H14] <;> iassumption

/-- One point, from the buffers it finds to the buffers it leaves. -/
theorem fwd_run (e : Vec F S1x1024x128 .f32) (hb : Vec F S1x1024x80 .f32) (wih whh : Vec F S128x512 .f32) (b : Vec F S1x512 .f32) (fw : Vec F S128x15 .f32) (fb : Vec F S80x15 .f32) (b' : Vec F S1x15 .f32)
    (o : Vec F S1024x15 .f32) (s s' : FS F) (hs : s' = if First2 i then fstart else s) (Q : PUnit → sProp 𝕄) :
    iprop(Ins c A1 A2 A3 A4 A5 A6 A7 A8 e hb wih whh b fw fb b' ∗ owns (c : Thread nD τ) A9 fullShare o ∗ Scr c A10 A11 A12 A13 A14 A15 s
        ∗ (Ins c A1 A2 A3 A4 A5 A6 A7 A8 e hb wih whh b fw fb b'
            -∗ owns (c : Thread nD τ) A9 fullShare (if k2_cond2 i = 1#1 then fout (fstep e hb wih whh b s') fw fb b' else o)
            -∗ Scr c A10 A11 A12 A13 A14 A15 (fstep e hb wih whh b s') -∗ Q ⟨⟩))
      ⊢ wp frame (wpE (defs₀ (F := F)) 𝒱₀ (c : Thread nD τ) none) E
          (cc2__fwd_body i A1 h1 A2 h2 A3 h3 A4 h4 A5 h5 A6 h6 A7 h7 A8 h8 A9 h9 A10 h10 A11 h11 A12 h12 A13 h13 A14 h14 A15 h15) Q := by
  rw [cc2__fwd_body_eq_skeleton]
  unfold cc2__fwd_body_skel
  iintro ⟨HI, H9, HS, Hk⟩
  rw [wp_bind]
  iapply (fwd_part2 c i A1 h1 A2 h2 A3 h3 A4 h4 A5 h5 A6 h6 A7 h7 A8 h8 A9 h9 A10 h10 A11 h11 A12 h12 A13 h13 A14 h14 A15 h15 e hb wih whh b fw fb b' s s' hs _)
  isplitl [HI]; · iexact HI
  isplitl [HS]; · iexact HS
  iintro ⟨H1, H2, H3, H4, H5, H6, H7, H8⟩ ⟨H10, H11, H12, H13, H14, H15⟩
  dsimp only
  rw [wp_bind, k2_part3_eq_skeleton]
  unfold k2_part3_skel
  iapply (store_all c A11 hz2 _ _ _ _) $$ H11; iintro H11
  iapply (load_all c A2 hz3 _ _ _) $$ H2; iintro H2
  iapply (load_all c A12 hz2 _ _ _) $$ H12; iintro H12
  iapply (load_all c A12 hz2 _ _ _) $$ H12; iintro H12
  iapply (store_all c A12 hz2 _ _ _ _) $$ H12; iintro H12
  iapply (load_all c A13 hz2 _ _ _) $$ H13; iintro H13
  iapply (load_all c A13 hz2 _ _ _) $$ H13; iintro H13
  rw [wp_pure]; imodintro
  dsimp only
  iapply (store_all c A13 hz2 _ _ _ _) $$ H13; iintro H13
  iapply (load_all c A14 hz2 _ _ _) $$ H14; iintro H14
  iapply (load_all c A14 hz2 _ _ _) $$ H14; iintro H14
  iapply (store_all c A14 hz2 _ _ _ _) $$ H14; iintro H14
  iapply (load_all c A15 hz2 _ _ _) $$ H15; iintro H15
  iapply (load_all c A15 hz2 _ _ _) $$ H15; iintro H15
  iapply (store_all c A15 hz2 _ _ _ _) $$ H15; iintro H15
  by_cases hc : k2_cond2 i = 1#1
  · rw [dif_pos hc, if_pos hc, wp_bind, k2_part1_eq_skeleton]
    unfold k2_part1_skel
    iapply (load_all c A12 hz2 _ _ _) $$ H12; iintro H12
    iapply (load_all c A13 hz2 _ _ _) $$ H13; iintro H13
    iapply (load_all c A14 hz2 _ _ _) $$ H14; iintro H14
    iapply (load_all c A15 hz2 _ _ _) $$ H15; iintro H15
    iapply (load_all c A6 hz2 _ _ _) $$ H6; iintro H6
    iapply (load_all c A7 hz2 _ _ _) $$ H7; iintro H7
    iapply (load_all c A8 hz2 _ _ _) $$ H8; iintro H8
    rw [wp_pure]; imodintro
    dsimp only
    iapply (load_all c A9 hz2 _ _ _) $$ H9; iintro H9
    iapply (store_all c A9 hz2 _ _ _ _) $$ H9; iintro H9
    rw [wp_pure]; imodintro
    iapply Hk $$ [H1 H2 H3 H4 H5 H6 H7 H8] [H9]
    · isplitl [H1]; · iexact H1
      isplitl [H2]; · iexact H2
      isplitl [H3]; · iexact H3
      isplitl [H4]; · iexact H4
      isplitl [H5]; · iexact H5
      isplitl [H6]; · iexact H6
      isplitl [H7] <;> iassumption
    · iexact H9
    isplitl [H10]; · iexact H10
    isplitl [H11]; · iexact H11
    isplitl [H12]; · iexact H12
    isplitl [H13]; · iexact H13
    isplitl [H14]; · iexact H14
    iexact H15
  · rw [dif_neg hc, if_neg hc, wp_pure]; imodintro
    iapply Hk $$ [H1 H2 H3 H4 H5 H6 H7 H8] [H9]
    · isplitl [H1]; · iexact H1
      isplitl [H2]; · iexact H2
      isplitl [H3]; · iexact H3
      isplitl [H4]; · iexact H4
      isplitl [H5]; · iexact H5
      isplitl [H6]; · iexact H6
      isplitl [H7] <;> iassumption
    · iexact H9
    isplitl [H10]; · iexact H10
    isplitl [H11]; · iexact H11
    isplitl [H12]; · iexact H12
    isplitl [H13]; · iexact H13
    isplitl [H14]; · iexact H14
    iexact H15

end Point

end Cert.Proof.KernelIdealRun

end
-- ==== Proof.TcRegionI.lean ====
/-
  The backward pass as a pipeline: what its arrays, its staging buffers and its two scratches hold at every grid point,
  and its result's array after the last.
-/
module

public import proofs.«01_k».proof.Proof.TcBodyI
public import Idealize.ShloMosaic.Lib.Pipeline.RegionsLoop

@[expose] public section

noncomputable section

namespace Cert.Proof.KernelIdealRun

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F] [Named F]

local notation "𝕄" => MT nD τ sig (HIx 1) (Elt F) ℕ UU ℕ

/-! ## The recurrence -/

/-- The embedded words point `n` reads: the time axis backwards. -/
def xAt (X : S200x1024x128.Idx → Elt F .f32) (n : ℕ) : Vec F S1x1024x128 .f32 :=
  fun y => X (ix3 (n0 := 200) (n1 := 1024) (n2 := 128) ⟨199 - n, by omega⟩ (y 1) (y 2))

/-- The hidden and cell state before point `n`. -/
abbrev state (X : S200x1024x128.Idx → Elt F .f32) (wih whh : Vec F S128x512 .f32) (b : Vec F S1x512 .f32) : ℕ → Vec F S1024x128 .f32 × Vec F S1024x128 .f32 :=
  recur (xAt X) wih whh b

/-- The result: time `t` holds the hidden state that point `199 - t` leaves. -/
def hidden (X : S200x1024x128.Idx → Elt F .f32) (wih whh : Vec F S128x512 .f32) (b : Vec F S1x512 .f32) : S200x1024x80.Idx → Elt F .f32 :=
  fun y => k1_pay2 (state X wih whh b (200 - (y 0).val)).1 (ix3 (n0 := 1) (n1 := 1024) (n2 := 80) 0 (y 1) (y 2))

/-! ## The proof data -/

variable (V : (c : Dev nD) → (b : Ref sig .tc) → Buf (Elt F) ((c : Thread nD τ).loc b))

abbrev st (c : Dev nD) (n : ℕ) : Vec F S1024x128 .f32 × Vec F S1024x128 .f32 :=
  state (V c main_v4) (V c main_v60) (V c main_v65) (V c main_v70) n

/-- A buffer whole at some contents. -/
abbrev Some (c : Dev nD) (b : Ref sig .tc) : sProp 𝕄 := iprop(∃ f : Buf (Elt F) ((c : Thread nD τ).loc b), ((c : Thread nD τ).loc b) ↦{fullShare} f)

/-- The forward pass's own buffers, which the backward pass leaves alone. -/
abbrev Rest1 (c : Dev nD) : sProp 𝕄 :=
  iprop(Some c cc2_stg0_0 ∗ Some c cc2_stg0_1 ∗ Some c cc2_stg1_0 ∗ Some c cc2_stg1_1 ∗ Some c cc2_stg2_0 ∗ Some c cc2_stg3_0 ∗ Some c cc2_stg4_0 ∗ Some c cc2_stg5_0
    ∗ Some c cc2_stg6_0 ∗ Some c cc2_stg7_0 ∗ Some c cc2_stg8_0 ∗ Some c cc2_scratch0 ∗ Some c cc2_scratch1 ∗ Some c cc2_scratch2 ∗ Some c cc2_scratch3 ∗ Some c cc2_scratch4 ∗ Some c cc2_scratch5)

/-- The two scratches before point `n`: at the first point anything, later the state. -/
def Inv (c : Dev nD) (n : ℕ) : sProp 𝕄 :=
  iprop(∃ s : Vec F S1024x128 .f32 × Vec F S1024x128 .f32, ⌜n ≠ 0 → s = st V c n⌝
    ∗ owns (c : Thread nD τ) (Memref.whole cc1_scratch0) fullShare s.1 ∗ owns (c : Thread nD τ) (Memref.whole cc1_scratch1) fullShare s.2 ∗ Rest1 (F := F) c)

/-- What the core's waits recorded, of those made for the launch of the first call. -/
def rec0 (c : Dev nD) : Set (SemLoc sig × HIx 1) := {p | (K (F := F)).lev (SparseCore.T c, p.1) p.2 ≤ 8}

def dat (c : Dev nD) : Dat τ (Elt F) (HIx 1) ℕ UU ℕ cfg1 c where
  A w := V c (Pipeline.arrRef spec1 w)
  after w t := match w with
    | ⟨0, _⟩ => xAt (V c main_v4) t.val
    | ⟨1, _⟩ => V c main_v60
    | ⟨2, _⟩ => V c main_v65
    | ⟨3, _⟩ => V c main_v70
    | ⟨4, _⟩ => k1_pay2 (st V c (t.val + 1)).1
  Φ t := Inv V c t.val
  q _ := fullShare
  owed _ := 0
  recorded _ := rec0 (F := F) c

/-! ## What the body finds -/

theorem coords_val (t : Fin cfg1.N) : (grid1.coords t 0).val = t.val := by
  rw [Pipeline.Grid.coords_val t 0 (S := 1) (B := 200) (by decide) rfl]
  have : t.val < 200 := t.isLt
  omega

theorem first_iff (t : Fin cfg1.N) : First (grid1.coords t) ↔ t.val = 0 := by
  unfold First
  rw [coords_val]
  have : t.val < 200 := t.isLt
  generalize t.val = n at *
  revert n; decide

theorem index1_0 : ∀ t : Fin cfg1.N, win1_0.index t 0 = 199 - t.val ∧ win1_0.index t 1 = 0 ∧ win1_0.index t 2 = 0 :=
  (by decide +kernel : ∀ t : Fin grid1.N, win1_0.index t 0 = 199 - t.val ∧ win1_0.index t 1 = 0 ∧ win1_0.index t 2 = 0)
theorem index1_4 : ∀ t : Fin cfg1.N, win1_4.index t 0 = 199 - t.val ∧ win1_4.index t 1 = 0 ∧ win1_4.index t 2 = 0 :=
  (by decide +kernel : ∀ t : Fin grid1.N, win1_4.index t 0 = 199 - t.val ∧ win1_4.index t 1 = 0 ∧ win1_4.index t 2 = 0)

theorem block0 (c : Dev nD) (t : Fin cfg1.N) : (dat V c).blockOf 0 t = xAt (V c main_v4) t.val := by
  funext y
  unfold Dat.blockOf xAt
  rw [View.read_apply]
  show V c main_v4 _ = _
  congr 1
  obtain ⟨i0, i1, i2⟩ := index1_0 t
  funext a
  apply Fin.ext
  match a with
  | ⟨0, _⟩ => show win1_0.index t 0 * 1 + 1 * (y 0).val = 199 - t.val; have h : (y 0).val < 1 := (y 0).isLt; rw [i0]; omega
  | ⟨1, _⟩ => show win1_0.index t 1 * 1024 + 1 * (y 1).val = (y 1).val; rw [i1]; omega
  | ⟨2, _⟩ => show win1_0.index t 2 * 128 + 1 * (y 2).val = (y 2).val; rw [i2]; omega

theorem block1 (c : Dev nD) (t : Fin cfg1.N) : (dat V c).blockOf 1 t = V c main_v60 :=
  Memref.read_access_unit_zero (Elt F) main_v60 (funext fun a => by fin_cases a <;> rfl) (fun a => by fin_cases a <;> exact Nat.le_refl _) (V c main_v60)
theorem block2 (c : Dev nD) (t : Fin cfg1.N) : (dat V c).blockOf 2 t = V c main_v65 :=
  Memref.read_access_unit_zero (Elt F) main_v65 (funext fun a => by fin_cases a <;> rfl) (fun a => by fin_cases a <;> exact Nat.le_refl _) (V c main_v65)
theorem block3 (c : Dev nD) (t : Fin cfg1.N) : (dat V c).blockOf 3 t = V c main_v70 :=
  Memref.read_access_unit_zero (Elt F) main_v70 (funext fun a => by fin_cases a <;> rfl) (fun a => by fin_cases a <;> exact Nat.le_refl _) (V c main_v70)

theorem before0 (c : Dev nD) (t : Fin cfg1.N) (d) : (dat V c).before 0 t d = xAt (V c main_v4) t.val :=
  ((dat V c).before_in_eq_fetched 0 rfl (fun _ => rfl) (fun _ _ _ => rfl) (fun t => (block0 V c t).symm) t d).trans (block0 V c t)
theorem before1 (c : Dev nD) (t : Fin cfg1.N) (d) : (dat V c).before 1 t d = V c main_v60 :=
  ((dat V c).before_in_eq_fetched 1 rfl (fun _ => rfl) (fun _ _ _ => rfl) (fun t => (block1 V c t).symm) t d).trans (block1 V c t)
theorem before2 (c : Dev nD) (t : Fin cfg1.N) (d) : (dat V c).before 2 t d = V c main_v65 :=
  ((dat V c).before_in_eq_fetched 2 rfl (fun _ => rfl) (fun _ _ _ => rfl) (fun t => (block2 V c t).symm) t d).trans (block2 V c t)
theorem before3 (c : Dev nD) (t : Fin cfg1.N) (d) : (dat V c).before 3 t d = V c main_v70 :=
  ((dat V c).before_in_eq_fetched 3 rfl (fun _ => rfl) (fun _ _ _ => rfl) (fun t => (block3 V c t).symm) t d).trans (block3 V c t)

theorem body_obligation (c : Dev nD) : BodyObligation (dat V c) (defs₀ (F := F)) 𝒱₀ none Set.univ := fun t => by
  rw [bigSep_W1, bigSep_W1]
  rw [show (dat V c).Φ t.castSucc = Inv V c t.val from rfl, show (dat V c).Φ t.succ = Inv V c (t.val + 1) from rfl,
    show (dat V c).owesAt none t.succ = (dat V c).owesAt none t.castSucc from rfl]
  unfold Inv
  iintro ⟨⟨%s, %hs, HS0, HS1, HR⟩, Howes, ⟨%d0, H0⟩, ⟨%d1, H1⟩, ⟨%d2, H2⟩, ⟨%d3, H3⟩, ⟨%d4, H4⟩⟩
  rw [before0, before1, before2, before3]
  have hs' : st V c t.val = if First (grid1.coords t) then state0 else s := by
    by_cases h : t.val = 0
    · rw [if_pos ((first_iff t).mpr h), h]; rfl
    · rw [if_neg (fun h' => h ((first_iff t).mp h')), hs h]
  iapply (body_run c (grid1.coords t) (st1_0 t) (hstage1_0 _) (st1_1 t) (hstage1_1 _) (st1_2 t) (hstage1_2 _) (st1_3 t) (hstage1_3 _) (st1_4 t) (hstage1_4 _)
    (Memref.whole cc1_scratch0) (Memref.isWhole_whole _) (Memref.whole cc1_scratch1) (Memref.isWhole_whole _)
    (xAt (V c main_v4) t.val) (V c main_v60) (V c main_v65) (V c main_v70) _ s (st V c t.val) hs' _)
  isplitl [HS0 HS1 H0 H1 H2 H3 H4]
  · isplitl [H0]; · iexact H0
    isplitl [H1]; · iexact H1
    isplitl [H2]; · iexact H2
    isplitl [H3]; · iexact H3
    isplitl [H4]; · iexact H4
    isplitl [HS0]; · iexact HS0
    iexact HS1
  iintro ⟨H0, H1, H2, H3, H4, HS0, HS1⟩
  isplitl [HS0 HS1 HR]
  · iexists (st V c (t.val + 1))
    isplitr; · ipureintro; exact fun _ => rfl
    isplitl [HS0]; · iexact HS0
    isplitl [HS1]; · iexact HS1
    iexact HR
  isplitl [Howes]; · iexact Howes
  isplitl [H0]; · iexact H0
  isplitl [H1]; · iexact H1
  isplitl [H2]; · iexact H2
  isplitl [H3]; · iexact H3
  iexact H4

/-! ## The result's array -/

theorem result_eq (c : Dev nD) : (dat V c).arrAt 4 cfg1.N = hidden (V c main_v4) (V c main_v60) (V c main_v65) (V c main_v70) := by
  refine (dat V c).arrAt_eq_of_cover 4 _ (fun t _ => ?_) fun i => ?_
  · show (dat V c).after 4 t = _
    funext y
    rw [View.read_apply]
    show k1_pay2 (st V c (t.val + 1)).1 y = hidden (V c main_v4) (V c main_v60) (V c main_v65) (V c main_v70) _
    obtain ⟨i0, i1, i2⟩ := index1_4 t
    have ht : t.val < 200 := t.isLt
    have key : ∀ x : S200x1024x80.Idx, (x 0).val = 199 - t.val → (x 1).val = (y 1).val → (x 2).val = (y 2).val →
        k1_pay2 (st V c (t.val + 1)).1 y = hidden (V c main_v4) (V c main_v60) (V c main_v65) (V c main_v70) x := fun x e0 e1 e2 => by
      unfold hidden
      rw [show 200 - (x 0).val = t.val + 1 by rw [e0]; omega]
      congr 1
      funext a
      apply Fin.ext
      match a with
      | ⟨0, _⟩ => show (y 0).val = 0; have h : (y 0).val < 1 := (y 0).isLt; omega
      | ⟨1, _⟩ => exact e1.symm
      | ⟨2, _⟩ => exact e2.symm
    refine key _ ?_ ?_ ?_
    · show win1_4.index t 0 * 1 + 1 * (y 0).val = 199 - t.val; have h : (y 0).val < 1 := (y 0).isLt; rw [i0]; omega
    · show win1_4.index t 1 * 1024 + 1 * (y 1).val = (y 1).val; rw [i1]; omega
    · show win1_4.index t 2 * 80 + 1 * (y 2).val = (y 2).val; rw [i2]; omega
  · have h0 : (i 0 : Nat) < 200 := (i 0).isLt
    have h1 : (i 1 : Nat) < 1024 := (i 1).isLt
    have h2 : (i 2 : Nat) < 80 := (i 2).isLt
    let t : Fin cfg1.N := ⟨199 - (i 0 : Nat), by show 199 - _ < 200; omega⟩
    obtain ⟨i0, i1, i2⟩ := index1_4 t
    refine ⟨t, flush1_4 t, ?_⟩
    show i ∈ ((View.whole main_v137).slice (win1_4.rect t)).set
    rw [View.set_slice_whole, Rect.mem_set_unit]
    intro a
    match a with
    | ⟨0, _⟩ => show win1_4.index t 0 * 1 ≤ (i 0 : Nat) ∧ (i 0 : Nat) < win1_4.index t 0 * 1 + 1; rw [i0]; show (199 - (199 - (i 0 : Nat))) * 1 ≤ (i 0 : Nat) ∧ (i 0 : Nat) < (199 - (199 - (i 0 : Nat))) * 1 + 1; omega
    | ⟨1, _⟩ => show win1_4.index t 1 * 1024 ≤ (i 1 : Nat) ∧ (i 1 : Nat) < win1_4.index t 1 * 1024 + 1024; rw [i1]; omega
    | ⟨2, _⟩ => show win1_4.index t 2 * 80 ≤ (i 2 : Nat) ∧ (i 2 : Nat) < win1_4.index t 2 * 80 + 80; rw [i2]; omega

end Cert.Proof.KernelIdealRun

end
-- ==== Proof.TcFwdI.lean ====
/-
  The forward pass as a pipeline: what its arrays, its staging buffers and its six scratches hold at every grid point, and
  its result's array after the last.
-/
module

public import proofs.«01_k».proof.Proof.TcFwdBodyI
public import proofs.«01_k».proof.Proof.TcRegionI
public import Idealize.ShloMosaic.Lib.Pipeline.RegionsLoop

@[expose] public section

noncomputable section

namespace Cert.Proof.KernelIdealRun

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F] [Named F]

local notation "𝕄" => MT nD τ sig (HIx 1) (Elt F) ℕ UU ℕ

/-! ## The recurrence -/

theorem mod_lt200 (n : ℕ) : n % 200 < 200 := Nat.mod_lt _ (by omega)

/-- The embedded words and the backward pass's hidden values that point `n` reads. -/
def xFwd (X : S200x1024x128.Idx → Elt F .f32) (n : ℕ) : Vec F S1x1024x128 .f32 :=
  fun y => X (ix3 (n0 := 200) (n1 := 1024) (n2 := 128) ⟨n % 200, mod_lt200 n⟩ (y 1) (y 2))
def hbAt (H : S200x1024x80.Idx → Elt F .f32) (n : ℕ) : Vec F S1x1024x80 .f32 :=
  fun y => H (ix3 (n0 := 200) (n1 := 1024) (n2 := 80) ⟨n % 200, mod_lt200 n⟩ (y 1) (y 2))

/-- The scratches before point `n`. -/
def fstate (X : S200x1024x128.Idx → Elt F .f32) (H : S200x1024x80.Idx → Elt F .f32) (wih whh : Vec F S128x512 .f32) (b : Vec F S1x512 .f32) : ℕ → FS F
  | 0 => fstart
  | n + 1 => fstep (xFwd X n) (hbAt H n) wih whh b (fstate X H wih whh b n)

/-- The result. -/
def fresult (X : S200x1024x128.Idx → Elt F .f32) (H : S200x1024x80.Idx → Elt F .f32) (wih whh : Vec F S128x512 .f32) (b : Vec F S1x512 .f32)
    (fw : Vec F S128x15 .f32) (fb : Vec F S80x15 .f32) (b' : Vec F S1x15 .f32) : Vec F S1024x15 .f32 :=
  fout (fstate X H wih whh b 200) fw fb b'

/-! ## The proof data -/

variable (V : (c : Dev nD) → (b : Ref sig .tc) → Buf (Elt F) ((c : Thread nD τ).loc b))

abbrev ft (c : Dev nD) (n : ℕ) : FS F := fstate (V c main_v4) (V c main_v137) (V c main_v126) (V c main_v131) (V c main_v136) n

/-- The backward pass's own buffers, which the forward pass leaves alone. -/
abbrev Rest2 (c : Dev nD) : sProp 𝕄 :=
  iprop(Some (F := F) c cc1_stg0_0 ∗ Some (F := F) c cc1_stg0_1 ∗ Some (F := F) c cc1_stg1_0 ∗ Some (F := F) c cc1_stg2_0 ∗ Some (F := F) c cc1_stg3_0 ∗ Some (F := F) c cc1_stg4_0 ∗ Some (F := F) c cc1_stg4_1
    ∗ Some (F := F) c cc1_scratch0 ∗ Some (F := F) c cc1_scratch1)

/-- The six scratches. -/
abbrev Scr2 (c : Dev nD) (s : FS F) : sProp 𝕄 :=
  Scr c (Memref.whole cc2_scratch0) (Memref.whole cc2_scratch1) (Memref.whole cc2_scratch2) (Memref.whole cc2_scratch3) (Memref.whole cc2_scratch4) (Memref.whole cc2_scratch5) s

/-- The six scratches before point `n`: at the first point anything, later the state. -/
def Inv2 (c : Dev nD) (n : ℕ) : sProp 𝕄 :=
  iprop(∃ s : FS F, ⌜n ≠ 0 → s = ft V c n⌝ ∗ Scr2 c s ∗ Rest2 (F := F) c)

def dat2 (c : Dev nD) : Dat τ (Elt F) (HIx 1) ℕ UU ℕ cfg2 c where
  A w := V c (Pipeline.arrRef spec2 w)
  after w t := match w with
    | ⟨0, _⟩ => xFwd (V c main_v4) t.val
    | ⟨1, _⟩ => hbAt (V c main_v137) t.val
    | ⟨2, _⟩ => V c main_v126
    | ⟨3, _⟩ => V c main_v131
    | ⟨4, _⟩ => V c main_v136
    | ⟨5, _⟩ => V c main_v142
    | ⟨6, _⟩ => V c main_v144
    | ⟨7, _⟩ => V c main_v145
    | ⟨8, _⟩ => fout (ft V c (t.val + 1)) (V c main_v142) (V c main_v144) (V c main_v145)
  Φ t := Inv2 V c t.val
  q _ := fullShare
  owed _ := 0
  recorded _ := rec0 (F := F) c

/-! ## What the body finds -/

theorem coords2_val (t : Fin cfg2.N) : (grid2.coords t 0).val = t.val := by
  rw [Pipeline.Grid.coords_val t 0 (S := 1) (B := 200) (by decide) rfl]
  have : t.val < 200 := t.isLt
  omega

theorem first2_iff (t : Fin cfg2.N) : First2 (grid2.coords t) ↔ t.val = 0 := by
  unfold First2
  rw [coords2_val]
  have : t.val < 200 := t.isLt
  generalize t.val = n at *
  revert n; decide

theorem last2_iff (t : Fin cfg2.N) : k2_cond2 (grid2.coords t) = 1#1 ↔ t.val = 199 := by
  unfold k2_cond2
  rw [coords2_val]
  have : t.val < 200 := t.isLt
  generalize t.val = n at *
  revert n; decide

theorem index2_0 : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)
theorem index2_1 : ∀ t : Fin cfg2.N, win2_1.index t 0 = t.val ∧ win2_1.index t 1 = 0 ∧ win2_1.index t 2 = 0 :=
  (by decide +kernel : ∀ t : Fin grid2.N, win2_1.index t 0 = t.val ∧ win2_1.index t 1 = 0 ∧ win2_1.index t 2 = 0)

theorem fblock0 (c : Dev nD) (t : Fin cfg2.N) : (dat2 V c).blockOf 0 t = xFwd (V c main_v4) t.val := by
  funext y
  unfold Dat.blockOf xFwd
  rw [View.read_apply]
  show V c main_v4 _ = _
  congr 1
  obtain ⟨i0, i1, i2⟩ := index2_0 t
  have ht : t.val < 200 := t.isLt
  funext a
  apply Fin.ext
  match a with
  | ⟨0, _⟩ => show win2_0.index t 0 * 1 + 1 * (y 0).val = t.val % 200; have h : (y 0).val < 1 := (y 0).isLt; rw [i0]; omega
  | ⟨1, _⟩ => show win2_0.index t 1 * 1024 + 1 * (y 1).val = (y 1).val; rw [i1]; omega
  | ⟨2, _⟩ => show win2_0.index t 2 * 128 + 1 * (y 2).val = (y 2).val; rw [i2]; omega

theorem fblock1 (c : Dev nD) (t : Fin cfg2.N) : (dat2 V c).blockOf 1 t = hbAt (V c main_v137) t.val := by
  funext y
  unfold Dat.blockOf hbAt
  rw [View.read_apply]
  show V c main_v137 _ = _
  congr 1
  obtain ⟨i0, i1, i2⟩ := index2_1 t
  have ht : t.val < 200 := t.isLt
  funext a
  apply Fin.ext
  match a with
  | ⟨0, _⟩ => show win2_1.index t 0 * 1 + 1 * (y 0).val = t.val % 200; have h : (y 0).val < 1 := (y 0).isLt; rw [i0]; omega
  | ⟨1, _⟩ => show win2_1.index t 1 * 1024 + 1 * (y 1).val = (y 1).val; rw [i1]; omega
  | ⟨2, _⟩ => show win2_1.index t 2 * 80 + 1 * (y 2).val = (y 2).val; rw [i2]; omega

theorem fblock2 (c : Dev nD) (t : Fin cfg2.N) : (dat2 V c).blockOf 2 t = V c main_v126 :=
  Memref.read_access_unit_zero (Elt F) main_v126 (funext fun a => by fin_cases a <;> rfl) (fun a => by fin_cases a <;> exact Nat.le_refl _) (V c main_v126)
theorem fblock3 (c : Dev nD) (t : Fin cfg2.N) : (dat2 V c).blockOf 3 t = V c main_v131 :=
  Memref.read_access_unit_zero (Elt F) main_v131 (funext fun a => by fin_cases a <;> rfl) (fun a => by fin_cases a <;> exact Nat.le_refl _) (V c main_v131)
theorem fblock4 (c : Dev nD) (t : Fin cfg2.N) : (dat2 V c).blockOf 4 t = V c main_v136 :=
  Memref.read_access_unit_zero (Elt F) main_v136 (funext fun a => by fin_cases a <;> rfl) (fun a => by fin_cases a <;> exact Nat.le_refl _) (V c main_v136)
theorem fblock5 (c : Dev nD) (t : Fin cfg2.N) : (dat2 V c).blockOf 5 t = V c main_v142 :=
  Memref.read_access_unit_zero (Elt F) main_v142 (funext fun a => by fin_cases a <;> rfl) (fun a => by fin_cases a <;> exact Nat.le_refl _) (V c main_v142)
theorem fblock6 (c : Dev nD) (t : Fin cfg2.N) : (dat2 V c).blockOf 6 t = V c main_v144 :=
  Memref.read_access_unit_zero (Elt F) main_v144 (funext fun a => by fin_cases a <;> rfl) (fun a => by fin_cases a <;> exact Nat.le_refl _) (V c main_v144)
theorem fblock7 (c : Dev nD) (t : Fin cfg2.N) : (dat2 V c).blockOf 7 t = V c main_v145 :=
  Memref.read_access_unit_zero (Elt F) main_v145 (funext fun a => by fin_cases a <;> rfl) (fun a => by fin_cases a <;> exact Nat.le_refl _) (V c main_v145)

theorem fbefore0 (c : Dev nD) (t : Fin cfg2.N) (d) : (dat2 V c).before 0 t d = xFwd (V c main_v4) t.val :=
  ((dat2 V c).before_in_eq_fetched 0 rfl (fun _ => rfl) (fun _ _ _ => rfl) (fun t => (fblock0 V c t).symm) t d).trans (fblock0 V c t)
theorem fbefore1 (c : Dev nD) (t : Fin cfg2.N) (d) : (dat2 V c).before 1 t d = hbAt (V c main_v137) t.val :=
  ((dat2 V c).before_in_eq_fetched 1 rfl (fun _ => rfl) (fun _ _ _ => rfl) (fun t => (fblock1 V c t).symm) t d).trans (fblock1 V c t)
theorem fbefore2 (c : Dev nD) (t : Fin cfg2.N) (d) : (dat2 V c).before 2 t d = V c main_v126 :=
  ((dat2 V c).before_in_eq_fetched 2 rfl (fun _ => rfl) (fun _ _ _ => rfl) (fun t => (fblock2 V c t).symm) t d).trans (fblock2 V c t)
theorem fbefore3 (c : Dev nD) (t : Fin cfg2.N) (d) : (dat2 V c).before 3 t d = V c main_v131 :=
  ((dat2 V c).before_in_eq_fetched 3 rfl (fun _ => rfl) (fun _ _ _ => rfl) (fun t => (fblock3 V c t).symm) t d).trans (fblock3 V c t)
theorem fbefore4 (c : Dev nD) (t : Fin cfg2.N) (d) : (dat2 V c).before 4 t d = V c main_v136 :=
  ((dat2 V c).before_in_eq_fetched 4 rfl (fun _ => rfl) (fun _ _ _ => rfl) (fun t => (fblock4 V c t).symm) t d).trans (fblock4 V c t)
theorem fbefore5 (c : Dev nD) (t : Fin cfg2.N) (d) : (dat2 V c).before 5 t d = V c main_v142 :=
  ((dat2 V c).before_in_eq_fetched 5 rfl (fun _ => rfl) (fun _ _ _ => rfl) (fun t => (fblock5 V c t).symm) t d).trans (fblock5 V c t)
theorem fbefore6 (c : Dev nD) (t : Fin cfg2.N) (d) : (dat2 V c).before 6 t d = V c main_v144 :=
  ((dat2 V c).before_in_eq_fetched 6 rfl (fun _ => rfl) (fun _ _ _ => rfl) (fun t => (fblock6 V c t).symm) t d).trans (fblock6 V c t)
theorem fbefore7 (c : Dev nD) (t : Fin cfg2.N) (d) : (dat2 V c).before 7 t d = V c main_v145 :=
  ((dat2 V c).before_in_eq_fetched 7 rfl (fun _ => rfl) (fun _ _ _ => rfl) (fun t => (fblock7 V c t).symm) t d).trans (fblock7 V c t)

theorem fwd_obligation (c : Dev nD) : BodyObligation (dat2 V c) (defs₀ (F := F)) 𝒱₀ none Set.univ := fun t => by
  rw [bigSep_W2, bigSep_W2]
  rw [show (dat2 V c).Φ t.castSucc = Inv2 V c t.val from rfl, show (dat2 V c).Φ t.succ = Inv2 V c (t.val + 1) from rfl,
    show (dat2 V c).owesAt none t.succ = (dat2 V c).owesAt none t.castSucc from rfl]
  unfold Inv2
  iintro ⟨⟨%s, %hs, HS, HR⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [fbefore0, fbefore1, fbefore2, fbefore3, fbefore4, fbefore5, fbefore6, fbefore7]
  have hs' : ft V c t.val = if First2 (grid2.coords t) then fstart else s := by
    by_cases h : t.val = 0
    · rw [if_pos ((first2_iff t).mpr h), h]; rfl
    · rw [if_neg (fun h' => h ((first2_iff t).mp h')), hs h]
  have hlast : t.val % 200 = 199 ↔ k2_cond2 (grid2.coords t) = 1#1 := by
    rw [last2_iff]; have : t.val < 200 := t.isLt; omega
  iapply (fwd_run c (grid2.coords t) (st2_0 t) (hstage2_0 _) (st2_1 t) (hstage2_1 _) (st2_2 t) (hstage2_2 _) (st2_3 t) (hstage2_3 _) (st2_4 t) (hstage2_4 _)
    (st2_5 t) (hstage2_5 _) (st2_6 t) (hstage2_6 _) (st2_7 t) (hstage2_7 _) (st2_8 t) (hstage2_8 _)
    (Memref.whole cc2_scratch0) (Memref.isWhole_whole _) (Memref.whole cc2_scratch1) (Memref.isWhole_whole _) (Memref.whole cc2_scratch2) (Memref.isWhole_whole _)
    (Memref.whole cc2_scratch3) (Memref.isWhole_whole _) (Memref.whole cc2_scratch4) (Memref.isWhole_whole _) (Memref.whole cc2_scratch5) (Memref.isWhole_whole _)
    (xFwd (V c main_v4) t.val) (hbAt (V c main_v137) t.val) (V c main_v126) (V c main_v131) (V c main_v136) (V c main_v142) (V c main_v144) (V c main_v145) _ s (ft V c t.val) hs' _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [HS]; · iexact HS
  iintro ⟨H0, H1, H2, H3, H4, H5, H6, H7⟩ H8 HS
  isplitl [HS HR]
  · iexists (ft V c (t.val + 1))
    isplitr; · ipureintro; exact fun _ => rfl
    isplitl [HS]; · iexact HS
    iexact HR
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have hidle : cfg2.idle 8 (cfg2.grid.coords t) = !(k2_cond2 (grid2.coords t) == 1#1) := rfl
  by_cases hc : k2_cond2 (grid2.coords t) = 1#1
  · have hi : cfg2.idle 8 (cfg2.grid.coords t) = false := by rw [hidle, hc]; rfl
    rw [hi]
    rw [if_pos hc]
    iexact H8
  · have hi : cfg2.idle 8 (cfg2.grid.coords t) = true := by rw [hidle, Bool.not_eq_true', beq_eq_false_iff_ne]; exact hc
    have hf : (cfg2.win 8).flush t = false := by
      exact Bool.eq_false_iff.mpr fun h => hc (hlast.mp ((flush2_8 t).mp h))
    rw [hi, hf]
    rw [if_neg hc]
    iexists d8
    iexact H8

/-! ## The result's array -/

theorem fresult_eq (c : Dev nD) : (dat2 V c).arrAt 8 cfg2.N
    = fresult (V c main_v4) (V c main_v137) (V c main_v126) (V c main_v131) (V c main_v136) (V c main_v142) (V c main_v144) (V c main_v145) := by
  refine (dat2 V c).arrAt_eq_of_cover 8 _ (fun t ht => ?_) fun i => ?_
  · have h199 : t.val + 1 = 200 := by
      have h := (flush2_8 t).mp ht
      have : t.val < 200 := t.isLt
      omega
    show fout (ft V c (t.val + 1)) (V c main_v142) (V c main_v144) (V c main_v145) = _
    rw [h199]
    exact (Memref.read_access_unit_zero (Elt F) main_v146 (funext fun a => by fin_cases a <;> rfl) (fun a => by fin_cases a <;> exact Nat.le_refl _) _).symm
  · have h0 : (i 0 : Nat) < 1024 := (i 0).isLt
    have h1 : (i 1 : Nat) < 15 := (i 1).isLt
    let t : Fin cfg2.N := ⟨199, by show 199 < 200; omega⟩
    refine ⟨t, (flush2_8 t).mpr rfl, ?_⟩
    show i ∈ ((View.whole main_v146).slice (win2_8.rect t)).set
    rw [View.set_slice_whole, Rect.mem_set_unit]
    intro a
    match a with
    | ⟨0, _⟩ => show 0 * 1024 ≤ (i 0 : Nat) ∧ (i 0 : Nat) < 0 * 1024 + 1024; omega
    | ⟨1, _⟩ => show 0 * 15 ≤ (i 1 : Nat) ∧ (i 1 : Nat) < 0 * 15 + 15; omega

end Cert.Proof.KernelIdealRun

end
-- ==== Proof.TcRegsI.lean ====
/-
  The two passes as regions: each entered from every array of the TensorCore at given contents and left with its result
  written.
-/
module

public import proofs.«01_k».proof.Proof.TcFwdI
public import Idealize.ShloMosaic.Lib.Pipeline.RegionsLoop

@[expose] public section

noncomputable section

namespace Cert.Proof.KernelIdealRun

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F] [Named F]

local notation "𝕄" => MT nD τ sig (HIx 1) (Elt F) ℕ UU ℕ

variable (V V2 : (c : Dev nD) → (b : Ref sig .tc) → Buf (Elt F) ((c : Thread nD τ).loc b))
variable (adm : (p : Fin 2) → (pcfgs (F := F) p).Adm)

def pdats : (p : Fin 2) → (c : Dev nD) → Dat τ (Elt F) (HIx 1) ℕ UU ℕ (Pipeline.pin (pcfgs (F := F)) adm p) c
  | ⟨0, _⟩ => fun c => dat V c
  | ⟨1, _⟩ => fun c => dat2 V2 c

theorem rest1_eq (c : Dev nD) : (Pipeline.scopedRest (Pipeline.pin (pcfgs (F := F)) adm 0).spec c : sProp 𝕄) = Pipeline.scopedRest spec1 c := rfl
theorem rest2_eq (c : Dev nD) : (Pipeline.scopedRest (Pipeline.pin (pcfgs (F := F)) adm 1).spec c : sProp 𝕄) = Pipeline.scopedRest spec2 c := rfl

variable (Vp : (c : Dev nD) → (b : Ref sig .tc) → Buf (Elt F) ((c : Thread nD τ).loc b))

/-- The core's `owes`, its records within the first call's. -/
abbrev Owes (c : Dev nD) : sProp 𝕄 :=
  iprop(∃ W, ⌜(K (F := F)).WBelow (SparseCore.T c) W 8⌝ ∗ owes (SparseCore.T c) (0 : CellTallies nD τ sig (HIx 1)) W)

set_option backward.isDefEq.respectTransparency.types false in
/-- The backward pass. -/
def reg1 (R : Dev nD → sProp 𝕄) (hVp_out : ∀ c, Vp c main_v137 = hidden (V c main_v4) (V c main_v60) (V c main_v65) (V c main_v70))
    (hVp_ne : ∀ c (b : Ref sig .tc), b ≠ main_v137 → Vp c b = V c b) :
    Pipeline.RegionSeg (pcfgs (F := F)) adm (pdats V V2 adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ Owes c)
  post c := iprop(unscopedBufs c (Vp c) ∗ R c ∗ Owes c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V V2 adm) (launch1).win (launch1).arr_whole c
      ((pdats V V2 adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V V2 adm 0 c).Φ 0 = Inv V c 0 from rfl, rest1_eq, scopedRest1_eq]
    unfold Inv
    iintro ⟨-, -, ⟨%f0, H0⟩, ⟨%f1, H1⟩, HR⟩
    iexists (f0, f1)
    isplitr; · ipureintro; exact fun h => absurd rfl h
    rw [owns_whole, owns_whole]
    isplitl [H0]; · iexact H0
    isplitl [H1]; · iexact H1
    iexact HR
  hout c := by
    rw [Pipeline.ownSems0_none, show (pdats V V2 adm 0 c).Φ (Fin.last _) = Inv V c 200 from rfl, rest1_eq, scopedRest1_eq]
    unfold Inv
    simp only [owns_whole]
    iintro ⟨%s, -, H0, H1, HR⟩
    isplitr; · iempintro
    isplitr; · iempintro
    isplitl [H0]; · iexists s.1; iexact H0
    isplitl [H1]; · iexists s.2; iexact H1
    iexact HR
  hexit c := by
    have hjoin := Pipeline.unscopedBufs_of_arrays (p := 0) (pcfgs (F := F)) adm (Ix := HIx 1) (Name := ℕ) (U := UU) (Lvl := ℕ) (launch1).win (launch1).arr_whole c
      (pdats V V2 adm) ((pdats V V2 adm 0 c).share_full fun _ => rfl) (V c) (Vp c) ((pdats V V2 adm 0 c).arrAt · cfg1.N)
      (fun w => by
        fin_cases w
        · exact ((pdats V V2 adm 0 c).arrAt_in 0 rfl _).trans (hVp_ne c main_v4 (by decide)).symm
        · exact ((pdats V V2 adm 0 c).arrAt_in 1 rfl _).trans (hVp_ne c main_v60 (by decide)).symm
        · exact ((pdats V V2 adm 0 c).arrAt_in 2 rfl _).trans (hVp_ne c main_v65 (by decide)).symm
        · exact ((pdats V V2 adm 0 c).arrAt_in 3 rfl _).trans (hVp_ne c main_v70 (by decide)).symm
        · exact (result_eq V c).trans (hVp_out c).symm)
      (fun b hb => hVp_ne c b fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO); ipureintro
    intro p hp
    rcases hW hp with h | h
    · exact h
    · obtain ⟨w, s, rfl⟩ := h
      exact Nat.zero_le _

set_option backward.isDefEq.respectTransparency.types false in
/-- The forward pass. -/
def reg2 (R : Dev nD → sProp 𝕄) (hVp_out : ∀ c, Vp c main_v146 = fresult (V2 c main_v4) (V2 c main_v137) (V2 c main_v126) (V2 c main_v131) (V2 c main_v136) (V2 c main_v142) (V2 c main_v144) (V2 c main_v145))
    (hVp_ne : ∀ c (b : Ref sig .tc), b ≠ main_v146 → Vp c b = V2 c b) :
    Pipeline.RegionSeg (pcfgs (F := F)) adm (pdats V V2 adm) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (fwd_obligation V2 c).loose
  hwaits := Pipeline.hwaits_of_owed_zero _ _ _ _ (K (F := F)).L (K (F := F)).lev 1 fun _ _ => rfl
  pre c := iprop(unscopedBufs c (V2 c) ∗ R c ∗ Owes c)
  post c := iprop(unscopedBufs c (Vp c) ∗ R c ∗ Owes c)
  X _ := BI.emp
  Y _ := BI.emp
  Z c := iprop(Pipeline.unscopedRest (Ix := HIx 1) (Name := ℕ) (U := UU) (Lvl := ℕ) spec2 c (V2 c) ∗ R c)
  hentry c := by
    rw [Pipeline.ownSems0_none]
    have hsplit := Pipeline.arrays_of_unscopedBufs (p := 1) (pcfgs (F := F)) adm (pdats V V2 adm) (launch2).win (launch2).arr_whole c
      ((pdats V V2 adm 1 c).share_full fun _ => rfl) (V2 c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V V2 adm 1 c).Φ 0 = Inv2 V2 c 0 from rfl, rest2_eq, scopedRest2_eq]
    unfold Inv2
    iintro ⟨-, -, R1, R2, R3, R4, R5, R6, R7, R8, R9, ⟨%f0, H0⟩, ⟨%f1, H1⟩, ⟨%f2, H2⟩, ⟨%f3, H3⟩, ⟨%f4, H4⟩, ⟨%f5, H5⟩⟩
    iexists ⟨f0, f1, f2, f3, f4, f5⟩
    isplitr; · ipureintro; exact fun h => absurd rfl h
    unfold Scr2 Scr Rest2
    simp only [owns_whole]
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  hout c := by
    rw [Pipeline.ownSems0_none, show (pdats V V2 adm 1 c).Φ (Fin.last _) = Inv2 V2 c 200 from rfl, rest2_eq, scopedRest2_eq]
    unfold Inv2 Scr2 Scr Rest2
    simp only [owns_whole]
    iintro ⟨%s, -, ⟨H0, H1, H2, H3, H4, H5⟩, R1, R2, R3, R4, R5, R6, R7, R8, R9⟩
    isplitr; · iempintro
    isplitr; · iempintro
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [H0]; · iexists s.h; iexact H0
    isplitl [H1]; · iexists s.c; iexact H1
    isplitl [H2]; · iexists s.mx; iexact H2
    isplitl [H3]; · iexists s.sm; iexact H3
    isplitl [H4]; · iexists s.mxb; iexact H4
    iexists s.smb; iexact H5
  hexit c := by
    have hjoin := Pipeline.unscopedBufs_of_arrays (p := 1) (pcfgs (F := F)) adm (Ix := HIx 1) (Name := ℕ) (U := UU) (Lvl := ℕ) (launch2).win (launch2).arr_whole c
      (pdats V V2 adm) ((pdats V V2 adm 1 c).share_full fun _ => rfl) (V2 c) (Vp c) ((pdats V V2 adm 1 c).arrAt · cfg2.N)
      (fun w => by
        fin_cases w
        · exact ((pdats V V2 adm 1 c).arrAt_in 0 rfl _).trans (hVp_ne c main_v4 (by decide)).symm
        · exact ((pdats V V2 adm 1 c).arrAt_in 1 rfl _).trans (hVp_ne c main_v137 (by decide)).symm
        · exact ((pdats V V2 adm 1 c).arrAt_in 2 rfl _).trans (hVp_ne c main_v126 (by decide)).symm
        · exact ((pdats V V2 adm 1 c).arrAt_in 3 rfl _).trans (hVp_ne c main_v131 (by decide)).symm
        · exact ((pdats V V2 adm 1 c).arrAt_in 4 rfl _).trans (hVp_ne c main_v136 (by decide)).symm
        · exact ((pdats V V2 adm 1 c).arrAt_in 5 rfl _).trans (hVp_ne c main_v142 (by decide)).symm
        · exact ((pdats V V2 adm 1 c).arrAt_in 6 rfl _).trans (hVp_ne c main_v144 (by decide)).symm
        · exact ((pdats V V2 adm 1 c).arrAt_in 7 rfl _).trans (hVp_ne c main_v145 (by decide)).symm
        · exact (fresult_eq V2 c).trans (hVp_out c).symm)
      (fun b hb => hVp_ne c b fun h => hb (h ▸ Finset.mem_image.mpr ⟨8, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO); ipureintro
    intro p hp
    rcases hW hp with h | h
    · exact h
    · obtain ⟨w, s, rfl⟩ := h
      exact Nat.zero_le _

end Cert.Proof.KernelIdealRun

end
-- ==== Proof.ScMainI.lean ====
/-
  The program's run: the host operations before the gather, the gather, the weights laid out, the backward pass, the last
  layer's weights laid out, the forward pass; every array of the TensorCore at what the run leaves in it.
-/
module

public import proofs.«01_k».proof.Proof.ScOpsI
public import proofs.«01_k».proof.Proof.TcRegsI

@[expose] public section

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq after wp_seq)
open Idealize.ShloMosaic.Tactic

variable {F : FTy → Type}

local notation "𝕄" => MT nD τ sig (HIx 1) (Elt F) ℕ UU ℕ

variable [FloatOps F] [Named F]

/-! ## The run -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after opsA (V0 m d)
abbrev iC (d : Dev nD) : S204800.Idx → Elt F .i32 := V1 m d iR
abbrev tC (d : Dev nD) : S100000x128.Idx → Elt F .f32 := V1 m d tR
abbrev oC (d : Dev nD) : S204800x128.Idx → Elt F .f32 := V1 m d oR
def V2 (d : Dev nD) : Valuation τ sig (Elt F) := Function.update (V1 m d) oR (gat (tC m d) (iC m d))
def VB (d : Dev nD) : Valuation τ sig (Elt F) := after opsB (V2 m d)
def V3 (d : Dev nD) : Valuation τ sig (Elt F) := after opsF (VB m d)

/-- The backward pass's result. -/
def hid (d : Dev nD) : S200x1024x80.Idx → Elt F .f32 :=
  hidden (V3 m d (Proc.devRef .tc main_v4)) (V3 m d (Proc.devRef .tc main_v60)) (V3 m d (Proc.devRef .tc main_v65)) (V3 m d (Proc.devRef .tc main_v70))
def V4 (d : Dev nD) : Valuation τ sig (Elt F) := Function.update (V3 m d) (Proc.devRef .tc main_v137) (hid m d)
def V5 (d : Dev nD) : Valuation τ sig (Elt F) := after opsC (V4 m d)

/-- The forward pass's result. -/
def out (d : Dev nD) : S1024x15.Idx → Elt F .f32 :=
  fresult (V5 m d (Proc.devRef .tc main_v4)) (V5 m d (Proc.devRef .tc main_v137)) (V5 m d (Proc.devRef .tc main_v126)) (V5 m d (Proc.devRef .tc main_v131)) (V5 m d (Proc.devRef .tc main_v136))
    (V5 m d (Proc.devRef .tc main_v142)) (V5 m d (Proc.devRef .tc main_v144)) (V5 m d (Proc.devRef .tc main_v145))
def V6 (d : Dev nD) : Valuation τ sig (Elt F) := Function.update (V5 m d) (Proc.devRef .tc main_v146) (out m d)

abbrev PP : (K (F := F)).Pay (nD := nD) (Val := Elt F) (Name := ℕ) (U := UU) := P (iC m) (tC m) (oC m)

def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

abbrev adm : (p : Fin 2) → (pcfgs (F := F) p).Adm := fun p => (cfgs p).toPCfg_adm
abbrev PC : (p : Fin 2) → Pipeline.Cfg sig Λ₀ := Pipeline.pin (pcfgs (F := F)) adm

def u₀ : UU := (initOf (K (F := F)).hsCells (K (F := F)).hsToks,
  (initOf (Pipeline.cells (nD := nD) (τ := τ) (PC (F := F)) cellOf_inj) (Pipeline.launchToks (nD := nD) (τ := τ) (PC (F := F)) cellOf_inj), 1))

/-- A region's ghost state, and the two regions'. -/
abbrev G1 (p : Fin 2) (d : Dev nD) : sProp 𝕄 := iprop(Pipeline.cellsGhost (PC (F := F)) EP p d ∗ Pipeline.toksInit (PC (F := F)) EP p d)
abbrev G (d : Dev nD) : sProp 𝕄 := iprop(G1 (F := F) 0 d ∗ G1 (F := F) 1 d)

theorem bigSep_two (Φ : Fin 2 → sProp 𝕄) : bigSep Finset.univ Φ = iprop(Φ 0 ∗ Φ 1) :=
  bigSep_univ_eq_bigSepL [(0 : Fin 2), (1 : Fin 2)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) :=
    (bigSep_congr fun _ _ => bigSep_univ_of_subsingleton (0 : Fin 1)).trans (bigSep_emp_const _)
  have hG : (bigSep Finset.univ fun d : Dev nD => G (F := F) d)
      = (iprop((bigSep Finset.univ fun c : Dev nD => bigSep Finset.univ fun p => Pipeline.cellsGhost (PC (F := F)) EP p c)
        ∗ (bigSep Finset.univ fun c : Dev nD => bigSep Finset.univ fun p => Pipeline.toksInit (PC (F := F)) EP p c)) : sProp 𝕄) := by
    rw [← bigSep_sep']
    refine bigSep_congr fun d _ => ?_
    rw [← bigSep_sep', bigSep_two]
  rw [hx, hG]
  unfold u₀
  iintro Hu
  ihave H := (ownU_pair (initOf (K (F := F)).hsCells (K (F := F)).hsToks)
    ((initOf (Pipeline.cells (nD := nD) (τ := τ) (PC (F := F)) cellOf_inj) (Pipeline.launchToks (nD := nD) (τ := τ) (PC (F := F)) cellOf_inj), 1) : UP × Counters)) $$ Hu
  icases H with ⟨HH, HP⟩
  imod (Pipeline.fund_ghost (PC (F := F)) (EP (F := F)) cellOf_inj) $$ [HP] with HP
  · iexact HP
  imodintro
  isplitl [HH]; · iexact HH
  isplitl [HP]; · iexact HP
  iempintro

abbrev FIN (d : Dev nD) : sProp 𝕄 := held (T d) arrays (V6 m d)

/-- What the two regions are entered with and left with. -/
abbrev Vin (c : Dev nD) (b : Ref sig .tc) : Buf (Elt F) ((c.tc : Thread nD τ).loc b) := V3 m c (Proc.devRef .tc b)
abbrev Vout (c : Dev nD) (b : Ref sig .tc) : Buf (Elt F) ((c.tc : Thread nD τ).loc b) := V4 m c (Proc.devRef .tc b)

theorem Vout_out (c : Dev nD) : Vout m c main_v137 = hidden (Vin m c main_v4) (Vin m c main_v60) (Vin m c main_v65) (Vin m c main_v70) :=
  Function.update_self _ _ _
theorem Vout_ne (c : Dev nD) (b : Ref sig .tc) (h : b ≠ main_v137) : Vout m c b = Vin m c b :=
  Function.update_of_ne (fun e => h (Proc.devRef_injective (.tc : Proc τ) e)) _ _

abbrev Vin2 (c : Dev nD) (b : Ref sig .tc) : Buf (Elt F) ((c.tc : Thread nD τ).loc b) := V5 m c (Proc.devRef .tc b)
abbrev Vout2 (c : Dev nD) (b : Ref sig .tc) : Buf (Elt F) ((c.tc : Thread nD τ).loc b) := V6 m c (Proc.devRef .tc b)

theorem Vout2_out (c : Dev nD) : Vout2 m c main_v146 = fresult (Vin2 m c main_v4) (Vin2 m c main_v137) (Vin2 m c main_v126) (Vin2 m c main_v131) (Vin2 m c main_v136)
    (Vin2 m c main_v142) (Vin2 m c main_v144) (Vin2 m c main_v145) :=
  Function.update_self _ _ _
theorem Vout2_ne (c : Dev nD) (b : Ref sig .tc) (h : b ≠ main_v146) : Vout2 m c b = Vin2 m c b :=
  Function.update_of_ne (fun e => h (Proc.devRef_injective (.tc : Proc τ) e)) _ _

theorem phinj : Function.Injective (Pipeline.cellOf (nD := nD) (τ := τ) (PC (F := F))) := cellOf_inj

abbrev R0 : Dev nD → sProp 𝕄 := fun _ => iprop(emp)
abbrev dats := pdats (Vin m) (Vin2 m) adm
def seg1 := reg1 (Vin m) (Vin2 m) adm (Vout m) (R0 (F := F)) (Vout_out m) (Vout_ne m)
def seg2 := reg2 (Vin m) (Vin2 m) adm (Vout2 m) (R0 (F := F)) (Vout2_out m) (Vout2_ne m)

theorem seg1_pre (d : Dev nD) : (seg1 m).pre d = iprop(held (T d) arrays (V3 m d) ∗ R0 d ∗ Owes (F := F) d) := by
  rw [← unscoped_held d (V3 m d)]; unfold seg1; rfl
theorem seg1_post (d : Dev nD) : (seg1 m).post d = iprop(held (T d) arrays (V4 m d) ∗ R0 d ∗ Owes (F := F) d) := by
  rw [← unscoped_held d (V4 m d)]; unfold seg1; rfl
theorem seg2_pre (d : Dev nD) : (seg2 m).pre d = iprop(held (T d) arrays (V5 m d) ∗ R0 d ∗ Owes (F := F) d) := by
  rw [← unscoped_held d (V5 m d)]; unfold seg2; rfl
theorem seg2_post (d : Dev nD) : (seg2 m).post d = iprop(held (T d) arrays (V6 m d) ∗ R0 d ∗ Owes (F := F) d) := by
  rw [← unscoped_held d (V6 m d)]; unfold seg2; rfl

/-- The call of a pass, in the program's own labels. -/
theorem wp_region [∀ e, Nonempty (Elt F e)] (p : Fin 2) (seg : Pipeline.RegionSeg (pcfgs (F := F)) adm (dats m) none defs₀ 𝒱₀ (K (F := F)).L (K (F := F)).lev p)
    (d : Dev nD) (W W' : Valuation τ sig (Elt F))
    (hpre : seg.pre d = iprop(held (T d) arrays W ∗ R0 d ∗ Owes (F := F) d)) (hpost : seg.post d = iprop(held (T d) arrays W' ∗ R0 d ∗ Owes (F := F) d)) (Q : PUnit → sProp 𝕄) :
    (iprop((iprop(boundary (T d) ∗ held (T d) arrays W' ∗ Owes (F := F) d) -∗ Q ⟨⟩)
        ∗ boundary (T d) ∗ (held (T d) arrays W ∗ Owes (F := F) d) ∗ levAts (K (F := F)).L (K (F := F)).lev ∗ G1 (F := F) p d) : sProp 𝕄)
      ⊢ wp frame (wpE ((K (F := F)).defs (D (F := F))) 𝒱 (T d) none) Set.univ
          (SparseCore.liftProg (Prog.lift (.customCall (Pipeline.entry p) ()))) Q := by
  refine BIBase.Entails.trans ?_ ((K (F := F)).wp_liftProg (D (F := F)) 𝒱 (T d) Set.univ none (Prog.lift (.customCall (Pipeline.entry p) ())) Q)
  have hv : ∀ u ∈ (none : Option (𝒱).V), (𝒱).lt (.inr ((Pipeline.pin (pcfgs (F := F)) adm p).tripCount + 1)) u := by
    intro u hu; cases hu
  refine BIBase.Entails.trans ?_ (Pipeline.RegionSeg.wp (pcfgs (F := F)) adm (dats m) none phinj EP defs₀ 𝒱₀ (K (F := F)).L (K (F := F)).lev (p := p)
    seg d none hv (α := PUnit) (fun x => .ret x) Q)
  rw [hpre, hpost]
  iintro ⟨Hk, Hb, ⟨Hh, HO⟩, Hlev, HG, HT⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hlev]; · iexact Hlev
  isplitl [HG] <;> iassumption

/-- @main on a TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (V0 m d) from unscoped_held d (V0 m d), main_eq]
  iintro ⟨#Hctx, Hst, ⟨Hb, Hheld, Hts, -⟩, HG⟩
  iapply (wp_seq 𝒱 none Set.univ d arrays _ opsA opsA_sub opsA_fresh (V0 m d)) $$ [Hb Hheld]
  · isplitl [Hb]; · iexact Hb
    iexact Hheld
  iintro ⟨Hb, Hheld⟩
  ihave Hh := (Entails.of_eq (held_sub_split (T d) trio_sub (after opsA (V0 m d)))) $$ Hheld
  icases Hh with ⟨H3, Hrest⟩
  ihave H3' := (Entails.of_eq (held_trio d (after opsA (V0 m d)))) $$ H3
  icases H3' with ⟨Hi, Ht, Ho⟩
  rw [wp_bind]
  iapply ((K (F := F)).wp_run (D (F := F)) 𝒱 (EH := EH) (P := PP m) κ d 0) $$ [Hst Hi Ht Ho Hb Hts Hrest HG]
  isplitr; · iexact Hctx
  isplitl [Hst]; · iexact Hst
  isplitl [Hi Ht Ho]
  · rw [st_all]
    isplitl [Hi]; · iexact Hi
    isplitl [Ht]; · iexact Ht
    iexact Ho
  iintro ⟨Hst, Hdn⟩
  ihave Hdn' := (Entails.of_eq (dn_all (iC m) (tC m) (oC m) d)) $$ Hdn
  icases Hdn' with ⟨Hi, Ht, Ho⟩
  iapply (wp_seq 𝒱 none Set.univ d arrays _ opsB opsB_sub opsB_fresh (V2 m d)) $$ [Hb Hi Ht Ho Hrest]
  · isplitl [Hb]; · iexact Hb
    rw [held_sub_split (T d) trio_sub (V2 m d), held_trio]
    isplitl [Hi Ht Ho]
    · isplitl [Hi]; · iexact Hi
      isplitl [Ht]; · iexact Ht
      rw [show V2 m d oR = gat (tC m d) (iC m d) from Function.update_self _ _ _]
      iexact Ho
    · rw [held_congr (T d) (V := V2 m d) (V' := after opsA (V0 m d)) (fun b hb => Function.update_of_ne (fun e => (Finset.mem_sdiff.mp hb).2 (e ▸ oR_mem)) _ _)]
      iexact Hrest
  iintro ⟨Hb, Hheld⟩
  iapply (wp_seq 𝒱 none Set.univ d arrays _ opsF opsF_sub opsF_fresh (VB m d)) $$ [Hb Hheld]
  · isplitl [Hb]; · iexact Hb
    iexact Hheld
  iintro ⟨Hb, Hheld⟩
  icases HG with ⟨HG, HG'⟩
  ihave #Hlev := (SparseCore.Cfg.ctx_levAts κ) $$ Hctx
  unfold SparseCore.Cfg.tcSt
  rw [(K (F := F)).Otc_end d (n := (0 : Fin 1).val + 1) (Nat.le_refl 1)]
  icases Hst with ⟨HO, Hst⟩
  rw [wp_bind]
  iapply (wp_region m 0 (seg1 m) d (V3 m d) (V4 m d) (seg1_pre m d) (seg1_post m d) _)
  isplitl [Hts Hst HG']
  · iintro ⟨Hb, Hheld, HO⟩
    iapply (wp_seq 𝒱 none Set.univ d arrays _ opsC opsC_sub opsC_fresh (V4 m d)) $$ [Hb Hheld]
    · isplitl [Hb]; · iexact Hb
      iexact Hheld
    iintro ⟨Hb, Hheld⟩
    rw [wp_bind]
    iapply (wp_region m 1 (seg2 m) d (V5 m d) (V6 m d) (seg2_pre m d) (seg2_post m d) _)
    isplitl [Hts Hst]
    · iintro ⟨Hb, Hheld, HO⟩
      rw [wp_pure]; imodintro
      rw [(K (F := F)).Otc_end d (n := 1) (Nat.le_refl 1)]
      isplitl [HO Hst]
      · isplitl [HO]; · iexact HO
        iexact Hst
      isplitl [Hheld]; · iexact Hheld
      isplitl [Hb] <;> iassumption
    isplitl [Hb]; · iexact Hb
    isplitl [Hheld HO]
    · isplitl [Hheld]; · iexact Hheld
      iexact HO
    isplitr; · iexact Hlev
    iexact HG'
  isplitl [Hb]; · iexact Hb
  isplitl [Hheld HO]
  · isplitl [Hheld]; · iexact Hheld
    iexact HO
  isplitr; · iexact Hlev
  iexact HG

def fq (d : Dev nD) (s' : Phys nD τ sig (Elt F)) : Prop := ∀ b ∈ arrays, s'.mem.mem (d, b) = V6 m d b

theorem hfin (d : Dev nD) (s' : Phys nD τ sig (Elt F)) : iprop(FIN m d ∗ SI s') ⊢ (⌜fq m d s'⌝ : sProp 𝕄) := by
  unfold FIN held fq
  iintro ⟨H, HSI⟩
  ihave %h := (SI_pointsTo_bufs_agree (qs := fun _ => fullShare) arrays) $$ [HSI H]
  · isplitl [HSI]; · iexact HSI
    iexact H
  ipureintro
  exact h

def QC : PUnit × MemSt nD τ sig (Elt F) → Prop := fun r => (∀ d : Dev nD, ∀ b ∈ arrays, r.2.mem (d, b) = V6 m d b) ∧ r.2.sem = fun _ => 0

theorem run_main [∀ e, Nonempty (Elt F e)] (hin : ∀ d j, (iC m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (iC m) (tC m) (oC m) facts hin)
    (fun q _ => match q with | 0 => SparseCore.Cfg.VecSplit.of_plain (vecSplit (iC m) (tC m) (oC m)))
    m ρ main (G (F := F)) (FIN m) (u₀ (F := F)) (sep_elim_left.trans (hu₀ m)) (hmain m ρ) (fq m) (hfin m) (QC m) (fun _ h hz => ⟨h, hz⟩)

end Cert.Proof.KernelIdealRun

end
-- ==== Proof.ScArgsI.lean ====
/-
  What the run starts from: its arguments, which it leaves as they were, and the row numbers and the table that the
  gather takes, read off them.
-/
module

public import proofs.«01_k».proof.Proof.ScMainI
public import Idealize.ShloMosaic.Lib.Pipeline.Value
public import Idealize.ShloMosaic.Lib.KernelVsHost

@[expose] public section

noncomputable section

namespace Cert.Proof.KernelIdealRun

open Cert.KernelIdeal Cert.KernelIdeal.Gen

open Idealize.ShloMosaic Idealize.ShloMosaic.ValueIdx Idealize.ShloMosaic.TcCoe
open Idealize.ShloMosaic.StableHlo

variable {F : FTy → Type} [FloatOps F] [Named F]
variable (m : (ℓ : Loc nD τ sig) → Buf (Elt F) ℓ) (d : Dev nD)

/-- The arguments the run starts from. -/
abbrev argI : S1024x200.Idx → Elt F .i32 := m ((d.tc : Thread nD τ).loc main_arg0)
abbrev argT : S100000x64.Idx → Elt F .f32 := m ((d.tc : Thread nD τ).loc main_arg1)
abbrev argWihF : S320x64.Idx → Elt F .f32 := m ((d.tc : Thread nD τ).loc main_arg2)
abbrev argWhhF : S320x80.Idx → Elt F .f32 := m ((d.tc : Thread nD τ).loc main_arg3)
abbrev argBihF : S320.Idx → Elt F .f32 := m ((d.tc : Thread nD τ).loc main_arg4)
abbrev argBhhF : S320.Idx → Elt F .f32 := m ((d.tc : Thread nD τ).loc main_arg5)
abbrev argWihB : S320x64.Idx → Elt F .f32 := m ((d.tc : Thread nD τ).loc main_arg6)
abbrev argWhhB : S320x80.Idx → Elt F .f32 := m ((d.tc : Thread nD τ).loc main_arg7)
abbrev argBihB : S320.Idx → Elt F .f32 := m ((d.tc : Thread nD τ).loc main_arg8)
abbrev argBhhB : S320.Idx → Elt F .f32 := m ((d.tc : Thread nD τ).loc main_arg9)
abbrev argFcW : S15x160.Idx → Elt F .f32 := m ((d.tc : Thread nD τ).loc main_arg10)
abbrev argFcB : S15.Idx → Elt F .f32 := m ((d.tc : Thread nD τ).loc main_arg11)

/-! ## What the host operations write -/

/-- What the operations before the gather write. -/
abbrev wrA : List (Ref sig .tc) :=
  [main_v0, main_v1, main_c, main_call0_v0, main_v2]
/-- What those before the passes write: the backward pass's weights. -/
abbrev wrB : List (Ref sig .tc) :=
  [main_v4, main_v5, main_v6, main_v7, main_cst, main_v8, main_cst_0, main_v9, main_cst_1, main_v10, main_v11, main_c_2, main_v12, main_c_3, main_v13, main_v14, main_v15, main_v16, main_c_4, main_v17, main_c_5, main_v18, main_v19, main_v20, main_v21, main_c_6, main_v22, main_c_7, main_v23, main_v24, main_v25, main_v26, main_c_8, main_v27, main_c_9, main_v28, main_v29, main_v30, main_v31, main_c_10, main_v32, main_c_11, main_v33, main_v34, main_v35, main_v36, main_c_12, main_v37, main_c_13, main_v38, main_v39, main_v40, main_v41, main_c_14, main_v42, main_c_15, main_v43, main_v44, main_v45, main_v46, main_c_16, main_v47, main_c_17, main_v48, main_v49, main_v50, main_v51, main_c_18, main_v52, main_c_19, main_v53, main_v54, main_v55, main_v56, main_c_20, main_v57, main_c_21, main_v58, main_v59, main_v60, main_v61, main_c_22, main_v62, main_c_23, main_v63, main_v64, main_v65, main_v66, main_c_24, main_v67, main_c_25, main_v68, main_v69, main_v70]
/-- The forward pass's weights. -/
abbrev wrF : List (Ref sig .tc) :=
  [main_v71, main_v72, main_v73, main_cst_26, main_v74, main_cst_27, main_v75, main_cst_28, main_v76, main_v77, main_c_29, main_v78, main_c_30, main_v79, main_v80, main_v81, main_v82, main_c_31, main_v83, main_c_32, main_v84, main_v85, main_v86, main_v87, main_c_33, main_v88, main_c_34, main_v89, main_v90, main_v91, main_v92, main_c_35, main_v93, main_c_36, main_v94, main_v95, main_v96, main_v97, main_c_37, main_v98, main_c_38, main_v99, main_v100, main_v101, main_v102, main_c_39, main_v103, main_c_40, main_v104, main_v105, main_v106, main_v107, main_c_41, main_v108, main_c_42, main_v109, main_v110, main_v111, main_v112, main_c_43, main_v113, main_c_44, main_v114, main_v115, main_v116, main_v117, main_c_45, main_v118, main_c_46, main_v119, main_v120, main_v121, main_v122, main_c_47, main_v123, main_c_48, main_v124, main_v125, main_v126, main_v127, main_c_49, main_v128, main_c_50, main_v129, main_v130, main_v131, main_v132, main_c_51, main_v133, main_c_52, main_v134, main_v135, main_v136]
/-- What those between the passes write. -/
abbrev wrC : List (Ref sig .tc) :=
  [main_cst_53, main_v138, main_v139, main_v140, main_c_54, main_v141, main_v142, main_v143, main_v144, main_v145]

abbrev args : List (Ref sig .tc) := [main_arg0, main_arg1, main_arg2, main_arg3, main_arg4, main_arg5, main_arg6, main_arg7, main_arg8, main_arg9, main_arg10, main_arg11]

theorem args_wrA : ∀ r ∈ args, r ∉ wrA := by decide
theorem args_wrB : ∀ r ∈ args, r ∉ wrB := by decide
theorem args_wrF : ∀ r ∈ args, r ∉ wrF := by decide
theorem args_wrC : ∀ r ∈ args, r ∉ wrC := by decide

theorem keepA (W : Valuation τ sig (Elt F)) {r : Ref sig .tc} (h : r ∉ wrA) : after opsA W (Proc.devRef .tc r) = W (Proc.devRef .tc r) := after_unwritten wrA rfl h W
theorem keepB (W : Valuation τ sig (Elt F)) {r : Ref sig .tc} (h : r ∉ wrB) : after opsB W (Proc.devRef .tc r) = W (Proc.devRef .tc r) := after_unwritten wrB rfl h W
theorem keepF (W : Valuation τ sig (Elt F)) {r : Ref sig .tc} (h : r ∉ wrF) : after opsF W (Proc.devRef .tc r) = W (Proc.devRef .tc r) := after_unwritten wrF rfl h W
theorem keepC (W : Valuation τ sig (Elt F)) {r : Ref sig .tc} (h : r ∉ wrC) : after opsC W (Proc.devRef .tc r) = W (Proc.devRef .tc r) := after_unwritten wrC rfl h W

theorem update_keep (W : Valuation τ sig (Elt F)) (b r : Ref sig .tc) (v : (Proc.devRef (τ := τ) .tc b).ty.Contents (Elt F)) (h : r ≠ b) :
    Function.update W (Proc.devRef .tc b) v (Proc.devRef .tc r) = W (Proc.devRef .tc r) :=
  Function.update_of_ne (fun e => h (Proc.devRef_injective (.tc : Proc τ) e)) _ _

theorem args_ne : ∀ r ∈ args, r ≠ main_v3 ∧ r ≠ main_v137 ∧ r ≠ main_v146 := by decide

/-! ## The arguments stay -/

variable (r : Ref sig .tc) (hr : r ∈ args)
include hr

theorem V2_arg : V2 m d (Proc.devRef .tc r) = V0 m d (Proc.devRef .tc r) :=
  (update_keep (V1 m d) main_v3 r _ (args_ne r hr).1).trans (keepA _ (args_wrA r hr))
theorem VB_arg : VB m d (Proc.devRef .tc r) = V0 m d (Proc.devRef .tc r) := (keepB _ (args_wrB r hr)).trans (V2_arg m d r hr)
theorem V3_arg : V3 m d (Proc.devRef .tc r) = V0 m d (Proc.devRef .tc r) := (keepF _ (args_wrF r hr)).trans (VB_arg m d r hr)
theorem V4_arg : V4 m d (Proc.devRef .tc r) = V0 m d (Proc.devRef .tc r) := (update_keep (V3 m d) main_v137 r _ (args_ne r hr).2.1).trans (V3_arg m d r hr)
theorem V5_arg : V5 m d (Proc.devRef .tc r) = V0 m d (Proc.devRef .tc r) := (keepC _ (args_wrC r hr)).trans (V4_arg m d r hr)
/-- The run leaves every argument as it was. -/
theorem V6_arg : V6 m d (Proc.devRef .tc r) = V0 m d (Proc.devRef .tc r) := (update_keep (V5 m d) main_v146 r _ (args_ne r hr).2.2).trans (V5_arg m d r hr)

omit hr

theorem V1_iR : iC m d = shapeCast S204800 (transpose S200x1024 [1, 0] (argI m d) transposes_S1024x200_S200x1024_1_0) shapeCasts_S200x1024_S204800 := by
  unfold iC V1; simp only [opsA, TRef.binary, TRef.unary, TRef.toBuf, TRef.ofBuf, cast_eq]; after_results <;> rfl
theorem V1_tR : tC m d = pad S100000x128 ![0, 0] ![0, 64] ![0, 0] (argT m d) (sitofp .f32 (constantI S_ 32 0#32)) pads_S100000x64_S100000x128_000_0640 h_S_ := by
  unfold tC V1; simp only [opsA, TRef.binary, TRef.unary, TRef.toBuf, TRef.ofBuf, cast_eq]; after_results <;> rfl

/-- The row numbers in range. -/
theorem iC_lt (hx : ∀ j, (argI m d j).toNat < 100000) (j : S204800.Idx) : (iC m d j).toNat < 100000 := by
  rw [V1_iR]; exact hx _

end Cert.Proof.KernelIdealRun

end
-- ==== Proof.Blocks.lean ====
/-
  The weights as the program lays them out: each gate's columns written into a block of its own, zeros around it; and what
  such an array holds at an entry.
-/
module

public import Idealize.ShloMosaic.Lib.Routing.OpsOne
public import Idealize.ShloMosaic.Lib.Routing.OpsSet
public import Idealize.ShloMosaic.Lib.KernelVsHost
public import Idealize.ShloMosaic.Lib.Pipeline.Value

@[expose] public section

namespace Cert.Proof.Blocks

open Idealize.ShloMosaic Idealize.ShloMosaic.ValueIdx Idealize.ShloMosaic.Routing

variable {α : Type}

/-- A block of `U` rows and `W` columns written at row `a`, column `b`, read at an entry. -/
theorem scatter_block {R C U W : Nat} (d : ScatterDims (shape2 R C) (shape1 2) (shape2 U W)) (hsd : d.scatterDimsToOperandDims = [0, 1])
    (hivd : d.indexVectorDim = 0) (hwin : ∀ k : (shape2 U W).Idx, d.window k 0 = (k 0).val ∧ d.window k 1 = (k 1).val)
    (x0 : (shape2 R C).Idx → α) (idx : IVec (shape1 2) 32) (upd : (shape2 U W).Idx → α) (a b : Nat)
    (ha : (idx (ix1 (0 : Fin 2))).toInt = a) (hb : (idx (ix1 (1 : Fin 2))).toInt = b) (r : Fin R) (c : Fin C) :
    Host.scatter d (fun _ b => b) x0 idx upd (ix2 r c)
      = if h : a ≤ r.val ∧ r.val < a + U ∧ b ≤ c.val ∧ c.val < b + W
        then upd (ix2 (⟨r.val - a, by omega⟩ : Fin U) (⟨c.val - b, by omega⟩ : Fin W)) else x0 (ix2 r c) := by
  have lands : ∀ k : (shape2 U W).Idx, d.resultIdx? k idx = some (ix2 r c) ↔ a + (k 0).val = r.val ∧ b + (k 1).val = c.val := fun k => by
    rw [resultIdx?_ix2, start_pair d hsd hivd, start_pair d hsd hivd, (hwin k).1, (hwin k).2, ha, hb]
    omega
  by_cases h : a ≤ r.val ∧ r.val < a + U ∧ b ≤ c.val ∧ c.val < b + W
  · rw [dif_pos h]
    refine scatter_set_hit d x0 idx upd _ _ (fun k hk => ?_) (ix2 (⟨r.val - a, by omega⟩ : Fin U) (⟨c.val - b, by omega⟩ : Fin W))
      ((lands _).2 ⟨?_, ?_⟩)
    · have q := (lands k).1 hk
      rw [eq_ix2 k]
      refine congrArg₂ (fun e f => upd (ix2 e f)) (Fin.ext ?_) (Fin.ext ?_)
      · show (k 0).val = r.val - a
        omega
      · show (k 1).val = c.val - b
        omega
    · show a + (r.val - a) = r.val
      omega
    · show b + (c.val - b) = c.val
      omega
  · rw [dif_neg h]
    refine scatter_set_miss d x0 idx upd _ fun k hk => h ?_
    have q := (lands k).1 hk
    have h0 : (k 0).val < U := (k 0).isLt
    have h1 : (k 1).val < W := (k 1).isLt
    omega

/-- `W` entries written in the one row of a row array from column `b`, read at an entry. -/
theorem scatter_row {C W : Nat} (d : ScatterDims (shape2 1 C) (shape1 2) (shape1 W)) (hsd : d.scatterDimsToOperandDims = [0, 1])
    (hivd : d.indexVectorDim = 0) (hwin : ∀ k : (shape1 W).Idx, d.window k 0 = 0 ∧ d.window k 1 = (k 0).val)
    (x0 : (shape2 1 C).Idx → α) (idx : IVec (shape1 2) 32) (upd : (shape1 W).Idx → α) (b : Nat)
    (ha : (idx (ix1 (0 : Fin 2))).toInt = 0) (hb : (idx (ix1 (1 : Fin 2))).toInt = b) (r : Fin 1) (c : Fin C) :
    Host.scatter d (fun _ b => b) x0 idx upd (ix2 r c)
      = if h : b ≤ c.val ∧ c.val < b + W then upd (ix1 (⟨c.val - b, by omega⟩ : Fin W)) else x0 (ix2 r c) := by
  have lands : ∀ k : (shape1 W).Idx, d.resultIdx? k idx = some (ix2 r c) ↔ b + (k 0).val = c.val := fun k => by
    rw [resultIdx?_ix2, start_pair d hsd hivd, start_pair d hsd hivd, (hwin k).1, (hwin k).2, ha, hb]
    have := r.isLt
    omega
  by_cases h : b ≤ c.val ∧ c.val < b + W
  · rw [dif_pos h]
    refine scatter_set_hit d x0 idx upd _ _ (fun k hk => ?_) (ix1 (⟨c.val - b, by omega⟩ : Fin W)) ((lands _).2 ?_)
    · have q := (lands k).1 hk
      rw [eq_ix1 k]
      refine congrArg (fun f => upd (ix1 f)) (Fin.ext ?_)
      show (k 0).val = c.val - b
      omega
    · show b + (c.val - b) = c.val
      omega
  · rw [dif_neg h]
    refine scatter_set_miss d x0 idx upd _ fun k hk => h ?_
    have q := (lands k).1 hk
    have h0 : (k 0).val < W := (k 0).isLt
    omega

/-- Four gates' blocks of `K` rows and 80 columns, each at the head of 128 columns of its own. -/
theorem blocks_apply {K : Nat} (hK : K ≤ 128) (d : ScatterDims (shape2 128 512) (shape1 2) (shape2 K 80)) (hsd : d.scatterDimsToOperandDims = [0, 1])
    (hivd : d.indexVectorDim = 0) (hwin : ∀ k : (shape2 K 80).Idx, d.window k 0 = (k 0).val ∧ d.window k 1 = (k 1).val)
    (x0 : (shape2 128 512).Idx → α) (z : α) (hz : ∀ i, x0 i = z) (i0 i1 i2 i3 : IVec (shape1 2) 32)
    (h0 : (i0 (ix1 (0 : Fin 2))).toInt = (0 : ℕ) ∧ (i0 (ix1 (1 : Fin 2))).toInt = (0 : ℕ)) (h1 : (i1 (ix1 (0 : Fin 2))).toInt = (0 : ℕ) ∧ (i1 (ix1 (1 : Fin 2))).toInt = (128 : ℕ))
    (h2 : (i2 (ix1 (0 : Fin 2))).toInt = (0 : ℕ) ∧ (i2 (ix1 (1 : Fin 2))).toInt = (256 : ℕ)) (h3 : (i3 (ix1 (0 : Fin 2))).toInt = (0 : ℕ) ∧ (i3 (ix1 (1 : Fin 2))).toInt = (384 : ℕ))
    (w : (shape2 K 320).Idx → α) (u0 u1 u2 u3 : (shape2 K 80).Idx → α)
    (e0 : ∀ (k : Fin K) (j : Fin 80), u0 (ix2 k j) = w (ix2 k ⟨j.val, by omega⟩)) (e1 : ∀ (k : Fin K) (j : Fin 80), u1 (ix2 k j) = w (ix2 k ⟨80 + j.val, by omega⟩))
    (e2 : ∀ (k : Fin K) (j : Fin 80), u2 (ix2 k j) = w (ix2 k ⟨160 + j.val, by omega⟩)) (e3 : ∀ (k : Fin K) (j : Fin 80), u3 (ix2 k j) = w (ix2 k ⟨240 + j.val, by omega⟩))
    (k : Fin 128) (n : Fin 512) :
    Host.scatter d (fun _ b => b) (Host.scatter d (fun _ b => b) (Host.scatter d (fun _ b => b) (Host.scatter d (fun _ b => b) x0 i0 u0) i1 u1) i2 u2) i3 u3 (ix2 k n)
      = if h : k.val < K ∧ n.val % 128 < 80 then w (ix2 ⟨k.val, h.1⟩ ⟨80 * (n.val / 128) + n.val % 128, by omega⟩) else z := by
  rw [scatter_block d hsd hivd hwin _ _ _ _ _ h3.1 h3.2, scatter_block d hsd hivd hwin _ _ _ _ _ h2.1 h2.2,
    scatter_block d hsd hivd hwin _ _ _ _ _ h1.1 h1.2, scatter_block d hsd hivd hwin _ _ _ _ _ h0.1 h0.2, hz]
  have hn := n.isLt
  split
  · rw [dif_pos (by omega), e3]
    exact congrArg₂ (fun a b => w (ix2 a b)) (Fin.ext (by show k.val - 0 = k.val; omega)) (Fin.ext (by show 240 + (n.val - 384) = 80 * (n.val / 128) + n.val % 128; omega))
  · split
    · rw [dif_pos (by omega), e2]
      exact congrArg₂ (fun a b => w (ix2 a b)) (Fin.ext (by show k.val - 0 = k.val; omega)) (Fin.ext (by show 160 + (n.val - 256) = 80 * (n.val / 128) + n.val % 128; omega))
    · split
      · rw [dif_pos (by omega), e1]
        exact congrArg₂ (fun a b => w (ix2 a b)) (Fin.ext (by show k.val - 0 = k.val; omega)) (Fin.ext (by show 80 + (n.val - 128) = 80 * (n.val / 128) + n.val % 128; omega))
      · split
        · rw [dif_pos (by omega), e0]
          exact congrArg₂ (fun a b => w (ix2 a b)) (Fin.ext (by show k.val - 0 = k.val; omega)) (Fin.ext (by show n.val - 0 = 80 * (n.val / 128) + n.val % 128; omega))
        · rw [dif_neg (by omega)]

/-- Four gates' 80 entries, each at the head of 128 columns of its own. -/
theorem rows_apply (d : ScatterDims (shape2 1 512) (shape1 2) (shape1 80)) (hsd : d.scatterDimsToOperandDims = [0, 1])
    (hivd : d.indexVectorDim = 0) (hwin : ∀ k : (shape1 80).Idx, d.window k 0 = 0 ∧ d.window k 1 = (k 0).val)
    (x0 : (shape2 1 512).Idx → α) (z : α) (hz : ∀ i, x0 i = z) (i0 i1 i2 i3 : IVec (shape1 2) 32)
    (h0 : (i0 (ix1 (0 : Fin 2))).toInt = (0 : ℕ) ∧ (i0 (ix1 (1 : Fin 2))).toInt = (0 : ℕ)) (h1 : (i1 (ix1 (0 : Fin 2))).toInt = (0 : ℕ) ∧ (i1 (ix1 (1 : Fin 2))).toInt = (128 : ℕ))
    (h2 : (i2 (ix1 (0 : Fin 2))).toInt = (0 : ℕ) ∧ (i2 (ix1 (1 : Fin 2))).toInt = (256 : ℕ)) (h3 : (i3 (ix1 (0 : Fin 2))).toInt = (0 : ℕ) ∧ (i3 (ix1 (1 : Fin 2))).toInt = (384 : ℕ))
    (w : (shape1 320).Idx → α) (u0 u1 u2 u3 : (shape1 80).Idx → α)
    (e0 : ∀ j : Fin 80, u0 (ix1 j) = w (ix1 ⟨j.val, by omega⟩)) (e1 : ∀ j : Fin 80, u1 (ix1 j) = w (ix1 ⟨80 + j.val, by omega⟩))
    (e2 : ∀ j : Fin 80, u2 (ix1 j) = w (ix1 ⟨160 + j.val, by omega⟩)) (e3 : ∀ j : Fin 80, u3 (ix1 j) = w (ix1 ⟨240 + j.val, by omega⟩))
    (r : Fin 1) (n : Fin 512) :
    Host.scatter d (fun _ b => b) (Host.scatter d (fun _ b => b) (Host.scatter d (fun _ b => b) (Host.scatter d (fun _ b => b) x0 i0 u0) i1 u1) i2 u2) i3 u3 (ix2 r n)
      = if h : n.val % 128 < 80 then w (ix1 ⟨80 * (n.val / 128) + n.val % 128, by omega⟩) else z := by
  rw [scatter_row d hsd hivd hwin _ _ _ _ h3.1 h3.2, scatter_row d hsd hivd hwin _ _ _ _ h2.1 h2.2,
    scatter_row d hsd hivd hwin _ _ _ _ h1.1 h1.2, scatter_row d hsd hivd hwin _ _ _ _ h0.1 h0.2, hz]
  have hn := n.isLt
  split
  · rw [dif_pos (by omega), e3]
    exact congrArg (fun b => w (ix1 b)) (Fin.ext (by show 240 + (n.val - 384) = 80 * (n.val / 128) + n.val % 128; omega))
  · split
    · rw [dif_pos (by omega), e2]
      exact congrArg (fun b => w (ix1 b)) (Fin.ext (by show 160 + (n.val - 256) = 80 * (n.val / 128) + n.val % 128; omega))
    · split
      · rw [dif_pos (by omega), e1]
        exact congrArg (fun b => w (ix1 b)) (Fin.ext (by show 80 + (n.val - 128) = 80 * (n.val / 128) + n.val % 128; omega))
      · split
        · rw [dif_pos (by omega), e0]
          exact congrArg (fun b => w (ix1 b)) (Fin.ext (by show n.val - 0 = 80 * (n.val / 128) + n.val % 128; omega))
        · rw [dif_neg (by omega)]

end Cert.Proof.Blocks
-- ==== Proof.Layout.lean ====
/-
  What the two passes take: the rows of the table the row numbers name, the weights laid out by gate, the two biases' sum
  laid out likewise, the last layer's weights in two halves; each at an entry.
-/
module

public import proofs.«01_k».proof.Proof.ScArgsI
public import proofs.«01_k».proof.Proof.Blocks

@[expose] public section

noncomputable section

namespace Cert.Proof.KernelIdealRun

open Cert.KernelIdeal Cert.KernelIdeal.Gen

open Idealize.ShloMosaic Idealize.ShloMosaic.ValueIdx Idealize.ShloMosaic.TcCoe
open Idealize.ShloMosaic.StableHlo
open Idealize.ShloMosaic.Routing (shape1 shape2 scatter_set_hit scatter_set_miss resultIdx?_ix2)

variable {F : FTy → Type} [FloatOps F] [Named F]
variable (m : (ℓ : Loc nD τ sig) → Buf (Elt F) ℓ) (d : Dev nD)

/-! ## The rows -/

theorem iC_apply (b : Fin 1024) (t : Fin 200) (n : Fin 204800) (hn : n.val = t.val * 1024 + b.val) :
    iC m d (ix1 (n := 204800) n) = argI m d (ix2 (n0 := 1024) (n1 := 200) b t) := by
  rw [V1_iR, shapeCast_apply _ _ _ (ix2 (n0 := 200) (n1 := 1024) t b) (by
    rw [Shape.rowMajor_val_two, Shape.rowMajor_val_one]
    exact hn.symm)]
  refine transpose_apply _ _ _ _ _ fun a => ?_
  match a with
  | ⟨0, _⟩ => rfl
  | ⟨1, _⟩ => rfl

theorem tC_in (r : Fin 100000) (c : Fin 64) (c' : Fin 128) (hc : c'.val = c.val) :
    tC m d (ix2 (n0 := 100000) (n1 := 128) r c') = argT m d (ix2 (n0 := 100000) (n1 := 64) r c) := by
  rw [V1_tR]
  refine pad_apply_of_inside _ _ _ _ _ _ _ _ _ fun a => ?_
  match a with
  | ⟨0, _⟩ => show r.val = 0 + r.val * (0 + 1); omega
  | ⟨1, _⟩ => show c'.val = 0 + c.val * (0 + 1); omega

/-- The gathered rows, at an entry. -/
theorem gat_apply (hx : ∀ j, (argI m d j).toNat < 100000) (b : Fin 1024) (t : Fin 200) (c : Fin 128) (n : Fin 204800) (hn : n.val = t.val * 1024 + b.val) :
    gat (tC m d) (iC m d) (ix2 (n0 := 204800) (n1 := 128) n c)
      = tC m d (ix2 (n0 := 100000) (n1 := 128) ⟨(argI m d (ix2 (n0 := 1024) (n1 := 200) b t)).toNat, hx _⟩ c) := by
  show tC m d (ix2 (n0 := 100000) (n1 := 128) ⟨(iC m d (ix1 (n := 204800) n)).toNat % 100000, _⟩ c) = _
  refine congrArg (fun r => tC m d (ix2 (n0 := 100000) (n1 := 128) r c)) (Fin.ext ?_)
  show (iC m d (ix1 (n := 204800) n)).toNat % 100000 = _
  rw [iC_apply m d b t n hn, Nat.mod_eq_of_lt (hx _)]

theorem V3_rows : V3 m d (Proc.devRef .tc main_v4) = shapeCast S200x1024x128 (gat (tC m d) (iC m d)) shapeCasts_S204800x128_S200x1024x128 := by
  refine (keepF (VB m d) (by decide)).trans ?_
  unfold VB; after_reads_simp
  unfold V2
  rw [Function.update_self]
  rfl

/-- The rows the backward pass takes, at an entry of the table's columns. -/
theorem rows_apply (hx : ∀ j, (argI m d j).toNat < 100000) (t : Fin 200) (b : Fin 1024) (c : Fin 64) :
    V3 m d (Proc.devRef .tc main_v4) (ix3 (n0 := 200) (n1 := 1024) (n2 := 128) t b ⟨c.val, by omega⟩)
      = argT m d (ix2 (n0 := 100000) (n1 := 64) ⟨(argI m d (ix2 (n0 := 1024) (n1 := 200) b t)).toNat, hx _⟩ c) := by
  have hn : t.val * 1024 + b.val < 204800 := by have := t.isLt; have := b.isLt; omega
  rw [V3_rows, ← tC_in m d _ c ⟨c.val, by omega⟩ rfl, ← gat_apply m d hx b t _ ⟨_, hn⟩ rfl]
  refine shapeCast_apply _ _ _ _ ?_
  rw [Shape.rowMajor_val_two, Shape.rowMajor_val_three]
  rfl

/-! ## The weights -/

/-- Where a gate's block starts. -/
abbrev corner (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem corner_apply (a b : BitVec 32) : corner a b (ix1 (0 : Fin 2)) = a ∧ corner a b (ix1 (1 : Fin 2)) = b := ⟨rfl, rfl⟩

/-- The weights of the rows, laid out. -/
def layIh (w : FVec F S320x64 .f32) : FVec F S128x512 .f32 :=
  Host.scatter scatter_S128x512_S2_S64x80_01_n_01_0 (fun _ b => b) (Host.scatter scatter_S128x512_S2_S64x80_01_n_01_0 (fun _ b => b) (Host.scatter scatter_S128x512_S2_S64x80_01_n_01_0 (fun _ b => b) (Host.scatter scatter_S128x512_S2_S64x80_01_n_01_0 (fun _ b => b) (broadcastInDim S128x512 ![] bcast_S_S128x512 (constant S_ .f32 0x00000000#32)) (corner 0#32 0#32) (extractStridedSlice S64x80 ![0, 0] (transpose S64x320 [1, 0] w transposes_S320x64_S64x320_1_0) slices_S64x320_S64x80_0_0)) (corner 0#32 128#32) (extractStridedSlice S64x80 ![0, 80] (transpose S64x320 [1, 0] w transposes_S320x64_S64x320_1_0) slices_S64x320_S64x80_0_80)) (corner 0#32 256#32) (extractStridedSlice S64x80 ![0, 160] (transpose S64x320 [1, 0] w transposes_S320x64_S64x320_1_0) slices_S64x320_S64x80_0_160)) (corner 0#32 384#32) (extractStridedSlice S64x80 ![0, 240] (transpose S64x320 [1, 0] w transposes_S320x64_S64x320_1_0) slices_S64x320_S64x80_0_240)
/-- The weights of the hidden state, laid out. -/
def layHh (w : FVec F S320x80 .f32) : FVec F S128x512 .f32 :=
  Host.scatter scatter_S128x512_S2_S80x80_01_n_01_0 (fun _ b => b) (Host.scatter scatter_S128x512_S2_S80x80_01_n_01_0 (fun _ b => b) (Host.scatter scatter_S128x512_S2_S80x80_01_n_01_0 (fun _ b => b) (Host.scatter scatter_S128x512_S2_S80x80_01_n_01_0 (fun _ b => b) (broadcastInDim S128x512 ![] bcast_S_S128x512 (constant S_ .f32 0x00000000#32)) (corner 0#32 0#32) (extractStridedSlice S80x80 ![0, 0] (transpose S80x320 [1, 0] w transposes_S320x80_S80x320_1_0) slices_S80x320_S80x80_0_0)) (corner 0#32 128#32) (extractStridedSlice S80x80 ![0, 80] (transpose S80x320 [1, 0] w transposes_S320x80_S80x320_1_0) slices_S80x320_S80x80_0_80)) (corner 0#32 256#32) (extractStridedSlice S80x80 ![0, 160] (transpose S80x320 [1, 0] w transposes_S320x80_S80x320_1_0) slices_S80x320_S80x80_0_160)) (corner 0#32 384#32) (extractStridedSlice S80x80 ![0, 240] (transpose S80x320 [1, 0] w transposes_S320x80_S80x320_1_0) slices_S80x320_S80x80_0_240)
/-- The biases' sum, laid out. -/
def layB (bih bhh : FVec F S320 .f32) : FVec F S1x512 .f32 :=
  Host.scatter scatter_S1x512_S2_S80_0_0_01_0 (fun _ b => b) (Host.scatter scatter_S1x512_S2_S80_0_0_01_0 (fun _ b => b) (Host.scatter scatter_S1x512_S2_S80_0_0_01_0 (fun _ b => b) (Host.scatter scatter_S1x512_S2_S80_0_0_01_0 (fun _ b => b) (broadcastInDim S1x512 ![] bcast_S_S1x512 (constant S_ .f32 0x00000000#32)) (corner 0#32 0#32) (extractStridedSlice S80 ![0] (addf bih bhh) slices_S320_S80_0)) (corner 0#32 128#32) (extractStridedSlice S80 ![80] (addf bih bhh) slices_S320_S80_80)) (corner 0#32 256#32) (extractStridedSlice S80 ![160] (addf bih bhh) slices_S320_S80_160)) (corner 0#32 384#32) (extractStridedSlice S80 ![240] (addf bih bhh) slices_S320_S80_240)

theorem V3_ih : V3 m d (Proc.devRef .tc main_v60) = layIh (argWihB m d) := by
  refine (keepF (VB m d) (by decide)).trans ?_
  unfold VB; after_reads_simp
  rw [V2_arg m d main_arg6 (by decide)]; rfl
theorem V3_hh : V3 m d (Proc.devRef .tc main_v65) = layHh (argWhhB m d) := by
  refine (keepF (VB m d) (by decide)).trans ?_
  unfold VB; after_reads_simp
  rw [V2_arg m d main_arg7 (by decide)]; rfl
theorem V3_b : V3 m d (Proc.devRef .tc main_v70) = layB (argBihB m d) (argBhhB m d) := by
  refine (keepF (VB m d) (by decide)).trans ?_
  unfold VB; after_reads_simp
  rw [V2_arg m d main_arg8 (by decide), V2_arg m d main_arg9 (by decide)]; rfl
theorem V5_ih : V5 m d (Proc.devRef .tc main_v126) = layIh (argWihF m d) := by
  refine (keepC (V4 m d) (by decide)).trans ((update_keep (V3 m d) main_v137 main_v126 _ (by decide)).trans ?_)
  unfold V3; after_reads_simp
  rw [VB_arg m d main_arg2 (by decide)]; rfl
theorem V5_hh : V5 m d (Proc.devRef .tc main_v131) = layHh (argWhhF m d) := by
  refine (keepC (V4 m d) (by decide)).trans ((update_keep (V3 m d) main_v137 main_v131 _ (by decide)).trans ?_)
  unfold V3; after_reads_simp
  rw [VB_arg m d main_arg3 (by decide)]; rfl
theorem V5_b : V5 m d (Proc.devRef .tc main_v136) = layB (argBihF m d) (argBhhF m d) := by
  refine (keepC (V4 m d) (by decide)).trans ((update_keep (V3 m d) main_v137 main_v136 _ (by decide)).trans ?_)
  unfold V3; after_reads_simp
  rw [VB_arg m d main_arg4 (by decide), VB_arg m d main_arg5 (by decide)]; rfl
theorem V5_rows : V5 m d (Proc.devRef .tc main_v4) = V3 m d (Proc.devRef .tc main_v4) :=
  (keepC (V4 m d) (by decide)).trans (update_keep (V3 m d) main_v137 main_v4 _ (by decide))
theorem V5_hid : V5 m d (Proc.devRef .tc main_v137) = hid m d :=
  (keepC (V4 m d) (by decide)).trans (Function.update_self ..)

/-- The last layer's weights of the forward half, zeros below them. -/
def layU (w : FVec F S15x160 .f32) : FVec F S128x15 .f32 :=
  Host.scatter scatter_S128x15_S1_S80x15_01_n_0_0 (fun _ b => b) (broadcastInDim S128x15 ![] bcast_S_S128x15 (constant S_ .f32 0x00000000#32)) (broadcastInDim S1 ![] bcast_S_S1 (constantI S_ 32 0#32))
    (transpose S80x15 [1, 0] (extractStridedSlice S15x80 ![0, 0] w slices_S15x160_S15x80_0_0) transposes_S15x80_S80x15_1_0)
/-- Those of the backward half. -/
def layD (w : FVec F S15x160 .f32) : FVec F S80x15 .f32 :=
  transpose S80x15 [1, 0] (extractStridedSlice S15x80 ![0, 80] w slices_S15x160_S15x80_0_80) transposes_S15x80_S80x15_1_0
/-- The last layer's bias as a row. -/
def layV (v : FVec F S15 .f32) : FVec F S1x15 .f32 := shapeCast S1x15 v shapeCasts_S15_S1x15

theorem V5_u : V5 m d (Proc.devRef .tc main_v142) = layU (argFcW m d) := by
  unfold V5; after_reads_simp
  rw [V4_arg m d main_arg10 (by decide)]; rfl
theorem V5_d : V5 m d (Proc.devRef .tc main_v144) = layD (argFcW m d) := by
  unfold V5; after_reads_simp
  rw [V4_arg m d main_arg10 (by decide)]; rfl
theorem V5_v : V5 m d (Proc.devRef .tc main_v145) = layV (argFcB m d) := by
  unfold V5; after_reads_simp
  rw [V4_arg m d main_arg11 (by decide)]; rfl

theorem wordInt (n : ℕ) (h : n < 1000) : (BitVec.ofNat 32 n).toInt = n := by
  rw [BitVec.toInt_eq_toNat_cond, BitVec.toNat_ofNat, Nat.mod_eq_of_lt (by omega), if_pos (by omega)]

theorem corner_toInt (n : ℕ) (h : n < 1000) :
    (corner 0#32 (BitVec.ofNat 32 n) (ix1 (0 : Fin 2))).toInt = (0 : ℕ) ∧ (corner 0#32 (BitVec.ofNat 32 n) (ix1 (1 : Fin 2))).toInt = n := by
  rw [(corner_apply _ _).1, (corner_apply _ _).2]
  exact ⟨rfl, wordInt n h⟩

theorem slice2 {α : Type} {K o : ℕ} (ho : o + 80 ≤ 320) (w : (shape2 K 320).Idx → α) (hs : (shape2 K 320).Slices ![0, o] (shape2 K 80)) (k : Fin K) (j : Fin 80) :
    extractStridedSlice (shape2 K 80) ![0, o] w hs (ix2 k j) = w (ix2 k ⟨o + j.val, by omega⟩) := by
  refine extractStridedSlice_apply _ _ _ _ _ fun a => ?_
  match a with
  | ⟨0, _⟩ => show k.val = 0 + k.val; omega
  | ⟨1, _⟩ => rfl

theorem slice1 {α : Type} {o : ℕ} (ho : o + 80 ≤ 320) (w : (shape1 320).Idx → α) (hs : (shape1 320).Slices ![o] (shape1 80)) (j : Fin 80) :
    extractStridedSlice (shape1 80) ![o] w hs (ix1 j) = w (ix1 ⟨o + j.val, by omega⟩) := by
  refine extractStridedSlice_apply _ _ _ _ _ fun a => ?_
  match a with
  | ⟨0, _⟩ => rfl

/-- The weights of the rows: columns `128 g` to `128 g + 80` are gate `g`'s, all else zero. -/
theorem layIh_apply (w : FVec F S320x64 .f32) (k : Fin 128) (n : Fin 512) :
    layIh w (ix2 (n0 := 128) (n1 := 512) k n)
      = if h : k.val < 64 ∧ n.val % 128 < 80 then w (ix2 (n0 := 320) (n1 := 64) ⟨80 * (n.val / 128) + n.val % 128, by omega⟩ ⟨k.val, h.1⟩) else FloatOps.ofBits .f32 0x00000000#32 := by
  refine (Blocks.blocks_apply (K := 64) (by omega) scatter_S128x512_S2_S64x80_01_n_01_0 rfl rfl (fun k => ⟨rfl, rfl⟩) _ _ (fun _ => rfl) _ _ _ _
    (corner_toInt 0 (by omega)) (corner_toInt 128 (by omega)) (corner_toInt 256 (by omega)) (corner_toInt 384 (by omega))
    (transpose S64x320 [1, 0] w transposes_S320x64_S64x320_1_0) _ _ _ _
    (fun k j => (slice2 (o := 0) (by omega) _ _ k j).trans (by simp only [Nat.zero_add])) (slice2 (by omega) _ _) (slice2 (by omega) _ _) (slice2 (by omega) _ _) k n).trans ?_
  refine dite_congr rfl (fun h => ?_) fun _ => rfl
  refine transpose_apply _ _ _ _ _ fun a => ?_
  match a with
  | ⟨0, _⟩ => rfl
  | ⟨1, _⟩ => rfl

/-- The weights of the hidden state likewise. -/
theorem layHh_apply (w : FVec F S320x80 .f32) (k : Fin 128) (n : Fin 512) :
    layHh w (ix2 (n0 := 128) (n1 := 512) k n)
      = if h : k.val < 80 ∧ n.val % 128 < 80 then w (ix2 (n0 := 320) (n1 := 80) ⟨80 * (n.val / 128) + n.val % 128, by omega⟩ ⟨k.val, h.1⟩) else FloatOps.ofBits .f32 0x00000000#32 := by
  refine (Blocks.blocks_apply (K := 80) (by omega) scatter_S128x512_S2_S80x80_01_n_01_0 rfl rfl (fun k => ⟨rfl, rfl⟩) _ _ (fun _ => rfl) _ _ _ _
    (corner_toInt 0 (by omega)) (corner_toInt 128 (by omega)) (corner_toInt 256 (by omega)) (corner_toInt 384 (by omega))
    (transpose S80x320 [1, 0] w transposes_S320x80_S80x320_1_0) _ _ _ _
    (fun k j => (slice2 (o := 0) (by omega) _ _ k j).trans (by simp only [Nat.zero_add])) (slice2 (by omega) _ _) (slice2 (by omega) _ _) (slice2 (by omega) _ _) k n).trans ?_
  refine dite_congr rfl (fun h => ?_) fun _ => rfl
  refine transpose_apply _ _ _ _ _ fun a => ?_
  match a with
  | ⟨0, _⟩ => rfl
  | ⟨1, _⟩ => rfl

/-- The biases' sum likewise. -/
theorem layB_apply (bih bhh : FVec F S320 .f32) (n : Fin 512) :
    layB bih bhh (ix2 (n0 := 1) (n1 := 512) 0 n)
      = if h : n.val % 128 < 80 then addf bih bhh (ix1 (n := 320) ⟨80 * (n.val / 128) + n.val % 128, by omega⟩) else FloatOps.ofBits .f32 0x00000000#32 :=
  Blocks.rows_apply scatter_S1x512_S2_S80_0_0_01_0 rfl rfl (fun k => ⟨rfl, rfl⟩) _ _ (fun _ => rfl) _ _ _ _
    (corner_toInt 0 (by omega)) (corner_toInt 128 (by omega)) (corner_toInt 256 (by omega)) (corner_toInt 384 (by omega))
    (addf bih bhh) _ _ _ _
    (fun j => (slice1 (o := 0) (by omega) _ _ j).trans (by simp only [Nat.zero_add])) (slice1 (by omega) _ _) (slice1 (by omega) _ _) (slice1 (by omega) _ _) 0 n

theorem low_lt {a b : ℕ} (k : Fin 80) (h : a + 80 ≤ b) : a + k.val < b := by omega

theorem half_apply (w : FVec F S15x160 .f32) (o : ℕ) (ho : o + 80 ≤ 160) (hs : S15x160.Slices ![0, o] S15x80) (k : Fin 80) (n : Fin 15) :
    transpose S80x15 [1, 0] (extractStridedSlice S15x80 ![0, o] w hs) transposes_S15x80_S80x15_1_0 (ix2 (n0 := 80) (n1 := 15) k n)
      = w (ix2 (n0 := 15) (n1 := 160) n ⟨o + k.val, low_lt k ho⟩) := by
  refine (transpose_apply _ _ _ _ (ix2 (n0 := 15) (n1 := 80) n k) fun a => ?_).trans ?_
  · match a with
    | ⟨0, _⟩ => rfl
    | ⟨1, _⟩ => rfl
  · refine extractStridedSlice_apply _ _ _ _ _ fun a => ?_
    match a with
    | ⟨0, _⟩ => show n.val = 0 + n.val; omega
    | ⟨1, _⟩ => rfl

theorem layD_apply (w : FVec F S15x160 .f32) (k : Fin 80) (n : Fin 15) :
    layD w (ix2 (n0 := 80) (n1 := 15) k n) = w (ix2 (n0 := 15) (n1 := 160) n ⟨80 + k.val, low_lt k (by omega)⟩) := half_apply w 80 (by omega) _ k n

theorem layV_apply (v : FVec F S15 .f32) (n : Fin 15) : layV v (ix2 (n0 := 1) (n1 := 15) 0 n) = v (ix1 (n := 15) n) := by
  refine shapeCast_apply _ _ _ _ ?_
  rw [Shape.rowMajor_val_two, Shape.rowMajor_val_one]
  show n.val = 0 * 15 + n.val
  omega

theorem layU_lands (k : S80x15.Idx) (r : Fin 128) (n : Fin 15) :
    scatter_S128x15_S1_S80x15_01_n_0_0.resultIdx? k (broadcastInDim S1 ![] bcast_S_S1 (constantI S_ 32 0#32)) = some (ix2 (n0 := 128) (n1 := 15) r n)
      ↔ (k 0).val = r.val ∧ (k 1).val = n.val := by
  have hs : ∀ a, scatter_S128x15_S1_S80x15_01_n_0_0.start k (broadcastInDim S1 ![] bcast_S_S1 (constantI S_ 32 0#32)) a = 0 := fun a => by
    unfold ScatterDims.start; split <;> rfl
  have hw : scatter_S128x15_S1_S80x15_01_n_0_0.window k 0 = (k 0).val ∧ scatter_S128x15_S1_S80x15_01_n_0_0.window k 1 = (k 1).val := ⟨rfl, rfl⟩
  rw [resultIdx?_ix2, hs, hs, hw.1, hw.2]
  omega

theorem layU_apply (w : FVec F S15x160 .f32) (r : Fin 128) (n : Fin 15) :
    layU w (ix2 (n0 := 128) (n1 := 15) r n) = if h : r.val < 80 then w (ix2 (n0 := 15) (n1 := 160) n ⟨r.val, h.trans (by omega)⟩) else FloatOps.ofBits .f32 0x00000000#32 := by
  unfold layU
  by_cases h : r.val < 80
  · rw [dif_pos h]
    refine (scatter_set_hit _ _ _ _ _ _ (fun k hk => ?_) (ix2 (n0 := 80) (n1 := 15) ⟨r.val, h⟩ n) ((layU_lands _ r n).2 ⟨rfl, rfl⟩)).trans
      ((half_apply w 0 (by omega) slices_S15x160_S15x80_0_0 ⟨r.val, h⟩ n).trans (congrArg (fun k => w (ix2 (n0 := 15) (n1 := 160) n k)) (Fin.ext (Nat.zero_add _))))
    have q := (layU_lands k r n).1 hk
    have hk' : k = ix2 (n0 := 80) (n1 := 15) ⟨r.val, h⟩ n := by
      funext a
      match a with
      | ⟨0, _⟩ => exact Fin.ext q.1
      | ⟨1, _⟩ => exact Fin.ext q.2
    rw [hk']
  · rw [dif_neg h]
    refine (scatter_set_miss _ _ _ _ _ fun k hk => h ?_).trans rfl
    have q := ((layU_lands k r n).1 hk).1
    have h0 : (k 0).val < 80 := (k 0).isLt
    omega

end Cert.Proof.KernelIdealRun

end
-- ==== Proof.Lstm.lean ====
/-
  The recurrence: one row's cell over the reals with infinities, its four gates in the order input, forget, cell, output.
-/
module

public import Idealize.ShloMosaic.PureOps.Ideal

@[expose] public section

noncomputable section

namespace Cert.Proof.Lstm

open Idealize.ShloMosaic

/-- The weights and biases. -/
structure Par where
  wih : Fin 320 → Fin 64 → EReal
  whh : Fin 320 → Fin 80 → EReal
  bih : Fin 320 → EReal
  bhh : Fin 320 → EReal

/-- A row's state: its hidden values and its cells. -/
abbrev St := (Fin 80 → EReal) × (Fin 80 → EReal)

variable (p : Par) (e : Fin 64 → EReal) (s : St)

/-- A gate's value before its nonlinearity. -/
def gate (n : Fin 320) : EReal := ((∑ k, e k * p.wih n k) + ∑ k, s.1 k * p.whh n k) + p.bih n + p.bhh n

def nextC (j : Fin 80) : EReal :=
  Ideal.logistic (gate p e s ⟨80 + j.val, by omega⟩) * s.2 j + Ideal.logistic (gate p e s ⟨j.val, by omega⟩) * Ideal.tanh (gate p e s ⟨160 + j.val, by omega⟩)
def nextH (j : Fin 80) : EReal :=
  Ideal.logistic (gate p e s ⟨240 + j.val, by omega⟩) * Ideal.tanh (nextC p e s j)

/-- The state after `n` rows. -/
def st (E : ℕ → Fin 64 → EReal) : ℕ → St
  | 0 => (fun _ => 0, fun _ => 0)
  | n + 1 => (nextH p (E n) (st E n), nextC p (E n) (st E n))

end Cert.Proof.Lstm

end
-- ==== Proof.RefStep.lean ====
/-
  The reference's loop: after `n` trips its carried arrays hold each row's state after `n` rows in either direction, and the
  rows of its two results that are written hold the hidden values.
-/
module

public import proofs.«01_k».proof.Proof.Rows
public import proofs.«01_k».proof.Proof.Lstm
public import proofs.«01_k».proof.Proof.Gen.ReferenceIdeal.Run
public import Idealize.ShloMosaic.Lib.StackMember
public import Idealize.ShloMosaic.Lib.Pointwise.ShapeOpsCore
public import Idealize.ShloMosaic.Lib.IdealHost
public import Idealize.ShloMosaic.Lib.DynamicIndex
public import Idealize.ShloMosaic.Lib.StableHlo.RunRead

@[expose] public section

noncomputable section

namespace Cert.Proof.RefStep

open Idealize.ShloMosaic hiding ix1 ix2 ix3
open Idealize.ShloMosaic.ValueIdx Idealize.ShloMosaic.TcCoe
open Idealize.ShloMosaic.StableHlo
open Cert.ReferenceIdeal Cert.ReferenceIdeal.Gen Cert.ReferenceIdeal.Value
open Cert.Proof.Lstm

/-- The weights and biases read off their arrays. -/
def par (wih : FVec Ideal S320x64 .f32) (whh : FVec Ideal S320x80 .f32) (bih bhh : FVec Ideal S320 .f32) : Par where
  wih n k := wih (ix2 (n0 := 320) (n1 := 64) n k)
  whh n k := whh (ix2 (n0 := 320) (n1 := 80) n k)
  bih n := bih (ix1 (n := 320) n)
  bhh n := bhh (ix1 (n := 320) n)

theorem sigmoid_apply (z : FVec Ideal S1024x80 .f32) (i : S1024x80.Idx) :
    Host.divf (broadcastInDim S1024x80 ![] bcast_S_S1024x80 (constant (F := Ideal) S_ .f32 0x3F800000#32)) (addf (broadcastInDim S1024x80 ![] bcast_S_S1024x80 (constant S_ .f32 0x3F800000#32)) (Host.exp (Host.negf z))) i
      = Ideal.logistic (z i) := by
  show Ideal.div (Ideal.ofBits .f32 0x3F800000#32) (Ideal.ofBits .f32 0x3F800000#32 + Ideal.exp (-(z i))) = _
  rw [Ideal.ofBits_one_f32]
  rfl

theorem bias_apply (b : FVec Ideal S320 .f32) (r : Fin 1024) (n : Fin 320) :
    broadcastInDim S1024x320 ![0, 1] bcast_S1x320_S1024x320_0_1 (broadcastInDim S1x320 ![1] bcast_S320_S1x320_1 b) (ix2 (n0 := 1024) (n1 := 320) r n) = b (ix1 (n := 320) n) := by
  rw [broadcastInDim_apply _ _ _ _ (ix2 (n0 := 1) (n1 := 320) 0 n) (fun a => by
    match a with
    | ⟨0, _⟩ => rfl
    | ⟨1, _⟩ => rfl)]
  refine broadcastInDim_apply _ _ _ _ _ fun a => ?_
  match a with
  | ⟨0, _⟩ => rfl

theorem slice_apply (z : FVec Ideal S1024x320 .f32) (o : ℕ) (ho : o + 80 ≤ 320) (hs : S1024x320.Slices ![0, o] S1024x80) (r : Fin 1024) (j : Fin 80) :
    extractStridedSlice S1024x80 ![0, o] z hs (ix2 (n0 := 1024) (n1 := 80) r j) = z (ix2 (n0 := 1024) (n1 := 320) r ⟨o + j.val, by omega⟩) := by
  refine extractStridedSlice_apply _ _ _ _ _ fun a => ?_
  match a with
  | ⟨0, _⟩ => show r.val = 0 + r.val; omega
  | ⟨1, _⟩ => rfl

theorem dotE : dot_S1024x64_S64x320_S1024x320_1_0_0_1_n_n = DotDims.plain 1024 64 320 := rfl
theorem dotH : dot_S1024x80_S80x320_S1024x320_1_0_0_1_n_n = DotDims.plain 1024 80 320 := rfl

/-! ## One direction's step, over its arrays -/

/-- The slab of the time step. -/
abbrev slabT (xs : FVec Ideal S200x1024x64 .f32) (cnt : IVec S_ 32) : FVec Ideal S1024x64 .f32 :=
  shapeCast S1024x64 (Host.dynamicSlice S1x1024x64 xs (fun k => (((![cnt, constantI S_ 32 0#32, constantI S_ 32 0#32] : Fin 3 → (⟨S_, .i32⟩ : BufTy).Contents (Elt Ideal))) k (Shape.Idx.first h_S_)).toInt) sliceFits_S200x1024x64_S1x1024x64) shapeCasts_S1x1024x64_S1024x64
/-- The gates. -/
abbrev gatesT (xs : FVec Ideal S200x1024x64 .f32) (cnt : IVec S_ 32) (awih : FVec Ideal S320x64 .f32) (awhh : FVec Ideal S320x80 .f32) (abih abhh : FVec Ideal S320 .f32) (h : FVec Ideal S1024x80 .f32) : FVec Ideal S1024x320 .f32 :=
  addf (addf (addf (Host.dotGeneral dot_S1024x64_S64x320_S1024x320_1_0_0_1_n_n none (slabT xs cnt) (transpose S64x320 [1, 0] awih transposes_S320x64_S64x320_1_0)) (Host.dotGeneral dot_S1024x80_S80x320_S1024x320_1_0_0_1_n_n none h (transpose S80x320 [1, 0] awhh transposes_S320x80_S80x320_1_0))) (broadcastInDim S1024x320 ![0, 1] bcast_S1x320_S1024x320_0_1 (broadcastInDim S1x320 ![1] bcast_S320_S1x320_1 abih))) (broadcastInDim S1024x320 ![0, 1] bcast_S1x320_S1024x320_0_1 (broadcastInDim S1x320 ![1] bcast_S320_S1x320_1 abhh))
/-- The cell state of the gates. -/
abbrev cellsT (g : FVec Ideal S1024x320 .f32) (cc : FVec Ideal S1024x80 .f32) : FVec Ideal S1024x80 .f32 :=
  addf (mulf (Host.divf (broadcastInDim S1024x80 ![] bcast_S_S1024x80 (constant S_ .f32 0x3F800000#32)) (addf (broadcastInDim S1024x80 ![] bcast_S_S1024x80 (constant S_ .f32 0x3F800000#32)) (Host.exp (Host.negf (extractStridedSlice S1024x80 ![0, 80] g slices_S1024x320_S1024x80_0_80))))) cc) (mulf (Host.divf (broadcastInDim S1024x80 ![] bcast_S_S1024x80 (constant S_ .f32 0x3F800000#32)) (addf (broadcastInDim S1024x80 ![] bcast_S_S1024x80 (constant S_ .f32 0x3F800000#32)) (Host.exp (Host.negf (extractStridedSlice S1024x80 ![0, 0] g slices_S1024x320_S1024x80_0_0))))) (Host.tanh (extractStridedSlice S1024x80 ![0, 160] g slices_S1024x320_S1024x80_0_160)))
/-- The hidden state of the gates and the cell state. -/
abbrev hiddensT (g : FVec Ideal S1024x320 .f32) (c' : FVec Ideal S1024x80 .f32) : FVec Ideal S1024x80 .f32 :=
  mulf (Host.divf (broadcastInDim S1024x80 ![] bcast_S_S1024x80 (constant S_ .f32 0x3F800000#32)) (addf (broadcastInDim S1024x80 ![] bcast_S_S1024x80 (constant S_ .f32 0x3F800000#32)) (Host.exp (Host.negf (extractStridedSlice S1024x80 ![0, 240] g slices_S1024x320_S1024x80_0_240))))) (Host.tanh c')
/-- The result with the time step's row written. -/
abbrev outT (o : FVec Ideal S200x1024x80 .f32) (h' : FVec Ideal S1024x80 .f32) (cnt : IVec S_ 32) : FVec Ideal S200x1024x80 .f32 :=
  Host.dynamicUpdateSlice o (broadcastInDim S1x1024x80 ![1, 2] bcast_S1024x80_S1x1024x80_1_2 h') (fun k => (((![cnt, constantI S_ 32 0#32, constantI S_ 32 0#32] : Fin 3 → (⟨S_, .i32⟩ : BufTy).Contents (Elt Ideal))) k (Shape.Idx.first h_S_)).toInt) updateFits_S200x1024x80_S1x1024x80

variable (wih : FVec Ideal S320x64 .f32) (whh : FVec Ideal S320x80 .f32) (bih bhh : FVec Ideal S320 .f32)
variable (E : Fin 1024 → ℕ → Fin 64 → EReal)

/-- What one direction's arrays hold after `n` trips. -/
structure Dir (xs : FVec Ideal S200x1024x64 .f32) (awih : FVec Ideal S320x64 .f32) (awhh : FVec Ideal S320x80 .f32) (abih abhh : FVec Ideal S320 .f32)
    (h cc : FVec Ideal S1024x80 .f32) (o : FVec Ideal S200x1024x80 .f32) (n : ℕ) : Prop where
  xs : ∀ (t : Fin 200) (b : Fin 1024) (k : Fin 64), xs (ix3 (n0 := 200) (n1 := 1024) (n2 := 64) t b k) = E b t.val k
  wihE : awih = wih
  whhE : awhh = whh
  bihE : abih = bih
  bhhE : abhh = bhh
  hid : ∀ (b : Fin 1024) (j : Fin 80), h (ix2 (n0 := 1024) (n1 := 80) b j) = (st (par wih whh bih bhh) (E b) n).1 j
  cell : ∀ (b : Fin 1024) (j : Fin 80), cc (ix2 (n0 := 1024) (n1 := 80) b j) = (st (par wih whh bih bhh) (E b) n).2 j
  out : ∀ (k : Fin 200) (b : Fin 1024) (j : Fin 80), k.val < n → o (ix3 (n0 := 200) (n1 := 1024) (n2 := 80) k b j) = (st (par wih whh bih bhh) (E b) (k.val + 1)).1 j

variable {wih whh bih bhh E}

theorem wordInt (n : ℕ) (h : n < 1000) : (BitVec.ofNat 32 n).toInt = n := by
  rw [BitVec.toInt_eq_toNat_cond, BitVec.toNat_ofNat, Nat.mod_eq_of_lt (by omega), if_pos (by omega)]

theorem start_apply (n : ℕ) (hn : n < 200) (a : Fin 3) :
    ((![constantI S_ 32 (BitVec.ofNat 32 n), constantI S_ 32 0#32, constantI S_ 32 0#32] : Fin 3 → IVec S_ 32) a (Shape.Idx.first h_S_)).toInt = ((![n, 0, 0] : Fin 3 → ℕ) a : ℤ) := by
  match a with
  | ⟨0, _⟩ => exact wordInt n (by omega)
  | ⟨1, _⟩ => rfl
  | ⟨2, _⟩ => rfl

theorem update_apply (x : FVec Ideal S200x1024x80 .f32) (u : FVec Ideal S1x1024x80 .f32) (start : Fin 3 → ℤ) (n : ℕ) (hn : n < 200)
    (hs : ∀ a, start a = ((![n, 0, 0] : Fin 3 → ℕ) a : ℤ)) (k : Fin 200) (b : Fin 1024) (j : Fin 80) :
    Host.dynamicUpdateSlice x u start updateFits_S200x1024x80_S1x1024x80 (ix3 (n0 := 200) (n1 := 1024) (n2 := 80) k b j)
      = if k.val = n then u (ix3 (n0 := 1) (n1 := 1024) (n2 := 80) 0 b j) else x (ix3 (n0 := 200) (n1 := 1024) (n2 := 80) k b j) := by
  have h0 : Host.clampedStart S200x1024x80 S1x1024x80 rfl start (0 : Fin 3) = n := Host.clampedStart_of_le (s := S200x1024x80) (t := S1x1024x80) rfl start (0 : Fin 3) _ (hs 0) (by show n + 1 ≤ 200; omega)
  have h1 : Host.clampedStart S200x1024x80 S1x1024x80 rfl start (1 : Fin 3) = 0 := Host.clampedStart_of_le (s := S200x1024x80) (t := S1x1024x80) rfl start (1 : Fin 3) _ (hs 1) (by show 0 + 1024 ≤ 1024; omega)
  have h2 : Host.clampedStart S200x1024x80 S1x1024x80 rfl start (2 : Fin 3) = 0 := Host.clampedStart_of_le (s := S200x1024x80) (t := S1x1024x80) rfl start (2 : Fin 3) _ (hs 2) (by show 0 + 80 ≤ 80; omega)
  rw [Host.dynamicUpdateSlice_apply]
  by_cases h : k.val = n
  · rw [if_pos h, dif_pos (fun a => by
      match a with
      | ⟨0, _⟩ =>
        show Host.clampedStart S200x1024x80 S1x1024x80 rfl start (0 : Fin 3) ≤ k.val ∧ k.val < Host.clampedStart S200x1024x80 S1x1024x80 rfl start (0 : Fin 3) + 1
        omega
      | ⟨1, _⟩ =>
        show Host.clampedStart S200x1024x80 S1x1024x80 rfl start (1 : Fin 3) ≤ b.val ∧ b.val < Host.clampedStart S200x1024x80 S1x1024x80 rfl start (1 : Fin 3) + 1024
        omega
      | ⟨2, _⟩ =>
        show Host.clampedStart S200x1024x80 S1x1024x80 rfl start (2 : Fin 3) ≤ j.val ∧ j.val < Host.clampedStart S200x1024x80 S1x1024x80 rfl start (2 : Fin 3) + 80
        omega)]
    refine congrArg u (funext fun a => Fin.ext ?_)
    match a with
    | ⟨0, _⟩ =>
      show k.val - Host.clampedStart S200x1024x80 S1x1024x80 rfl start (0 : Fin 3) = 0
      omega
    | ⟨1, _⟩ =>
      show b.val - Host.clampedStart S200x1024x80 S1x1024x80 rfl start (1 : Fin 3) = b.val
      omega
    | ⟨2, _⟩ =>
      show j.val - Host.clampedStart S200x1024x80 S1x1024x80 rfl start (2 : Fin 3) = j.val
      omega
  · rw [if_neg h, dif_neg (fun h' => h (by
      have q : Host.clampedStart S200x1024x80 S1x1024x80 rfl start (0 : Fin 3) ≤ k.val ∧ k.val < Host.clampedStart S200x1024x80 S1x1024x80 rfl start (0 : Fin 3) + 1 := h' (0 : Fin 3)
      omega))]

section Step

variable {xs : FVec Ideal S200x1024x64 .f32} {awih : FVec Ideal S320x64 .f32} {awhh : FVec Ideal S320x80 .f32} {abih abhh : FVec Ideal S320 .f32}
  {h cc : FVec Ideal S1024x80 .f32} {o : FVec Ideal S200x1024x80 .f32} {n : ℕ} (H : Dir wih whh bih bhh E xs awih awhh abih abhh h cc o n) (hn : n < 200)
include H hn

theorem slab_apply (b : Fin 1024) (k : Fin 64) : slabT xs (constantI S_ 32 (BitVec.ofNat 32 n)) (ix2 (n0 := 1024) (n1 := 64) b k) = E b n k := by
  unfold slabT
  have hoff : S200x1024x64.Slices (![n, 0, 0] : Fin 3 → ℕ) S1x1024x64 := ⟨rfl, fun a => by
    match a with
    | ⟨0, _⟩ => show n + 1 ≤ 200; omega
    | ⟨1, _⟩ => show 0 + 1024 ≤ 1024; omega
    | ⟨2, _⟩ => show 0 + 64 ≤ 64; omega⟩
  rw [Host.dynamicSlice_eq_extractStridedSlice _ _ _ (![n, 0, 0] : Fin 3 → ℕ) _ hoff (start_apply n hn)]
  rw [shapeCast_apply _ _ _ (ix3 (n0 := 1) (n1 := 1024) (n2 := 64) 0 b k) (by
    rw [Shape.rowMajor_val_two, Shape.rowMajor_val_three]
    show (0 * 1024 + b.val) * 64 + k.val = b.val * 64 + k.val
    omega)]
  rw [extractStridedSlice_apply _ _ _ _ (ix3 (n0 := 200) (n1 := 1024) (n2 := 64) ⟨n, hn⟩ b k) (fun a => by
    match a with
    | ⟨0, _⟩ => rfl
    | ⟨1, _⟩ => show b.val = 0 + b.val; omega
    | ⟨2, _⟩ => show k.val = 0 + k.val; omega)]
  exact H.xs ⟨n, hn⟩ b k

abbrev gatesN (xs : FVec Ideal S200x1024x64 .f32) (awih : FVec Ideal S320x64 .f32) (awhh : FVec Ideal S320x80 .f32) (abih abhh : FVec Ideal S320 .f32) (h : FVec Ideal S1024x80 .f32) (n : ℕ) :
    FVec Ideal S1024x320 .f32 := gatesT xs (constantI S_ 32 (BitVec.ofNat 32 n)) awih awhh abih abhh h

theorem gates_apply (b : Fin 1024) (g : Fin 320) :
    gatesN xs awih awhh abih abhh h n (ix2 (n0 := 1024) (n1 := 320) b g) = gate (par wih whh bih bhh) (E b n) (st (par wih whh bih bhh) (E b) n) g := by
  unfold gatesN gatesT
  rw [dotE, dotH]
  refine congrArg₂ (fun x y : EReal => x + y) (congrArg₂ (fun x y : EReal => x + y) (congrArg₂ (fun x y : EReal => x + y) ?_ ?_) ?_) ?_
  · refine (StackMember.dotGeneral_plain_apply none _ _ b g).trans (Finset.sum_congr rfl fun k _ => ?_)
    rw [slab_apply H hn b k, H.wihE]
    refine congrArg (E b n k * ·) (transpose_apply _ _ _ _ _ fun a => ?_)
    match a with
    | ⟨0, _⟩ => rfl
    | ⟨1, _⟩ => rfl
  · refine (StackMember.dotGeneral_plain_apply none _ _ b g).trans (Finset.sum_congr rfl fun k _ => ?_)
    rw [H.hid b k, H.whhE]
    refine congrArg (_ * ·) (transpose_apply _ _ _ _ _ fun a => ?_)
    match a with
    | ⟨0, _⟩ => rfl
    | ⟨1, _⟩ => rfl
  · rw [H.bihE]; exact bias_apply bih b g
  · rw [H.bhhE]; exact bias_apply bhh b g

theorem cells_apply (b : Fin 1024) (j : Fin 80) :
    cellsT (gatesN xs awih awhh abih abhh h n) cc (ix2 (n0 := 1024) (n1 := 80) b j) = nextC (par wih whh bih bhh) (E b n) (st (par wih whh bih bhh) (E b) n) j := by
  unfold cellsT
  refine congrArg₂ (fun x y : EReal => x + y) (congrArg₂ (fun x y : EReal => x * y) ?_ (H.cell b j)) (congrArg₂ (fun x y : EReal => x * y) ?_ ?_)
  · rw [sigmoid_apply, slice_apply _ 80 (by omega), gates_apply H hn]
  · rw [sigmoid_apply, slice_apply _ 0 (by omega), gates_apply H hn]
    simp only [Nat.zero_add]
  · refine congrArg Ideal.tanh ?_
    rw [slice_apply _ 160 (by omega), gates_apply H hn]

theorem hiddens_apply (b : Fin 1024) (j : Fin 80) :
    hiddensT (gatesN xs awih awhh abih abhh h n) (cellsT (gatesN xs awih awhh abih abhh h n) cc) (ix2 (n0 := 1024) (n1 := 80) b j)
      = nextH (par wih whh bih bhh) (E b n) (st (par wih whh bih bhh) (E b) n) j := by
  refine congrArg₂ (fun x y : EReal => x * y) ?_ (congrArg Ideal.tanh (cells_apply H hn b j))
  rw [sigmoid_apply, slice_apply _ 240 (by omega), gates_apply H hn]

/-- A step keeps what the direction's arrays hold. -/
theorem dir_step : Dir wih whh bih bhh E xs awih awhh abih abhh (hiddensT (gatesN xs awih awhh abih abhh h n) (cellsT (gatesN xs awih awhh abih abhh h n) cc))
    (cellsT (gatesN xs awih awhh abih abhh h n) cc)
    (outT o (hiddensT (gatesN xs awih awhh abih abhh h n) (cellsT (gatesN xs awih awhh abih abhh h n) cc)) (constantI S_ 32 (BitVec.ofNat 32 n))) (n + 1) where
  xs := H.xs
  wihE := H.wihE
  whhE := H.whhE
  bihE := H.bihE
  bhhE := H.bhhE
  hid := hiddens_apply H hn
  cell := cells_apply H hn
  out k b j hk := by
    refine (update_apply _ _ _ n hn (start_apply n hn) k b j).trans ?_
    by_cases e : k.val = n
    · rw [if_pos e, e]
      refine (broadcastInDim_apply _ _ _ _ (ix2 (n0 := 1024) (n1 := 80) b j) (fun a => ?_)).trans (hiddens_apply H hn b j)
      match a with
      | ⟨0, _⟩ => rfl
      | ⟨1, _⟩ => rfl
    · rw [if_neg e]
      exact H.out k b j (by omega)

end Step

/-! ## The loop -/

variable (wihF : FVec Ideal S320x64 .f32) (whhF : FVec Ideal S320x80 .f32) (bihF bhhF : FVec Ideal S320 .f32) (EF : Fin 1024 → ℕ → Fin 64 → EReal)
variable (wihB : FVec Ideal S320x64 .f32) (whhB : FVec Ideal S320x80 .f32) (bihB bhhB : FVec Ideal S320 .f32) (EB : Fin 1024 → ℕ → Fin 64 → EReal)

/-- What the carried arrays hold after `n` trips. -/
structure Holds (V : Valuation τ sig (Elt Ideal)) (n : ℕ) : Prop where
  cnt : V (Proc.devRef .tc main_v7_10) = constantI S_ 32 (BitVec.ofNat 32 n)
  fwd : Dir wihF whhF bihF bhhF EF (V (Proc.devRef .tc main_v7_0)) (V (Proc.devRef .tc main_v7_2)) (V (Proc.devRef .tc main_v7_3)) (V (Proc.devRef .tc main_v7_4)) (V (Proc.devRef .tc main_v7_5))
    (V (Proc.devRef .tc main_v7_11)) (V (Proc.devRef .tc main_v7_12)) (V (Proc.devRef .tc main_v7_15)) n
  bwd : Dir wihB whhB bihB bhhB EB (V (Proc.devRef .tc main_v7_1)) (V (Proc.devRef .tc main_v7_6)) (V (Proc.devRef .tc main_v7_7)) (V (Proc.devRef .tc main_v7_8)) (V (Proc.devRef .tc main_v7_9))
    (V (Proc.devRef .tc main_v7_13)) (V (Proc.devRef .tc main_v7_14)) (V (Proc.devRef .tc main_v7_16)) n

variable {wihF whhF bihF bhhF EF wihB whhB bihB bhhB EB}

theorem holds_step {V : Valuation τ sig (Elt Ideal)} {n : ℕ} (H : Holds wihF whhF bihF bhhF EF wihB whhB bihB bhhB EB V n) (hn : n < 200) :
    Holds wihF whhF bihF bhhF EF wihB whhB bihB bhhB EB (STEP V) (n + 1) where
  cnt := by
    rw [STEP_main_v7_10]
    unfold step_main_v7_10
    rw [H.cnt]
    funext i
    show BitVec.ofNat 32 n + 1#32 = BitVec.ofNat 32 (n + 1)
    simp only [BitVec.ofNat_add]
  fwd := by
    rw [STEP_main_v7_0, STEP_main_v7_2, STEP_main_v7_3, STEP_main_v7_4, STEP_main_v7_5, STEP_main_v7_11, STEP_main_v7_12, STEP_main_v7_15]
    unfold step_main_v7_11 step_main_v7_12 step_main_v7_15 res_main_while0b_v83 res_main_while0b_v81 res_main_while0b_v55
    rw [H.cnt]
    exact dir_step H.fwd hn
  bwd := by
    rw [STEP_main_v7_1, STEP_main_v7_6, STEP_main_v7_7, STEP_main_v7_8, STEP_main_v7_9, STEP_main_v7_13, STEP_main_v7_14, STEP_main_v7_16]
    unfold step_main_v7_13 step_main_v7_14 step_main_v7_16 res_main_while0b_v122 res_main_while0b_v120 res_main_while0b_v94
    rw [H.cnt]
    exact dir_step H.bwd hn

theorem holds_iterate {V : Valuation τ sig (Elt Ideal)} (H : Holds wihF whhF bihF bhhF EF wihB whhB bihB bhhB EB V 0) : ∀ n, n ≤ 200 → Holds wihF whhF bihF bhhF EF wihB whhB bihB bhhB EB (STEP^[n] V) n
  | 0, _ => H
  | n + 1, h => by
    rw [Function.iterate_succ_apply']
    exact holds_step (holds_iterate H n (by omega)) (by omega)

/-! ## The loop's entry -/

variable (m : (ℓ : Loc nD τ sig) → Buf (Elt Ideal) ℓ) (c : Dev nD)

abbrev argI : IVec S1024x200 32 := m ((c.tc : Thread nD τ).loc main_arg0)
abbrev argT : FVec Ideal S100000x64 .f32 := m ((c.tc : Thread nD τ).loc main_arg1)
abbrev argWihF : FVec Ideal S320x64 .f32 := m ((c.tc : Thread nD τ).loc main_arg2)
abbrev argWhhF : FVec Ideal S320x80 .f32 := m ((c.tc : Thread nD τ).loc main_arg3)
abbrev argBihF : FVec Ideal S320 .f32 := m ((c.tc : Thread nD τ).loc main_arg4)
abbrev argBhhF : FVec Ideal S320 .f32 := m ((c.tc : Thread nD τ).loc main_arg5)
abbrev argWihB : FVec Ideal S320x64 .f32 := m ((c.tc : Thread nD τ).loc main_arg6)
abbrev argWhhB : FVec Ideal S320x80 .f32 := m ((c.tc : Thread nD τ).loc main_arg7)
abbrev argBihB : FVec Ideal S320 .f32 := m ((c.tc : Thread nD τ).loc main_arg8)
abbrev argBhhB : FVec Ideal S320 .f32 := m ((c.tc : Thread nD τ).loc main_arg9)
abbrev argFcW : FVec Ideal S15x160 .f32 := m ((c.tc : Thread nD τ).loc main_arg10)
abbrev argFcB : FVec Ideal S15 .f32 := m ((c.tc : Thread nD τ).loc main_arg11)

set_option maxRecDepth 65536 in
set_option maxHeartbeats 1000000 in
theorem entry_xs : entryContents preI m c (Proc.devRef .tc main_v7_0) = transpose S200x1024x64 [1, 0, 2] (Rows.taken (argI m c) (argT m c)) transposes_S1024x200x64_S200x1024x64_1_0_2 := by
  simp only [entryContents, afterL_cons, afterL_nil]; after_reads_simp
  simp only [TRef.toBuf, TRef.ofBuf, cast_eq]
  have hI : launchContents m c (Proc.devRef .tc main_arg0) = argI m c := rfl
  have hT : launchContents m c (Proc.devRef .tc main_arg1) = argT m c := rfl
  rw [hI, hT, id_eq]

set_option maxRecDepth 65536 in
set_option maxHeartbeats 1000000 in
theorem entry_xs_rev : entryContents preI m c (Proc.devRef .tc main_v7_1) = Host.reverse [0] (transpose S200x1024x64 [1, 0, 2] (Rows.taken (argI m c) (argT m c)) transposes_S1024x200x64_S200x1024x64_1_0_2) := by
  simp only [entryContents, afterL_cons, afterL_nil]; after_reads_simp
  simp only [TRef.toBuf, TRef.ofBuf, cast_eq]
  have hI : launchContents m c (Proc.devRef .tc main_arg0) = argI m c := rfl
  have hT : launchContents m c (Proc.devRef .tc main_arg1) = argT m c := rfl
  rw [hI, hT, id_eq]

theorem mod_lt (n : ℕ) : n % 200 < 200 := Nat.mod_lt _ (by omega)
theorem rev_lt (n : ℕ) : 199 - n < 200 := by omega

/-- The row of time step `n`, forwards and backwards. -/
abbrev rowF (hx : Rows.InRange (argI m c)) (b : Fin 1024) (n : ℕ) (k : Fin 64) : EReal :=
  argT m c (ix2 (n0 := 100000) (n1 := 64) (Rows.rowOf (argI m c) hx b ⟨n % 200, mod_lt n⟩) k)
abbrev rowB (hx : Rows.InRange (argI m c)) (b : Fin 1024) (n : ℕ) (k : Fin 64) : EReal :=
  argT m c (ix2 (n0 := 100000) (n1 := 64) (Rows.rowOf (argI m c) hx b ⟨199 - n, rev_lt n⟩) k)

set_option maxRecDepth 65536 in
set_option maxHeartbeats 1000000 in
theorem entry_holds (hx : Rows.InRange (argI m c)) :
    Holds (argWihF m c) (argWhhF m c) (argBihF m c) (argBhhF m c) (rowF m c hx) (argWihB m c) (argWhhB m c) (argBihB m c) (argBhhB m c) (rowB m c hx) (entryContents preI m c) 0 where
  cnt := by simp only [entryContents, afterL_cons, afterL_nil]; after_reads_simp; rfl
  fwd := {
    xs := by
      intro t b k
      rw [entry_xs]
      refine Eq.trans ?_ (Rows.taken_apply (argI m c) (argT m c) hx b ⟨t.val % 200, mod_lt _⟩ k)
      refine transpose_apply _ _ _ _ _ fun a => ?_
      match a with
      | ⟨0, _⟩ => show t.val % 200 = t.val; exact Nat.mod_eq_of_lt t.isLt
      | ⟨1, _⟩ => rfl
      | ⟨2, _⟩ => rfl
    wihE := by simp only [entryContents, afterL_cons, afterL_nil]; after_reads_simp; rfl
    whhE := by simp only [entryContents, afterL_cons, afterL_nil]; after_reads_simp; rfl
    bihE := by simp only [entryContents, afterL_cons, afterL_nil]; after_reads_simp; rfl
    bhhE := by simp only [entryContents, afterL_cons, afterL_nil]; after_reads_simp; rfl
    hid := by
      intro b j
      simp only [entryContents, afterL_cons, afterL_nil]; after_reads_simp
      exact Ideal.ofBits_zero_f32
    cell := by
      intro b j
      simp only [entryContents, afterL_cons, afterL_nil]; after_reads_simp
      exact Ideal.ofBits_zero_f32
    out := fun k b j h => absurd h (Nat.not_lt_zero _) }
  bwd := {
    xs := by
      intro t b k
      rw [entry_xs_rev]
      show transpose S200x1024x64 [1, 0, 2] (Rows.taken (argI m c) (argT m c)) transposes_S1024x200x64_S200x1024x64_1_0_2 _ = _
      refine Eq.trans ?_ (Rows.taken_apply (argI m c) (argT m c) hx b ⟨199 - t.val, rev_lt _⟩ k)
      refine transpose_apply _ _ _ _ _ fun a => ?_
      match a with
      | ⟨0, _⟩ => show 199 - t.val = 200 - (t.val + 1); omega
      | ⟨1, _⟩ => rfl
      | ⟨2, _⟩ => rfl
    wihE := by simp only [entryContents, afterL_cons, afterL_nil]; after_reads_simp; rfl
    whhE := by simp only [entryContents, afterL_cons, afterL_nil]; after_reads_simp; rfl
    bihE := by simp only [entryContents, afterL_cons, afterL_nil]; after_reads_simp; rfl
    bhhE := by simp only [entryContents, afterL_cons, afterL_nil]; after_reads_simp; rfl
    hid := by
      intro b j
      simp only [entryContents, afterL_cons, afterL_nil]; after_reads_simp
      exact Ideal.ofBits_zero_f32
    cell := by
      intro b j
      simp only [entryContents, afterL_cons, afterL_nil]; after_reads_simp
      exact Ideal.ofBits_zero_f32
    out := fun k b j h => absurd h (Nat.not_lt_zero _) }

end Cert.Proof.RefStep

end
-- ==== Proof.KernelStep.lean ====
/-
  The kernel's recurrence: with the weights laid out by gate and zeros around them, the first 80 columns of its state are
  each row's state and the rest stay zero.
-/
module

public import proofs.«01_k».proof.Proof.Layout
public import proofs.«01_k».proof.Proof.RefStep

@[expose] public section

noncomputable section

namespace Cert.Proof.KernelIdealRun

open Cert.KernelIdeal Cert.KernelIdeal.Gen

open Idealize.ShloMosaic hiding ix1 ix2 ix3
open Idealize.ShloMosaic.ValueIdx
open Cert.Proof.Lstm

theorem back_lt (n : ℕ) : 199 - n < 200 := by omega
theorem wide_lt (k : Fin 64) : k.val < 128 := by omega

theorem sum_pad (K : ℕ) (hK : K ≤ 128) (f : Fin 128 → EReal) (hf : ∀ k : Fin 128, K ≤ k.val → f k = 0) :
    ∑ k, f k = ∑ k : Fin K, f ⟨k.val, by omega⟩ := by
  obtain ⟨d, hd⟩ : ∃ d, 128 = K + d := ⟨128 - K, by omega⟩
  rw [← Equiv.sum_comp (finCongr hd.symm) f, Fin.sum_univ_add]
  rw [Finset.sum_eq_zero (s := Finset.univ) (f := fun i : Fin d => f (finCongr hd.symm (Fin.natAdd K i))) (fun i _ => hf _ (by show K ≤ K + i.val; omega)), add_zero]
  rfl

theorem tanh_zero : Ideal.tanh 0 = 0 := by
  show ((Real.tanh 0 : ℝ) : EReal) = 0
  rw [Real.tanh_zero]
  rfl

theorem dotK : dot_S1024x128_S128x512_S1024x512_1_0_0_1_n_n = DotDims.plain 1024 128 512 := rfl

theorem product_apply (x : FVec Ideal S1024x128 .f32) (w : FVec Ideal S128x512 .f32) (r : Fin 1024) (n : Fin 512) :
    matmul dot_S1024x128_S128x512_S1024x512_1_0_0_1_n_n none x w (constant S1024x512 .f32 0x00000000#32) (ix2 (n0 := 1024) (n1 := 512) r n)
      = ∑ k : Fin 128, x (ix2 (n0 := 1024) (n1 := 128) r k) * w (ix2 (n0 := 128) (n1 := 512) k n) := by
  rw [matmul_zero_eq_dotGeneral, dotK]
  exact StackMember.dotGeneral_plain_apply none _ _ r n

theorem cast_apply {s : Shape} {α : Type} (x : s.Idx → α) (h : s.ShapeCasts s) : shapeCast s x h = x :=
  funext fun i => shapeCast_apply _ _ _ _ rfl

variable (wih : FVec Ideal S320x64 .f32) (whh : FVec Ideal S320x80 .f32) (bih bhh : FVec Ideal S320 .f32)

section Step

variable (e : FVec Ideal S1x1024x128 .f32) (h c : FVec Ideal S1024x128 .f32) (r : Fin 1024) (E : Fin 64 → EReal) (s : St)
  (hE : ∀ k : Fin 64, e (ix3 (n0 := 1) (n1 := 1024) (n2 := 128) 0 r ⟨k.val, by omega⟩) = E k)
  (hh : ∀ j : Fin 80, h (ix2 (n0 := 1024) (n1 := 128) r ⟨j.val, by omega⟩) = s.1 j)
  (hc : ∀ j : Fin 128, c (ix2 (n0 := 1024) (n1 := 128) r j) = if q : j.val < 80 then s.2 ⟨j.val, q⟩ else 0)

include hE hh in
theorem pay5_apply (n : Fin 512) :
    k1_pay5 (F := Ideal) e h (layIh wih) (layHh whh) (layB bih bhh) (ix2 (n0 := 1024) (n1 := 512) r n)
      = if q : n.val % 128 < 80 then gate (RefStep.par wih whh bih bhh) E s ⟨80 * (n.val / 128) + n.val % 128, by omega⟩ else 0 := by
  have hx : matmul dot_S1024x128_S128x512_S1024x512_1_0_0_1_n_n none (shapeCast S1024x128 e shapeCasts_S1x1024x128_S1024x128) (shapeCast S128x512 (layIh wih) shapeCasts_S128x512_S128x512) (constant S1024x512 .f32 0x00000000#32) (ix2 (n0 := 1024) (n1 := 512) r n)
      = if q : n.val % 128 < 80 then ∑ k : Fin 64, E k * wih (ix2 (n0 := 320) (n1 := 64) ⟨80 * (n.val / 128) + n.val % 128, by omega⟩ k) else 0 := by
    rw [product_apply, cast_apply, sum_pad 64 (by omega)]
    · split
      · next q =>
        refine Finset.sum_congr rfl fun k _ => ?_
        rw [layIh_apply, dif_pos ⟨k.isLt, q⟩, ← hE k]
        congr 1
        refine shapeCast_apply _ _ _ _ ?_
        rw [Shape.rowMajor_val_two, Shape.rowMajor_val_three]
        show (0 * 1024 + r.val) * 128 + k.val = r.val * 128 + k.val
        omega
      · next q =>
        refine Finset.sum_eq_zero fun k _ => ?_
        rw [layIh_apply, dif_neg (fun q' => q q'.2)]
        exact (congrArg (_ * ·) Ideal.ofBits_zero_f32).trans (mul_zero _)
    · intro k hk
      rw [layIh_apply, dif_neg (fun q' => by have := q'.1; omega)]
      exact (congrArg (_ * ·) Ideal.ofBits_zero_f32).trans (mul_zero _)
  have hy : matmul dot_S1024x128_S128x512_S1024x512_1_0_0_1_n_n none h (shapeCast S128x512 (layHh whh) shapeCasts_S128x512_S128x512) (constant S1024x512 .f32 0x00000000#32) (ix2 (n0 := 1024) (n1 := 512) r n)
      = if q : n.val % 128 < 80 then ∑ k : Fin 80, s.1 k * whh (ix2 (n0 := 320) (n1 := 80) ⟨80 * (n.val / 128) + n.val % 128, by omega⟩ k) else 0 := by
    rw [product_apply, cast_apply, sum_pad 80 (by omega)]
    · split
      · next q =>
        refine Finset.sum_congr rfl fun k _ => ?_
        rw [layHh_apply, dif_pos ⟨k.isLt, q⟩, ← hh k]
      · next q =>
        refine Finset.sum_eq_zero fun k _ => ?_
        rw [layHh_apply, dif_neg (fun q' => q q'.2)]
        exact (congrArg (_ * ·) Ideal.ofBits_zero_f32).trans (mul_zero _)
    · intro k hk
      rw [layHh_apply, dif_neg (fun q' => by have := q'.1; omega)]
      exact (congrArg (_ * ·) Ideal.ofBits_zero_f32).trans (mul_zero _)
  have hb : broadcastTo S1024x512 (shapeCast S1x512 (layB bih bhh) shapeCasts_S1x512_S1x512) broadcasts_S1x512_S1024x512 (ix2 (n0 := 1024) (n1 := 512) r n)
      = if q : n.val % 128 < 80 then bih (ix1 (n := 320) ⟨80 * (n.val / 128) + n.val % 128, by omega⟩) + bhh (ix1 (n := 320) ⟨80 * (n.val / 128) + n.val % 128, by omega⟩) else 0 := by
    rw [cast_apply, broadcastTo_apply _ _ _ (ix2 (n0 := 1) (n1 := 512) 0 n) (fun a => by
      match a with
      | ⟨0, _⟩ => rfl
      | ⟨1, _⟩ => rfl), layB_apply]
    exact dite_congr rfl (fun _ => rfl) fun _ => Ideal.ofBits_zero_f32
  show (matmul dot_S1024x128_S128x512_S1024x512_1_0_0_1_n_n none (shapeCast S1024x128 e shapeCasts_S1x1024x128_S1024x128) (shapeCast S128x512 (layIh wih) shapeCasts_S128x512_S128x512) (constant S1024x512 .f32 0x00000000#32) (ix2 (n0 := 1024) (n1 := 512) r n)
    + matmul dot_S1024x128_S128x512_S1024x512_1_0_0_1_n_n none h (shapeCast S128x512 (layHh whh) shapeCasts_S128x512_S128x512) (constant S1024x512 .f32 0x00000000#32) (ix2 (n0 := 1024) (n1 := 512) r n))
    + broadcastTo S1024x512 (shapeCast S1x512 (layB bih bhh) shapeCasts_S1x512_S1x512) broadcasts_S1x512_S1024x512 (ix2 (n0 := 1024) (n1 := 512) r n) = _
  rw [hx, hy, hb]
  by_cases q : n.val % 128 < 80
  · simp only [dif_pos q]
    exact (add_assoc _ _ _).symm
  · simp only [dif_neg q, add_zero]

theorem gate_slice (z : FVec Ideal S1024x512 .f32) (o : ℕ) (ho : o + 128 ≤ 512) (hs : S1024x512.Slices ![0, o] S1024x128) (j : Fin 128) :
    extractStridedSlice S1024x128 ![0, o] z hs (ix2 (n0 := 1024) (n1 := 128) r j) = z (ix2 (n0 := 1024) (n1 := 512) r ⟨o + j.val, by omega⟩) := by
  refine extractStridedSlice_apply _ _ _ _ _ fun a => ?_
  match a with
  | ⟨0, _⟩ => show r.val = 0 + r.val; omega
  | ⟨1, _⟩ => rfl

include hE hh in
/-- Gate `g` at a column. -/
theorem gate_apply (g : Fin 4) (hs : S1024x512.Slices ![0, 128 * g.val] S1024x128) (j : Fin 128) :
    extractStridedSlice S1024x128 ![0, 128 * g.val] (k1_pay5 (F := Ideal) e h (layIh wih) (layHh whh) (layB bih bhh)) hs (ix2 (n0 := 1024) (n1 := 128) r j)
      = if q : j.val < 80 then gate (RefStep.par wih whh bih bhh) E s ⟨80 * g.val + j.val, by omega⟩ else 0 := by
  rw [gate_slice r _ _ (by omega), pay5_apply wih whh bih bhh e h r E s hE hh]
  have h1 : (128 * g.val + j.val) % 128 = j.val := by omega
  have h2 : (128 * g.val + j.val) / 128 = g.val := by omega
  simp only [h1, h2]

include hE hh hc in
theorem pay6_apply (j : Fin 128) :
    k1_pay6 (F := Ideal) e h c (layIh wih) (layHh whh) (layB bih bhh) (ix2 (n0 := 1024) (n1 := 128) r j)
      = if q : j.val < 80 then nextC (RefStep.par wih whh bih bhh) E s ⟨j.val, q⟩ else 0 := by
  have hg := fun g hs => gate_apply wih whh bih bhh e h r E s hE hh g hs j
  show Ideal.logistic (extractStridedSlice S1024x128 ![0, 128] (k1_pay5 (F := Ideal) e h (layIh wih) (layHh whh) (layB bih bhh)) slices_S1024x512_o0_128_S1024x128 (ix2 (n0 := 1024) (n1 := 128) r j)) * c (ix2 (n0 := 1024) (n1 := 128) r j)
    + Ideal.logistic (extractStridedSlice S1024x128 ![0, 0] (k1_pay5 (F := Ideal) e h (layIh wih) (layHh whh) (layB bih bhh)) slices_S1024x512_o0_0_S1024x128 (ix2 (n0 := 1024) (n1 := 128) r j))
      * Ideal.tanh (extractStridedSlice S1024x128 ![0, 256] (k1_pay5 (F := Ideal) e h (layIh wih) (layHh whh) (layB bih bhh)) slices_S1024x512_o0_256_S1024x128 (ix2 (n0 := 1024) (n1 := 128) r j)) = _
  have h0 := hg 0 slices_S1024x512_o0_0_S1024x128
  have h1 := hg 1 slices_S1024x512_o0_128_S1024x128
  have h2 := hg 2 slices_S1024x512_o0_256_S1024x128
  by_cases q : j.val < 80
  · rw [dif_pos q] at h0 h1 h2 ⊢
    refine congrArg₂ (fun x y : EReal => x + y) (congrArg₂ (fun x y : EReal => x * y) (congrArg Ideal.logistic h1) ((hc j).trans (dif_pos q)))
      (congrArg₂ (fun x y : EReal => x * y) (congrArg Ideal.logistic (h0.trans ?_)) (congrArg Ideal.tanh h2))
    exact congrArg _ (Fin.ext (Nat.zero_add _))
  · rw [dif_neg q] at h0 h1 h2 ⊢
    rw [(hc j).trans (dif_neg q), mul_zero, zero_add]
    exact (congrArg (_ * ·) ((congrArg Ideal.tanh h2).trans tanh_zero)).trans (mul_zero _)

include hE hh hc in
theorem pay7_apply (j : Fin 128) :
    k1_pay7 (F := Ideal) e h c (layIh wih) (layHh whh) (layB bih bhh) (ix2 (n0 := 1024) (n1 := 128) r j)
      = if q : j.val < 80 then nextH (RefStep.par wih whh bih bhh) E s ⟨j.val, q⟩ else 0 := by
  have h3 := gate_apply wih whh bih bhh e h r E s hE hh 3 slices_S1024x512_o0_384_S1024x128 j
  have h6 := pay6_apply wih whh bih bhh e h c r E s hE hh hc j
  show Ideal.logistic (extractStridedSlice S1024x128 ![0, 384] (k1_pay5 (F := Ideal) e h (layIh wih) (layHh whh) (layB bih bhh)) slices_S1024x512_o0_384_S1024x128 (ix2 (n0 := 1024) (n1 := 128) r j))
    * Ideal.tanh (k1_pay6 (F := Ideal) e h c (layIh wih) (layHh whh) (layB bih bhh) (ix2 (n0 := 1024) (n1 := 128) r j)) = _
  rw [h6]
  by_cases q : j.val < 80
  · rw [dif_pos q] at h3
    rw [dif_pos q, dif_pos q]
    exact congrArg₂ (fun x y : EReal => x * y) (congrArg Ideal.logistic h3) rfl
  · rw [dif_neg q, dif_neg q, tanh_zero, mul_zero]

end Step

theorem pay1_eq (x : FVec Ideal S1024x128 .f32) : k1_pay1 (F := Ideal) x = x := by
  unfold k1_pay1
  exact cast_apply x _
theorem pay8_eq (e : FVec Ideal S1x1024x128 .f32) (h c : FVec Ideal S1024x128 .f32) (u v : FVec Ideal S128x512 .f32) (w : FVec Ideal S1x512 .f32) :
    k1_pay8 (F := Ideal) e h c u v w = k1_pay7 (F := Ideal) e h c u v w := by
  unfold k1_pay8
  exact cast_apply _ _

/-- The state after `n` points, at a row and a column: that row's, and zeros. -/
theorem recur_apply (e : ℕ → FVec Ideal S1x1024x128 .f32) (r : Fin 1024) (E : ℕ → Fin 64 → EReal)
    (hX : ∀ (n : ℕ) (k : Fin 64), e n (ix3 (n0 := 1) (n1 := 1024) (n2 := 128) 0 r ⟨k.val, wide_lt k⟩) = E n k) :
    ∀ (n : ℕ) (j : Fin 128),
      (recur (F := Ideal) e (layIh wih) (layHh whh) (layB bih bhh) n).1 (ix2 (n0 := 1024) (n1 := 128) r j)
          = (if q : j.val < 80 then (Lstm.st (RefStep.par wih whh bih bhh) E n).1 ⟨j.val, q⟩ else 0)
      ∧ (recur (F := Ideal) e (layIh wih) (layHh whh) (layB bih bhh) n).2 (ix2 (n0 := 1024) (n1 := 128) r j)
          = (if q : j.val < 80 then (Lstm.st (RefStep.par wih whh bih bhh) E n).2 ⟨j.val, q⟩ else 0)
  | 0, j => by
    have z : ∀ q : Prop, [Decidable q] → (0 : EReal) = if _h : q then (0 : EReal) else 0 := fun q _ => by split <;> rfl
    constructor
    · refine Eq.trans ?_ (z _)
      show k1_pay3 (F := Ideal) (ix2 (n0 := 1024) (n1 := 128) r j) = 0
      unfold k1_pay3
      rw [cast_apply]
      exact Ideal.ofBits_zero_f32
    · refine Eq.trans ?_ (z _)
      show k1_pay4 (F := Ideal) (ix2 (n0 := 1024) (n1 := 128) r j) = 0
      unfold k1_pay4
      rw [cast_apply]
      exact Ideal.ofBits_zero_f32
  | n + 1, j => by
    have ih := recur_apply e r E hX n
    have hh : ∀ j : Fin 80, (recur (F := Ideal) e (layIh wih) (layHh whh) (layB bih bhh) n).1 (ix2 (n0 := 1024) (n1 := 128) r ⟨j.val, by omega⟩) = (Lstm.st (RefStep.par wih whh bih bhh) E n).1 j :=
      fun j => (ih ⟨j.val, by omega⟩).1.trans (dif_pos j.isLt)
    have hc := fun j => (ih j).2
    have hE : ∀ k : Fin 64, e n (ix3 (n0 := 1) (n1 := 1024) (n2 := 128) 0 r ⟨k.val, by omega⟩) = E n k := fun k => hX n k
    have h7 := pay7_apply wih whh bih bhh (e n) _ _ r (E n) _ hE hh hc j
    have h6 := pay6_apply wih whh bih bhh (e n) _ _ r (E n) _ hE hh hc j
    exact ⟨(congrFun (pay8_eq _ _ _ _ _ _) _).trans h7, (congrFun (pay1_eq _) _).trans h6⟩

/-- The result, at an entry. -/
theorem hidden_apply (X : S200x1024x128.Idx → EReal) (r : Fin 1024) (E : ℕ → Fin 64 → EReal)
    (hX : ∀ (n : ℕ) (k : Fin 64), X (ix3 (n0 := 200) (n1 := 1024) (n2 := 128) ⟨199 - n, back_lt n⟩ r ⟨k.val, wide_lt k⟩) = E n k)
    (t : Fin 200) (j : Fin 80) :
    hidden (F := Ideal) X (layIh wih) (layHh whh) (layB bih bhh) (ix3 (n0 := 200) (n1 := 1024) (n2 := 80) t r j)
      = (Lstm.st (RefStep.par wih whh bih bhh) E (200 - t.val)).1 j := by
  show k1_pay2 (F := Ideal) (state (F := Ideal) X (layIh wih) (layHh whh) (layB bih bhh) (200 - t.val)).1 (ix3 (n0 := 1) (n1 := 1024) (n2 := 80) 0 r j) = _
  unfold k1_pay2
  refine (shapeCast_apply _ _ _ (ix2 (n0 := 1024) (n1 := 80) r j) (by
    rw [Shape.rowMajor_val_two, Shape.rowMajor_val_three]
    show r.val * 80 + j.val = (0 * 1024 + r.val) * 80 + j.val
    omega)).trans ?_
  refine (extractStridedSlice_apply _ _ _ _ (ix2 (n0 := 1024) (n1 := 128) r ⟨j.val, by omega⟩) (fun a => ?_)).trans ?_
  · match a with
    | ⟨0, _⟩ => show r.val = 0 + r.val; omega
    | ⟨1, _⟩ => show j.val = 0 + j.val; omega
  · exact (recur_apply wih whh bih bhh (xAt (F := Ideal) X) r E hX (200 - t.val) ⟨j.val, by omega⟩).1.trans (dif_pos j.isLt)

end Cert.Proof.KernelIdealRun

end
-- ==== Proof.Norm.lean ====
/-
  The arithmetic of the last steps over the reals with infinities: layer normalization by the two variance formulas, the two
  pools over time, the last layer, the logarithm of the softmax by its two formulas. Each step's values are finite.
-/
module

public import proofs.«01_k».proof.Proof.Lstm
public import Idealize.ShloMosaic.PureOps.Ideal.Laws

@[expose] public section

noncomputable section

namespace Cert.Proof.Norm

open Idealize.ShloMosaic

/-- A finite value. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by simp only [hg, coe_sum]⟩

theorem isReal_iff {x : EReal} (h : max x (-x) < ⊤) : IsReal x := by
  induction x with
  | bot => simp at h
  | coe r => exact ⟨r, rfl⟩
  | top => simp at h

/-! ## The hidden values are finite -/

theorem logistic_real (x : EReal) : IsReal (Ideal.logistic x) := by
  induction x with
  | bot => exact ⟨0, by rw [Ideal.logistic_bot]; rfl⟩
  | coe r => exact ⟨_, Ideal.logistic_coe (r := r)⟩
  | top => exact ⟨1, by rw [Ideal.logistic_top]; rfl⟩

theorem tanh_real (x : EReal) : IsReal (Ideal.tanh x) := by
  induction x with
  | bot => exact ⟨-1, by rw [Ideal.tanh_bot]; rfl⟩
  | coe r => exact ⟨_, rfl⟩
  | top => exact ⟨1, by rw [Ideal.tanh_top]; rfl⟩

theorem hid_real (p : Lstm.Par) (E : ℕ → Fin 64 → EReal) : ∀ (n : ℕ) (j : Fin 80), IsReal ((Lstm.st p E n).1 j)
  | 0, _ => ⟨0, rfl⟩
  | _ + 1, _ => (logistic_real _).mul (tanh_real _)

/-! ## The constants -/

theorem half_eq : Ideal.ofBits .f32 0x3F000000#32 = ((1 / 2 : ℝ) : EReal) := by
  simp [Ideal.ofBits, Ideal.ieee]; rw [← EReal.coe_mul]; norm_num
theorem width_eq : Ideal.ofBits .f32 0x43200000#32 = ((160 : ℝ) : EReal) := by
  simp [Ideal.ofBits, Ideal.ieee]; rw [← EReal.coe_mul]; norm_num
theorem len_eq : Ideal.ofBits .f32 0x43480000#32 = ((200 : ℝ) : EReal) := by
  simp [Ideal.ofBits, Ideal.ieee]; rw [← EReal.coe_mul]; norm_num
theorem bot_eq : Ideal.ofBits .f32 0xFF800000#32 = ⊥ := by
  simp [Ideal.ofBits, Ideal.ieee]
theorem top_eq : Ideal.ofBits .f32 0x7F800000#32 = ⊤ := by
  simp [Ideal.ofBits, Ideal.ieee]
/-- The constant under the root. -/
theorem eps_eq : ∃ ε : ℝ, 0 < ε ∧ Ideal.ofBits .f32 0x3727C5AC#32 = (ε : EReal) := by
  refine ⟨_, ?_, by simp [Ideal.ofBits, Ideal.ieee]; rfl⟩
  norm_num

def eps : ℝ := Classical.choose eps_eq
theorem eps_pos : 0 < eps := (Classical.choose_spec eps_eq).1
theorem eps_val : Ideal.ofBits .f32 0x3727C5AC#32 = (eps : EReal) := (Classical.choose_spec eps_eq).2

/-! ## Operations at an index -/

section At

variable {s : Shape} (x y : FVec Ideal s .f32) (i : s.Idx)

theorem addf_at : addf x y i = x i + y i := rfl
theorem mulf_at : mulf x y i = x i * y i := rfl
theorem subf_at : subf x y i = x i - y i := rfl
theorem maximumf_at : maximumf x y i = max (x i) (y i) := rfl
theorem splat_at (b : BitVec 32) : broadcast s (Scalar.ofBits (F := Ideal) .f32 b) i = Ideal.ofBits .f32 b := rfl
theorem host_splat_at {s0 : Shape} (b : BitVec 32) (dims : Fin s0.rank → Fin s.rank) (h : s0.BroadcastsInDim s dims) :
    broadcastInDim s dims h (constant (F := Ideal) s0 .f32 b) i = Ideal.ofBits .f32 b := rfl
theorem rsqrt_at : rsqrt x i = Ideal.rsqrt (x i) := rfl
theorem exp_at : exp x i = Ideal.exp (x i) := rfl
theorem log_at : log x i = Ideal.log (x i) := rfl
theorem host_divf_at : Host.divf x y i = Ideal.div (x i) (y i) := rfl

end At

/-! ## Layer normalization -/

section Ln

variable (u : Fin 160 → ℝ) (ε : ℝ)

abbrev rMu : ℝ := (∑ k, u k) / 160
abbrev rVar : ℝ := (∑ k, (u k - rMu u) * (u k - rMu u)) / 160
/-- The normalized value. -/
abbrev rLn (k : Fin 160) : ℝ := (u k - rMu u) / Real.sqrt (rVar u + ε)

theorem rVar_nonneg : 0 ≤ rVar u := div_nonneg (Finset.sum_nonneg fun k _ => mul_self_nonneg _) (by norm_num)

/-- The mean of the squares less the mean's square. -/
theorem rVar_eq : (∑ k, u k * u k) * (1 / 160) - rMu u * rMu u = rVar u := by
  have h : ∑ k, (u k - rMu u) * (u k - rMu u) = ∑ k, u k * u k - 2 * rMu u * ∑ k, u k + 160 * (rMu u * rMu u) := by
    rw [Finset.mul_sum, ← Finset.sum_sub_distrib]
    have : (160 : ℝ) * (rMu u * rMu u) = ∑ _k : Fin 160, rMu u * rMu u := by simp
    rw [this, ← Finset.sum_add_distrib]
    exact Finset.sum_congr rfl fun k _ => by ring
  show _ = (∑ k, (u k - rMu u) * (u k - rMu u)) / 160
  rw [h]
  show _ - (∑ k, u k) / 160 * ((∑ k, u k) / 160) = (_ - 2 * ((∑ k, u k) / 160) * ∑ k, u k + 160 * ((∑ k, u k) / 160 * ((∑ k, u k) / 160))) / 160
  ring

theorem div_coe (a b : ℝ) (hb : b ≠ 0) : Ideal.div (a : EReal) (b : EReal) = ((a / b : ℝ) : EReal) := by
  rw [Ideal.div_coe hb, ← EReal.coe_mul]
  congr 1; ring

variable (hε : 0 < ε)
include hε

theorem sqrt_pos : 0 < Real.sqrt (rVar u + ε) := Real.sqrt_pos.2 (by have := rVar_nonneg u; linarith)

/-- The reference's formula. -/
theorem ref_ln (w : Fin 160 → EReal) (hw : ∀ k, w k = u k) (mu var : EReal) (hmu : mu = Ideal.div (0 + ∑ k, w k) ((160 : ℝ) : EReal))
    (hvar : var = Ideal.div (0 + ∑ k, (w k - mu) * (w k - mu)) ((160 : ℝ) : EReal)) (k : Fin 160) :
    Ideal.div (w k - mu) (Ideal.sqrt (var + (ε : EReal))) = (rLn u ε k : EReal) := by
  have e1 : mu = (rMu u : EReal) := by
    rw [hmu, zero_add]; simp only [hw, coe_sum]; exact div_coe _ _ (by norm_num)
  have e2 : var = (rVar u : EReal) := by
    rw [hvar, zero_add]; simp only [hw, e1, ← EReal.coe_sub, ← EReal.coe_mul, coe_sum]; exact div_coe _ _ (by norm_num)
  rw [hw, e1, e2, ← EReal.coe_add, Ideal.sqrt_coe, if_neg (by have := rVar_nonneg u; linarith), ← EReal.coe_sub]
  exact div_coe _ _ (sqrt_pos u ε hε).ne'

/-- The kernel's formula, at any value `x`: the mean and the reciprocal root. -/
theorem ker_ln (s1 s2 : EReal) (h1 : s1 = ((∑ k, u k : ℝ) : EReal)) (h2 : s2 = ((∑ k, u k * u k : ℝ) : EReal)) (mu rs : EReal)
    (hmu : mu = s1 * ((1 / 160 : ℝ) : EReal)) (hrs : rs = Ideal.rsqrt ((s2 * ((1 / 160 : ℝ) : EReal) - mu * mu) + (ε : EReal)))
    (x : EReal) (k : Fin 160) (hx : x = u k) : (x - mu) * rs = (rLn u ε k : EReal) := by
  have e1 : mu = (rMu u : EReal) := by
    rw [hmu, h1, ← EReal.coe_mul]; congr 1; ring
  have e2 : rs = ((Real.sqrt (rVar u + ε))⁻¹ : ℝ) := by
    rw [hrs, h2, e1, ← EReal.coe_mul, ← EReal.coe_mul, ← EReal.coe_sub, rVar_eq, ← EReal.coe_add, Ideal.rsqrt_coe, if_neg (by have := rVar_nonneg u; linarith),
      if_neg (by have := rVar_nonneg u; intro h; linarith)]
  rw [hx, e1, e2, ← EReal.coe_sub, ← EReal.coe_mul]
  congr 1

end Ln

/-- The two directions' values side by side. -/
abbrev both {α : Type} (x y : Fin 80 → α) (k : Fin 160) : α := if h : k.val < 80 then x ⟨k.val, h⟩ else y ⟨k.val - 80, by omega⟩

theorem lo_lt (k : Fin 80) : k.val < 160 := by omega
theorem hi_lt (k : Fin 80) : 80 + k.val < 160 := by omega

theorem both_lo {α : Type} (x y : Fin 80 → α) (k : Fin 80) : both x y ⟨k.val, lo_lt k⟩ = x k := dif_pos k.isLt
theorem both_hi {α : Type} (x y : Fin 80 → α) (k : Fin 80) : both x y ⟨80 + k.val, hi_lt k⟩ = y k := by
  unfold both
  rw [dif_neg (by show ¬ 80 + k.val < 80; omega)]
  exact congrArg y (Fin.ext (by show 80 + k.val - 80 = k.val; omega))

theorem sum_both {M : Type} [AddCommMonoid M] (f : Fin 160 → M) :
    ∑ k, f k = ∑ k : Fin 80, f ⟨k.val, lo_lt k⟩ + ∑ k : Fin 80, f ⟨80 + k.val, hi_lt k⟩ :=
  Fin.sum_univ_add (a := 80) (b := 80) f

/-! ## The pools -/

section Pool

variable (a : Fin 200 → EReal)

/-- The maximum over time. -/
def pMax : EReal := Finset.univ.fold max ⊥ a

/-- The running maximum and sum reach the pools. -/
theorem run_max (b : ℕ → EReal) (hb : ∀ t : Fin 200, b t.val = a t) (mx : ℕ → EReal) (h0 : mx 0 = ⊥) (hs : ∀ n, n < 200 → mx (n + 1) = max (mx n) (b n)) :
    mx 200 = pMax a := by
  have h : ∀ n, n ≤ 200 → mx n = (Finset.range n).sup b := by
    intro n
    induction n with
    | zero => intro _; rw [h0]; rfl
    | succ n ih => intro hn; rw [hs n hn, ih (by omega), Finset.range_add_one, Finset.sup_insert, sup_comm]
  rw [h 200 le_rfl]
  show _ = Finset.univ.sup a
  refine le_antisymm (Finset.sup_le fun n hn => ?_) (Finset.sup_le fun t _ => ?_)
  · have e := hb ⟨n, Finset.mem_range.1 hn⟩
    rw [show b n = a ⟨n, Finset.mem_range.1 hn⟩ from e]
    exact Finset.le_sup (Finset.mem_univ _)
  · rw [← hb t]
    exact Finset.le_sup (f := b) (Finset.mem_range.2 t.isLt)

theorem run_sum (b : ℕ → EReal) (hb : ∀ t : Fin 200, b t.val = a t) (sm : ℕ → EReal) (h0 : sm 0 = 0) (hs : ∀ n, n < 200 → sm (n + 1) = sm n + b n) :
    sm 200 = ∑ t, a t := by
  have h : ∀ n, n ≤ 200 → sm n = ∑ t ∈ Finset.range n, b t := by
    intro n
    induction n with
    | zero => intro _; rw [h0]; rfl
    | succ n ih => intro hn; rw [hs n hn, ih (by omega), Finset.sum_range_succ]
  rw [h 200 le_rfl, Finset.sum_range]
  exact Finset.sum_congr rfl fun t _ => hb t

theorem fold_real {n : ℕ} (hn : 0 < n) (a : Fin n → EReal) (h : ∀ t, IsReal (a t)) : IsReal (Finset.univ.fold max ⊥ a) := by
  obtain ⟨i, -, hi⟩ := Finset.exists_mem_eq_sup Finset.univ ⟨⟨0, hn⟩, Finset.mem_univ _⟩ a
  show IsReal (Finset.univ.sup a)
  rw [hi]
  exact h i

/-- The pools, each with weight one half. -/
def pool : EReal := ((1 / 2 : ℝ) : EReal) * pMax a + ((1 / 2 : ℝ) : EReal) * Ideal.div (∑ t, a t) ((200 : ℝ) : EReal)

variable (h : ∀ t, IsReal (a t))
include h

theorem pool_eq : ((1 / 2 : ℝ) : EReal) * pMax a + ((1 / 400 : ℝ) : EReal) * ∑ t, a t = pool a := by
  obtain ⟨s, hs⟩ := IsReal.sum Finset.univ h
  unfold pool
  rw [hs, div_coe _ _ (by norm_num), ← EReal.coe_mul, ← EReal.coe_mul]
  congr 2; ring

theorem pool_real : IsReal (pool a) := by
  obtain ⟨s, hs⟩ := IsReal.sum Finset.univ h
  unfold pool
  rw [hs, div_coe _ _ (by norm_num)]
  exact (IsReal.mul ⟨_, rfl⟩ (fold_real (by norm_num) a h)).add (IsReal.mul ⟨_, rfl⟩ ⟨_, rfl⟩)

end Pool

/-! ## The last layer -/

/-- The logits of a row. -/
def logit (z : Fin 160 → EReal) (W : Fin 15 → Fin 160 → EReal) (v : Fin 15 → EReal) (n : Fin 15) : EReal := ∑ k, z k * W n k + v n

theorem logit_real (z : Fin 160 → EReal) (W : Fin 15 → Fin 160 → EReal) (v : Fin 15 → EReal) (hz : ∀ k, IsReal (z k)) (hW : ∀ n k, IsReal (W n k))
    (hv : ∀ n, IsReal (v n)) (n : Fin 15) : IsReal (logit z W v n) :=
  (IsReal.sum _ fun k => (hz k).mul (hW n k)).add (hv n)

/-! ## The logarithm of the softmax -/

/-- The maximum of a row's logits. -/
def lMax (l : Fin 15 → EReal) : EReal := Finset.univ.fold max ⊥ l

/-- The logarithm of the softmax, of the logits less their maximum. -/
def lsm (l : Fin 15 → EReal) (n : Fin 15) : EReal := (l n - max ⊥ (lMax l)) - Ideal.log (0 + ∑ k, Ideal.exp (l k - max ⊥ (lMax l)))

/-- The two formulas agree on finite logits. -/
theorem lsm_eq (l : Fin 15 → EReal) (h : ∀ k, IsReal (l k)) (n : Fin 15) :
    l n - (Ideal.log (∑ k, Ideal.exp (l k - lMax l)) + lMax l) = lsm l n := by
  obtain ⟨μ, hμ⟩ : IsReal (lMax l) := fold_real (by norm_num) l h
  unfold lsm
  choose r hr using h
  rw [max_eq_right (bot_le : ⊥ ≤ lMax l), hμ, zero_add]
  simp only [hr, ← EReal.coe_sub, Ideal.exp_coe, coe_sum]
  have hpos : 0 < ∑ k, Real.exp (r k - μ) := Finset.sum_pos (fun k _ => Real.exp_pos _) ⟨0, Finset.mem_univ _⟩
  rw [Ideal.log_coe, if_neg (not_le.2 hpos), ← EReal.coe_add, ← EReal.coe_sub, ← EReal.coe_sub]
  congr 1; ring

end Cert.Proof.Norm

end
-- ==== Proof.KernelFwd.lean ====
/-
  The kernel's forward pass: its hidden state, the normalized values of each time step, the pools' running maximum and sum, and
  the last layer with the logarithm of its softmax.
-/
module

public import proofs.«01_k».proof.Proof.KernelStep
public import proofs.«01_k».proof.Proof.TcFwdI
public import proofs.«01_k».proof.Proof.Norm

@[expose] public section

noncomputable section

namespace Cert.Proof.KernelIdealRun

open Cert.KernelIdeal Cert.KernelIdeal.Gen

open Idealize.ShloMosaic hiding ix1 ix2 ix3
open Idealize.ShloMosaic.ValueIdx
open Cert.Proof.Norm (IsReal addf_at subf_at mulf_at maximumf_at)

theorem lane_lt (j : Fin 80) : j.val < 128 := by omega

abbrev at128 (r : Fin 1024) (j : Fin 128) : S1024x128.Idx := ix2 (n0 := 1024) (n1 := 128) r j
abbrev at80 (r : Fin 1024) (j : Fin 80) : S1024x80.Idx := ix2 (n0 := 1024) (n1 := 80) r j
abbrev at15 (r : Fin 1024) (j : Fin 15) : S1024x15.Idx := ix2 (n0 := 1024) (n1 := 15) r j
abbrev at1 (r : Fin 1024) : S1024x1.Idx := ix2 (n0 := 1024) (n1 := 1) r 0
/-- A hidden value's column. -/
abbrev lane (j : Fin 80) : Fin 128 := ⟨j.val, lane_lt j⟩

/-! ## Rows -/

theorem col_apply (x : FVec Ideal S1024 .f32) (r : Fin 1024) : shapeCast S1024x1 x shapeCasts_S1024_S1024x1 (at1 r) = x (ix1 (n := 1024) r) := by
  refine shapeCast_apply _ _ _ _ ?_
  rw [Shape.rowMajor_val_two, Shape.rowMajor_val_one]
  show r.val = r.val * 1 + 0
  omega

theorem wide128 (x : FVec Ideal S1024x1 .f32) (r : Fin 1024) (j : Fin 128) : broadcastTo S1024x128 x broadcasts_S1024x1_S1024x128 (at128 r j) = x (at1 r) :=
  broadcastTo_apply _ _ _ _ (fun a => by
    match a with
    | ⟨0, _⟩ => rfl
    | ⟨1, _⟩ => rfl)
theorem wide80 (x : FVec Ideal S1024x1 .f32) (r : Fin 1024) (j : Fin 80) : broadcastTo S1024x80 x broadcasts_S1024x1_S1024x80 (at80 r j) = x (at1 r) :=
  broadcastTo_apply _ _ _ _ (fun a => by
    match a with
    | ⟨0, _⟩ => rfl
    | ⟨1, _⟩ => rfl)
theorem wide15 (x : FVec Ideal S1024x1 .f32) (r : Fin 1024) (j : Fin 15) : broadcastTo S1024x15 x broadcasts_S1024x1_S1024x15 (at15 r j) = x (at1 r) :=
  broadcastTo_apply _ _ _ _ (fun a => by
    match a with
    | ⟨0, _⟩ => rfl
    | ⟨1, _⟩ => rfl)

theorem rsum128 (x : FVec Ideal S1024x128 .f32) (r : Fin 1024) :
    multiReduction .add [1] S1024 x 0x00000000#32 reduces_S1024x128_S1024 (.inl rfl) rfl (ix1 (n := 1024) r) = ∑ k, x (at128 r k) := by
  refine (Ideal.multiReduction_add_single x _ _ _ _ _).trans (Finset.sum_congr rfl fun k _ => congrArg x (funext fun a => ?_))
  match a with
  | ⟨0, _⟩ => rfl
  | ⟨1, _⟩ => rfl
theorem rsum80 (x : FVec Ideal S1024x80 .f32) (r : Fin 1024) :
    multiReduction .add [1] S1024 x 0x00000000#32 reduces_S1024x80_S1024 (.inl rfl) rfl (ix1 (n := 1024) r) = ∑ k, x (at80 r k) := by
  refine (Ideal.multiReduction_add_single x _ _ _ _ _).trans (Finset.sum_congr rfl fun k _ => congrArg x (funext fun a => ?_))
  match a with
  | ⟨0, _⟩ => rfl
  | ⟨1, _⟩ => rfl
theorem rsum15 (x : FVec Ideal S1024x15 .f32) (r : Fin 1024) :
    multiReduction .add [1] S1024 x 0x00000000#32 reduces_S1024x15_S1024 (.inl rfl) rfl (ix1 (n := 1024) r) = ∑ k, x (at15 r k) := by
  refine (Ideal.multiReduction_add_single x _ _ _ _ _).trans (Finset.sum_congr rfl fun k _ => congrArg x (funext fun a => ?_))
  match a with
  | ⟨0, _⟩ => rfl
  | ⟨1, _⟩ => rfl

theorem fold_bot {n : ℕ} (f : Fin n → EReal) :
    Finset.univ.fold max (FloatOps.ofBits (F := Ideal) .f32 0xFF800000#32) f = Finset.univ.fold max ⊥ f := by
  rw [← Norm.bot_eq]
  rfl
theorem rmax15 (x : FVec Ideal S1024x15 .f32) (r : Fin 1024) (l : Fin 15 → EReal) (h : ∀ k, x (at15 r k) = l k) :
    multiReduction .maximumf [1] S1024 x 0xFF800000#32 reduces_S1024x15_S1024 (.inl rfl) rfl (ix1 (n := 1024) r) = Norm.lMax l := by
  refine (Ideal.multiReduction_maximumf_single x _ _ _ _ _).trans ((fold_bot (n := 15) _).trans (congrArg (Finset.univ.fold max ⊥) (funext fun k => (congrArg x (funext fun a => ?_)).trans (h k))))
  match a with
  | ⟨0, _⟩ => rfl
  | ⟨1, _⟩ => rfl

/-! ## The normalized values of a time step -/

theorem sum_halves (f : Fin 128 → EReal) (g : Fin 80 → EReal) (w : Fin 160 → EReal) (hf : ∀ j : Fin 80, f (lane j) = w ⟨j.val, Norm.lo_lt j⟩)
    (h0 : ∀ k : Fin 128, 80 ≤ k.val → f k = 0) (hg : ∀ j, g j = w ⟨80 + j.val, Norm.hi_lt j⟩) : ∑ k, f k + ∑ k, g k = ∑ k, w k := by
  rw [sum_pad 80 (by omega) f h0, Norm.sum_both]
  exact congrArg₂ (fun x y : EReal => x + y) (Finset.sum_congr rfl fun j _ => hf j) (Finset.sum_congr rfl fun j _ => hg j)

section Ln

variable (h : FVec Ideal S1024x128 .f32) (hb : FVec Ideal S1x1024x80 .f32) (r : Fin 1024) (u : Fin 160 → ℝ)
  (hl : ∀ j : Fin 80, h (at128 r (lane j)) = (u ⟨j.val, Norm.lo_lt j⟩ : EReal)) (h0 : ∀ k : Fin 128, 80 ≤ k.val → h (at128 r k) = 0)
  (hr : ∀ j : Fin 80, hb (ix3 (n0 := 1) (n1 := 1024) (n2 := 80) 0 r j) = (u ⟨80 + j.val, Norm.hi_lt j⟩ : EReal))

include hr in
theorem pay16_apply (j : Fin 80) : k2_pay16 (F := Ideal) hb (at80 r j) = (u ⟨80 + j.val, Norm.hi_lt j⟩ : EReal) := by
  refine Eq.trans ?_ (hr j)
  unfold k2_pay16
  refine shapeCast_apply _ _ _ _ ?_
  rw [Shape.rowMajor_val_two, Shape.rowMajor_val_three]
  show (0 * 1024 + r.val) * 80 + j.val = r.val * 80 + j.val
  omega

theorem inv_width_at (i : S1024x1.Idx) : broadcast S1024x1 (Named.named (F := Ideal) κ "inv_width" (φ := .f32) 0x3BCCCCCD#32) i = ((1 / 160 : ℝ) : EReal) := rfl

include hl h0 hr in
theorem pay17_apply : k2_pay17 (F := Ideal) h hb (at1 r) = ((∑ k, u k : ℝ) : EReal) * ((1 / 160 : ℝ) : EReal) := by
  unfold k2_pay17
  dsimp only
  rw [mulf_at, addf_at, col_apply, col_apply, rsum128, rsum80, inv_width_at,
    sum_halves _ _ (fun k => (u k : EReal)) hl h0 (pay16_apply hb r u hr), Norm.coe_sum]

include hl h0 hr in
theorem pay18_apply : k2_pay18 (F := Ideal) h hb (at1 r)
    = Ideal.rsqrt (((∑ k, u k * u k : ℝ) : EReal) * ((1 / 160 : ℝ) : EReal) - k2_pay17 (F := Ideal) h hb (at1 r) * k2_pay17 (F := Ideal) h hb (at1 r) + (Norm.eps : EReal)) := by
  unfold k2_pay18
  dsimp only
  rw [Norm.rsqrt_at, addf_at, subf_at, mulf_at, mulf_at, addf_at, col_apply, col_apply, rsum128, rsum80, inv_width_at, Norm.splat_at, Norm.eps_val,
    sum_halves _ _ (fun k => ((u k * u k : ℝ) : EReal)) (fun j => ?_) (fun k hk => ?_) (fun j => ?_), Norm.coe_sum]
  · rw [mulf_at, hl, EReal.coe_mul]
  · rw [mulf_at, h0 k hk, mul_zero]
  · rw [mulf_at, pay16_apply hb r u hr, EReal.coe_mul]

include hl h0 hr in
theorem pay19_apply (j : Fin 80) : k2_pay19 (F := Ideal) h hb (at128 r (lane j)) = (Norm.rLn u Norm.eps ⟨j.val, Norm.lo_lt j⟩ : EReal) := by
  unfold k2_pay19
  rw [mulf_at, subf_at, wide128, wide128]
  exact Norm.ker_ln u _ Norm.eps_pos _ _ rfl rfl _ _ (pay17_apply h hb r u hl h0 hr) (pay18_apply h hb r u hl h0 hr) _ _ (hl j)

include hl h0 hr in
theorem pay20_apply (j : Fin 80) : k2_pay20 (F := Ideal) h hb (at80 r j) = (Norm.rLn u Norm.eps ⟨80 + j.val, Norm.hi_lt j⟩ : EReal) := by
  unfold k2_pay20
  rw [mulf_at, subf_at, wide80, wide80]
  exact Norm.ker_ln u _ Norm.eps_pos _ _ rfl rfl _ _ (pay17_apply h hb r u hl h0 hr) (pay18_apply h hb r u hl h0 hr) _ _ (pay16_apply hb r u hr j)

end Ln

/-! ## The last layer and the logarithm of its softmax -/

theorem lsm_apply (l : FVec Ideal S1024x15 .f32) (r : Fin 1024) (lr : Fin 15 → EReal) (h : ∀ n, l (at15 r n) = lr n) (hreal : ∀ n, IsReal (lr n)) (n : Fin 15) :
    subf l (broadcastTo S1024x15 (addf (log (shapeCast S1024x1 (multiReduction .add [1] S1024 (exp (subf l (broadcastTo S1024x15 (shapeCast S1024x1 (multiReduction .maximumf [1] S1024 l 0xFF800000#32 reduces_S1024x15_S1024 (.inl rfl) rfl) shapeCasts_S1024_S1024x1) broadcasts_S1024x1_S1024x15)))
        0x00000000#32 reduces_S1024x15_S1024 (.inl rfl) rfl) shapeCasts_S1024_S1024x1))
      (shapeCast S1024x1 (multiReduction .maximumf [1] S1024 l 0xFF800000#32 reduces_S1024x15_S1024 (.inl rfl) rfl) shapeCasts_S1024_S1024x1)) broadcasts_S1024x1_S1024x15) (at15 r n)
      = Norm.lsm lr n := by
  rw [← Norm.lsm_eq lr hreal n, subf_at, wide15, addf_at, Norm.log_at, col_apply, col_apply, rsum15, rmax15 l r lr h, h]
  refine congrArg (fun x : EReal => lr n - (Ideal.log x + Norm.lMax lr)) (Finset.sum_congr rfl fun k _ => ?_)
  rw [Norm.exp_at, subf_at, wide15, col_apply, rmax15 l r lr h, h]

theorem dotU : dot_S1024x128_S128x15_S1024x15_1_0_0_1_n_n = DotDims.plain 1024 128 15 := rfl
theorem dotD : dot_S1024x80_S80x15_S1024x15_1_0_0_1_n_n = DotDims.plain 1024 80 15 := rfl
theorem half_inv_len_at {s : Shape} (i : s.Idx) : broadcast s (Named.named (F := Ideal) κ "half_inv_len" (φ := .f32) 0x3B23D70A#32) i = ((1 / 400 : ℝ) : EReal) := rfl

/-- The result at an entry, of the pools' maxima and sums. -/
theorem pay4_apply (mx sm : FVec Ideal S1024x128 .f32) (mxb smb : FVec Ideal S1024x80 .f32) (w : FVec Ideal S15x160 .f32) (v : FVec Ideal S15 .f32) (r : Fin 1024)
    (a : Fin 160 → Fin 200 → EReal) (ha : ∀ k t, IsReal (a k t))
    (hmx : ∀ j, mx (at128 r (lane j)) = Norm.pMax (a ⟨j.val, Norm.lo_lt j⟩)) (hsm : ∀ j, sm (at128 r (lane j)) = ∑ t, a ⟨j.val, Norm.lo_lt j⟩ t)
    (hmxb : ∀ j, mxb (at80 r j) = Norm.pMax (a ⟨80 + j.val, Norm.hi_lt j⟩)) (hsmb : ∀ j, smb (at80 r j) = ∑ t, a ⟨80 + j.val, Norm.hi_lt j⟩ t)
    (hw : ∀ n k, IsReal (w (ix2 (n0 := 15) (n1 := 160) n k))) (hv : ∀ n, IsReal (v (ix1 (n := 15) n))) (n : Fin 15) :
    k2_pay4 (F := Ideal) mx sm mxb smb (layU w) (layD w) (layV v) (at15 r n)
      = Norm.lsm (Norm.logit (fun k => Norm.pool (a k)) (fun n k => w (ix2 (n0 := 15) (n1 := 160) n k)) (fun n => v (ix1 (n := 15) n))) n := by
  refine lsm_apply _ r _ (fun n => ?_) (Norm.logit_real _ _ _ (fun k => Norm.pool_real _ (ha k)) hw hv) n
  rw [addf_at, addf_at]
  unfold Norm.logit
  refine congrArg₂ (fun x y : EReal => x + y) ?_ ?_
  · rw [cast_apply, cast_apply, matmul_zero_eq_dotGeneral, matmul_zero_eq_dotGeneral, dotU, dotD]
    refine (congrArg₂ (fun x y : EReal => x + y) (StackMember.dotGeneral_plain_apply none _ _ r n) (StackMember.dotGeneral_plain_apply none _ _ r n)).trans ?_
    refine sum_halves _ _ _ (fun j => ?_) (fun k hk => ?_) (fun j => ?_)
    · refine congrArg₂ (fun x y : EReal => x * y) ?_ ((layU_apply w (lane j) n).trans (dif_pos j.isLt))
      rw [addf_at, mulf_at, mulf_at, Norm.splat_at, half_inv_len_at, Norm.half_eq, hmx, hsm]
      exact Norm.pool_eq _ (ha _)
    · rw [layU_apply, dif_neg (by omega)]
      exact (congrArg (_ * ·) Ideal.ofBits_zero_f32).trans (mul_zero _)
    · refine congrArg₂ (fun x y : EReal => x * y) ?_ (layD_apply w j n)
      rw [addf_at, mulf_at, mulf_at, Norm.splat_at, half_inv_len_at, Norm.half_eq, hmxb, hsmb]
      exact Norm.pool_eq _ (ha _)
  · rw [cast_apply, broadcastTo_apply _ _ _ (ix2 (n0 := 1) (n1 := 15) 0 n) (fun a => by
      match a with
      | ⟨0, _⟩ => rfl
      | ⟨1, _⟩ => rfl), layV_apply]

/-! ## The forward pass -/

theorem pay14_eq (e : FVec Ideal S1x1024x128 .f32) (h c : FVec Ideal S1024x128 .f32) (u v : FVec Ideal S128x512 .f32) (w : FVec Ideal S1x512 .f32) :
    k2_pay14 (F := Ideal) e h c u v w = k1_pay8 (F := Ideal) e h c u v w := rfl
theorem pay15_eq (e : FVec Ideal S1x1024x128 .f32) (h c : FVec Ideal S1024x128 .f32) (u v : FVec Ideal S128x512 .f32) (w : FVec Ideal S1x512 .f32) :
    k2_pay15 (F := Ideal) (k2_pay12 (F := Ideal) e h c u v w) = k1_pay1 (F := Ideal) (k1_pay6 (F := Ideal) e h c u v w) := rfl
theorem pay13_eq (e : FVec Ideal S1x1024x128 .f32) (h c : FVec Ideal S1024x128 .f32) (u v : FVec Ideal S128x512 .f32) (w : FVec Ideal S1x512 .f32) :
    k2_pay13 (F := Ideal) e h c u v w = k1_pay8 (F := Ideal) e h c u v w :=
  Eq.trans (b := k1_pay7 (F := Ideal) e h c u v w) rfl (pay8_eq e h c u v w).symm

section Forward

variable (X : S200x1024x128.Idx → EReal) (H : S200x1024x80.Idx → EReal) (wih : FVec Ideal S320x64 .f32) (whh : FVec Ideal S320x80 .f32) (bih bhh : FVec Ideal S320 .f32)

abbrev fs (n : ℕ) : FS Ideal := fstate (F := Ideal) X H (layIh wih) (layHh whh) (layB bih bhh) n
abbrev rc (n : ℕ) : FVec Ideal S1024x128 .f32 × FVec Ideal S1024x128 .f32 := recur (F := Ideal) (xFwd (F := Ideal) X) (layIh wih) (layHh whh) (layB bih bhh) n

/-- Its recurrence is the backward pass's. -/
theorem fs_rc : ∀ n, (fs X H wih whh bih bhh n).h = (rc X wih whh bih bhh n).1 ∧ (fs X H wih whh bih bhh n).c = (rc X wih whh bih bhh n).2
  | 0 => ⟨rfl, rfl⟩
  | n + 1 => by
    obtain ⟨e1, e2⟩ := fs_rc n
    constructor
    · show k2_pay14 (F := Ideal) (xFwd (F := Ideal) X n) (fs X H wih whh bih bhh n).h (fs X H wih whh bih bhh n).c (layIh wih) (layHh whh) (layB bih bhh) = _
      rw [pay14_eq, e1, e2]
      rfl
    · show k2_pay15 (F := Ideal) (k2_pay12 (F := Ideal) (xFwd (F := Ideal) X n) (fs X H wih whh bih bhh n).h (fs X H wih whh bih bhh n).c (layIh wih) (layHh whh) (layB bih bhh)) = _
      rw [pay15_eq, e1, e2]
      rfl

theorem newH_rc (n : ℕ) : newH (F := Ideal) (xFwd (F := Ideal) X n) (layIh wih) (layHh whh) (layB bih bhh) (fs X H wih whh bih bhh n) = (rc X wih whh bih bhh (n + 1)).1 := by
  obtain ⟨e1, e2⟩ := fs_rc X H wih whh bih bhh n
  show k2_pay13 (F := Ideal) (xFwd (F := Ideal) X n) (fs X H wih whh bih bhh n).h (fs X H wih whh bih bhh n).c (layIh wih) (layHh whh) (layB bih bhh) = _
  rw [pay13_eq, e1, e2]
  rfl

variable (r : Fin 1024) (E : ℕ → Fin 64 → EReal)
  (hX : ∀ (n : ℕ) (k : Fin 64), xFwd (F := Ideal) X n (ix3 (n0 := 1) (n1 := 1024) (n2 := 128) 0 r ⟨k.val, wide_lt k⟩) = E n k)
  (u : Fin 200 → Fin 160 → ℝ)
  (hu : ∀ t k, Norm.both (fun j => (Lstm.st (RefStep.par wih whh bih bhh) E (t.val + 1)).1 j) (fun j => H (ix3 (n0 := 200) (n1 := 1024) (n2 := 80) t r j)) k = (u t k : EReal))

include hX hu in
theorem point_lo (t : Fin 200) (j : Fin 80) : (rc X wih whh bih bhh (t.val + 1)).1 (at128 r (lane j)) = (u t ⟨j.val, Norm.lo_lt j⟩ : EReal) :=
  ((recur_apply wih whh bih bhh _ r E hX (t.val + 1) (lane j)).1.trans (dif_pos j.isLt)).trans ((Norm.both_lo _ _ j).symm.trans (hu t _))

include hX in
theorem point_zero (n : ℕ) (k : Fin 128) (hk : 80 ≤ k.val) : (rc X wih whh bih bhh n).1 (at128 r k) = 0 :=
  (recur_apply wih whh bih bhh _ r E hX n k).1.trans (dif_neg (by omega))

include hu in
theorem point_hi (t : Fin 200) (j : Fin 80) : hbAt (F := Ideal) H t.val (ix3 (n0 := 1) (n1 := 1024) (n2 := 80) 0 r j) = (u t ⟨80 + j.val, Norm.hi_lt j⟩ : EReal) := by
  refine Eq.trans ?_ ((Norm.both_hi (fun j => (Lstm.st (RefStep.par wih whh bih bhh) E (t.val + 1)).1 j) (fun j => H (ix3 (n0 := 200) (n1 := 1024) (n2 := 80) t r j)) j).symm.trans (hu t _))
  exact congrArg (fun t' => H (ix3 (n0 := 200) (n1 := 1024) (n2 := 80) t' r j)) (Fin.ext (Nat.mod_eq_of_lt t.isLt))

/-- The normalized values that point `n` adds to the pools. -/
abbrev lnLo (n : ℕ) : FVec Ideal S1024x128 .f32 := k2_pay19 (F := Ideal) (rc X wih whh bih bhh (n + 1)).1 (hbAt (F := Ideal) H n)
abbrev lnHi (n : ℕ) : FVec Ideal S1024x80 .f32 := k2_pay20 (F := Ideal) (rc X wih whh bih bhh (n + 1)).1 (hbAt (F := Ideal) H n)

theorem mx_succ (n : ℕ) : (fs X H wih whh bih bhh (n + 1)).mx = maximumf (fs X H wih whh bih bhh n).mx (lnLo X H wih whh bih bhh n) := by
  show k2_pay21 (F := Ideal) (newH (F := Ideal) (xFwd (F := Ideal) X n) (layIh wih) (layHh whh) (layB bih bhh) (fs X H wih whh bih bhh n)) (hbAt (F := Ideal) H n) (fs X H wih whh bih bhh n).mx = _
  rw [newH_rc]
  unfold k2_pay21
  exact cast_apply _ _
theorem sm_succ (n : ℕ) : (fs X H wih whh bih bhh (n + 1)).sm = addf (fs X H wih whh bih bhh n).sm (lnLo X H wih whh bih bhh n) := by
  show k2_pay1 (F := Ideal) (k2_pay22 (F := Ideal) (newH (F := Ideal) (xFwd (F := Ideal) X n) (layIh wih) (layHh whh) (layB bih bhh) (fs X H wih whh bih bhh n)) (hbAt (F := Ideal) H n) (fs X H wih whh bih bhh n).sm) = _
  rw [newH_rc]
  unfold k2_pay1
  exact cast_apply _ _
theorem mxb_succ (n : ℕ) : (fs X H wih whh bih bhh (n + 1)).mxb = maximumf (fs X H wih whh bih bhh n).mxb (lnHi X H wih whh bih bhh n) := by
  show k2_pay2 (F := Ideal) (k2_pay20 (F := Ideal) (newH (F := Ideal) (xFwd (F := Ideal) X n) (layIh wih) (layHh whh) (layB bih bhh) (fs X H wih whh bih bhh n)) (hbAt (F := Ideal) H n)) (fs X H wih whh bih bhh n).mxb = _
  rw [newH_rc]
  unfold k2_pay2
  exact cast_apply _ _
theorem smb_succ (n : ℕ) : (fs X H wih whh bih bhh (n + 1)).smb = addf (fs X H wih whh bih bhh n).smb (lnHi X H wih whh bih bhh n) := by
  show k2_pay3 (F := Ideal) (k2_pay20 (F := Ideal) (newH (F := Ideal) (xFwd (F := Ideal) X n) (layIh wih) (layHh whh) (layB bih bhh) (fs X H wih whh bih bhh n)) (hbAt (F := Ideal) H n)) (fs X H wih whh bih bhh n).smb = _
  rw [newH_rc]
  unfold k2_pay3
  exact cast_apply _ _

theorem mx_zero (i : S1024x128.Idx) : (fs X H wih whh bih bhh 0).mx i = ⊥ := by
  show k2_pay7 (F := Ideal) i = ⊥
  unfold k2_pay7
  rw [cast_apply, Norm.splat_at, Norm.bot_eq]
theorem sm_zero (i : S1024x128.Idx) : (fs X H wih whh bih bhh 0).sm i = 0 := by
  show k2_pay8 (F := Ideal) i = 0
  unfold k2_pay8
  rw [cast_apply, Norm.splat_at, Ideal.ofBits_zero_f32]
theorem mxb_zero (i : S1024x80.Idx) : (fs X H wih whh bih bhh 0).mxb i = ⊥ := by
  show k2_pay9 (F := Ideal) i = ⊥
  unfold k2_pay9
  rw [cast_apply, Norm.splat_at, Norm.bot_eq]
theorem smb_zero (i : S1024x80.Idx) : (fs X H wih whh bih bhh 0).smb i = 0 := by
  show k2_pay10 (F := Ideal) i = 0
  unfold k2_pay10
  rw [cast_apply, Norm.splat_at, Ideal.ofBits_zero_f32]

/-- Column `k`'s normalized values over time. -/
abbrev lnT (k : Fin 160) (t : Fin 200) : EReal := (Norm.rLn (u t) Norm.eps k : EReal)

include hX hu in
theorem lo_eq (t : Fin 200) (j : Fin 80) : lnLo X H wih whh bih bhh t.val (at128 r (lane j)) = lnT u ⟨j.val, Norm.lo_lt j⟩ t :=
  pay19_apply _ _ r (u t) (point_lo X H wih whh bih bhh r E hX u hu t) (point_zero X wih whh bih bhh r E hX _) (point_hi H wih whh bih bhh r E u hu t) j
include hX hu in
theorem hi_eq (t : Fin 200) (j : Fin 80) : lnHi X H wih whh bih bhh t.val (at80 r j) = lnT u ⟨80 + j.val, Norm.hi_lt j⟩ t :=
  pay20_apply _ _ r (u t) (point_lo X H wih whh bih bhh r E hX u hu t) (point_zero X wih whh bih bhh r E hX _) (point_hi H wih whh bih bhh r E u hu t) j

include hX hu in
/-- The result, at an entry. -/
theorem fresult_apply (w : FVec Ideal S15x160 .f32) (v : FVec Ideal S15 .f32)
    (hw : ∀ n k, IsReal (w (ix2 (n0 := 15) (n1 := 160) n k))) (hv : ∀ n, IsReal (v (ix1 (n := 15) n))) (n : Fin 15) :
    fresult (F := Ideal) X H (layIh wih) (layHh whh) (layB bih bhh) (layU w) (layD w) (layV v) (at15 r n)
      = Norm.lsm (Norm.logit (fun k => Norm.pool (lnT u k)) (fun n k => w (ix2 (n0 := 15) (n1 := 160) n k)) (fun n => v (ix1 (n := 15) n))) n := by
  show k2_pay4 (F := Ideal) (fs X H wih whh bih bhh 200).mx (fs X H wih whh bih bhh 200).sm (fs X H wih whh bih bhh 200).mxb (fs X H wih whh bih bhh 200).smb (layU w) (layD w) (layV v) (at15 r n) = _
  refine pay4_apply _ _ _ _ w v r (lnT u) (fun _ _ => ⟨_, rfl⟩) (fun j => ?_) (fun j => ?_) (fun j => ?_) (fun j => ?_) hw hv n
  · exact Norm.run_max _ _ (fun t => lo_eq X H wih whh bih bhh r E hX u hu t j) (fun n => (fs X H wih whh bih bhh n).mx (at128 r (lane j))) (mx_zero X H wih whh bih bhh _)
      fun n _ => by
        rw [mx_succ]
        exact maximumf_at _ _ _
  · exact Norm.run_sum _ _ (fun t => lo_eq X H wih whh bih bhh r E hX u hu t j) (fun n => (fs X H wih whh bih bhh n).sm (at128 r (lane j))) (sm_zero X H wih whh bih bhh _)
      fun n _ => by
        rw [sm_succ]
        exact addf_at _ _ _
  · exact Norm.run_max _ _ (fun t => hi_eq X H wih whh bih bhh r E hX u hu t j) (fun n => (fs X H wih whh bih bhh n).mxb (at80 r j)) (mxb_zero X H wih whh bih bhh _)
      fun n _ => by
        rw [mxb_succ]
        exact maximumf_at _ _ _
  · exact Norm.run_sum _ _ (fun t => hi_eq X H wih whh bih bhh r E hX u hu t j) (fun n => (fs X H wih whh bih bhh n).smb (at80 r j)) (smb_zero X H wih whh bih bhh _)
      fun n _ => by
        rw [smb_succ]
        exact addf_at _ _ _

end Forward

end Cert.Proof.KernelIdealRun

end
-- ==== Proof.RefPost.lean ====
/-
  The reference's run: its loop's carried arrays after 200 trips, and what the operations after the loop make of them: layer
  normalization, the two pools over time, the last layer and the logarithm of its softmax.
-/
module

public import proofs.«01_k».proof.Proof.RefStep

@[expose] public section

set_option maxRecDepth 4096

noncomputable section

namespace Cert.Proof.RefPost

open Idealize.ShloMosaic Idealize.ShloMosaic.TcCoe
open Cert.ReferenceIdeal Cert.ReferenceIdeal.Gen Cert.ReferenceIdeal.Value
open Idealize.SL Idealize.SL.Sem
open Idealize.ShloMosaic.StableHlo

variable {F : FTy → Type} [FloatOps F]

/-! ## After the loop -/

/-- The hidden values of the two directions, by row of the batch and time step. -/
def catT (a b : FVec F S200x1024x80 .f32) : FVec F S1024x200x160 .f32 :=
  transpose S1024x200x160 [1, 0, 2] (concatenate S200x1024x160 2 [⟨S200x1024x80, a⟩, ⟨S200x1024x80, (Host.reverse [0] b)⟩] concatenates_S200x1024x80_S200x1024x80_S200x1024x160_d2) transposes_S200x1024x160_S1024x200x160_1_0_2

/-- Each time step's mean. -/
def muT (o : FVec F S1024x200x160 .f32) : FVec F S1024x200x1 .f32 :=
  Host.divf (broadcastInDim S1024x200x1 ![0, 1] bcast_S1024x200_S1024x200x1_0_1 (Host.reduceAdd o (constant S_ .f32 0x00000000#32) reducesTo_S1024x200x160_S1024x200_d2 h_S_)) (broadcastInDim S1024x200x1 ![] bcast_S_S1024x200x1 (constant S_ .f32 0x43200000#32))

/-- The deviations from the mean. -/
def devT (o : FVec F S1024x200x160 .f32) : FVec F S1024x200x160 .f32 :=
  subf o (broadcastInDim S1024x200x160 ![0, 1, 2] bcast_S1024x200x1_S1024x200x160_0_1_2 (muT o))

/-- The normalized values. -/
def lnT (o : FVec F S1024x200x160 .f32) : FVec F S1024x200x160 .f32 :=
  Host.divf (devT o) (broadcastInDim S1024x200x160 ![0, 1, 2] bcast_S1024x200x1_S1024x200x160_0_1_2 (Host.sqrt (addf (Host.divf (broadcastInDim S1024x200x1 ![0, 1] bcast_S1024x200_S1024x200x1_0_1 (Host.reduceAdd (mulf (devT o) (devT o)) (constant S_ .f32 0x00000000#32) reducesTo_S1024x200x160_S1024x200_d2 h_S_)) (broadcastInDim S1024x200x1 ![] bcast_S_S1024x200x1 (constant S_ .f32 0x43200000#32))) (broadcastInDim S1024x200x1 ![] bcast_S_S1024x200x1 (constant S_ .f32 0x3727C5AC#32)))))

/-- The two pools over time, each with weight one half. -/
def poolT (ln : FVec F S1024x200x160 .f32) : FVec F S1024x160 .f32 :=
  addf (mulf (broadcastInDim S1024x160 ![] bcast_S_S1024x160 (constant S_ .f32 0x3F000000#32)) (Host.reduce FloatOps.maximumf ln (constant S_ .f32 0xFF800000#32) reducesTo_S1024x200x160_S1024x160_d1 h_S_)) (mulf (broadcastInDim S1024x160 ![] bcast_S_S1024x160 (constant S_ .f32 0x3F000000#32)) (Host.divf (Host.reduceAdd ln (constant S_ .f32 0x00000000#32) reducesTo_S1024x200x160_S1024x160_d1 h_S_) (broadcastInDim S1024x160 ![] bcast_S_S1024x160 (constant S_ .f32 0x43480000#32))))

/-- The logits. -/
def logitsT (z : FVec F S1024x160 .f32) (w : FVec F S160x15 .f32) (v : FVec F S15 .f32) : FVec F S1024x15 .f32 :=
  addf (Host.dotGeneral dot_S1024x160_S160x15_S1024x15_1_0_0_1_n_n none z w) (broadcastInDim S1024x15 ![0, 1] bcast_S1x15_S1024x15_0_1 (broadcastInDim S1x15 ![1] bcast_S15_S1x15_1 v))

/-- The logits less their maximum. -/
def shiftT (l : FVec F S1024x15 .f32) : FVec F S1024x15 .f32 :=
  subf l (broadcastInDim S1024x15 ![0, 1] bcast_S1024x1_S1024x15_0_1 (broadcastInDim S1024x1 ![0] bcast_S1024_S1024x1_0 (maximumf (broadcastInDim S1024 ![] bcast_S_S1024 (constant S_ .f32 0xFF800000#32)) (Host.reduce FloatOps.maximumf l (constant S_ .f32 0xFF800000#32) reducesTo_S1024x15_S1024_d1 h_S_))))

/-- The logarithm of the softmax. -/
def lsmT (s : FVec F S1024x15 .f32) : FVec F S1024x15 .f32 :=
  subf s (broadcastInDim S1024x15 ![0, 1] bcast_S1024x1_S1024x15_0_1 (Host.log (broadcastInDim S1024x1 ![0] bcast_S1024_S1024x1_0 (Host.reduceAdd (Host.exp s) (constant S_ .f32 0x00000000#32) reducesTo_S1024x15_S1024_d1 h_S_))))

/-- What the operations after the loop make. -/
def postT (a b : FVec F S200x1024x80 .f32) (w : FVec F S160x15 .f32) (v : FVec F S15 .f32) : FVec F S1024x15 .f32 :=
  lsmT (shiftT (logitsT (poolT (lnT (catT a b))) w v))

set_option maxRecDepth 100000 in
set_option maxHeartbeats 2000000 in
theorem post_result (V0 : Valuation τ sig (Elt F)) : afterL postI V0 (no_index (Proc.devRef .tc main_v42))
    = postT (V0 (Proc.devRef .tc main_v7_15)) (V0 (Proc.devRef .tc main_v7_16)) (V0 (Proc.devRef .tc main_v0)) (V0 (Proc.devRef .tc main_arg11)) := by
  unfold postT lsmT shiftT logitsT poolT lnT devT muT catT
  simp only [postI, afterL_cons, afterL_nil, hostOps0_3, hostOps0_4]
  after_results_entrywise []

/-! ## What nothing writes -/

abbrev postW3 : List (Ref sig .tc) := [main_v8, main_v9, main_v10, main_cst_2, main_v11, main_v12, main_cst_3, main_v13, main_v14, main_v15, main_v16, main_v17, main_cst_4, main_v18, main_v19, main_cst_5, main_v20, main_v21, main_v22, main_v23, main_cst_6, main_v24, main_v25, main_v26, main_v27, main_v28, main_cst_7, main_v29, main_cst_8, main_v30, main_cst_9, main_v31, main_v32, main_cst_10, main_v33, main_v34, main_cst_11, main_v35, main_v36, main_v37, main_v38, main_v39, main_v40, main_v41]
theorem post3_writes : (hostOps0_3 : List (HloOp τ sig (Elt F))).Forall fun op => op.writes ⊆ (postW3.map (Proc.devRef (τ := τ) .tc)).toFinset :=
  StableHlo.forall_writes_sub_of_map rfl
abbrev postW4 : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v42]
theorem post4_writes : (hostOps0_4 : List (HloOp τ sig (Elt F))).Forall fun op => op.writes ⊆ (postW4.map (Proc.devRef (τ := τ) .tc)).toFinset :=
  StableHlo.forall_writes_sub_of_map rfl

abbrev args : List (Ref sig .tc) := [main_arg0, main_arg1, main_arg2, main_arg3, main_arg4, main_arg5, main_arg6, main_arg7, main_arg8, main_arg9, main_arg10, main_arg11]

/-- What the loop and the operations between the first one and the loop do not write. -/
abbrev kept : List (Ref sig .tc) := main_v0 :: args

variable (m : (ℓ : Loc nD τ sig) → Buf (Elt F) ℓ) (c : Dev nD)

abbrev notW (W : List (Ref sig .tc)) : Prop := ∀ r ∈ kept, r ∉ W

theorem nw_c : notW condOps_W := by decide +kernel
theorem nw_0 : notW while0Ops0_W := by decide +kernel
theorem nw_1 : notW while0Ops0_1_W := by decide +kernel
theorem nw_2 : notW while0Ops0_2_W := by decide +kernel
theorem nw_3 : notW while0Ops0_3_W := by decide +kernel
theorem nw_4 : notW while0Ops0_4_W := by decide +kernel
theorem nw_5 : notW while0Ops0_5_W := by decide +kernel
theorem nw_p1 : notW hostOps0_1_W := by decide +kernel
theorem nw_p2 : notW hostOps0_2_W := by decide +kernel
theorem nw_p3 : notW postW3 := by decide +kernel
theorem nw_p4 : notW postW4 := by decide +kernel
theorem args_p0 : ∀ r ∈ args, r ∉ hostOps0_W := by decide +kernel

theorem atK_kept (r : Ref sig .tc) (hr : r ∈ kept) : ∀ k, atK m k c (Proc.devRef .tc r) = after hostOps0 (launchContents m c) (Proc.devRef .tc r)
  | 0 => by
    rw [show atK m 0 c = entryContents preI m c from rfl]
    simp only [entryContents, afterL_cons, afterL_nil]
    rw [after_of_writes_sub hostOps0_2 _ hostOps0_2_writes (nw_p2 r hr), after_of_writes_sub hostOps0_1 _ hostOps0_1_writes (nw_p1 r hr)]
  | k + 1 => by
    rw [show atK m (k + 1) c = afterL bodyI (after condOps (atK m k c)) from rfl]
    simp only [afterL_cons, afterL_nil]
    rw [after_of_writes_sub while0Ops0_5 _ while0Ops0_5_writes (nw_5 r hr), after_of_writes_sub while0Ops0_4 _ while0Ops0_4_writes (nw_4 r hr),
      after_of_writes_sub while0Ops0_3 _ while0Ops0_3_writes (nw_3 r hr), after_of_writes_sub while0Ops0_2 _ while0Ops0_2_writes (nw_2 r hr),
      after_of_writes_sub while0Ops0_1 _ while0Ops0_1_writes (nw_1 r hr), after_of_writes_sub while0Ops0 _ while0Ops0_writes (nw_0 r hr),
      after_of_writes_sub condOps _ condOps_writes (nw_c r hr), atK_kept r hr k]

theorem atK_arg (r : Ref sig .tc) (hr : r ∈ args) (k : ℕ) : atK m k c (Proc.devRef .tc r) = m ((c.tc : Thread nD τ).loc r) :=
  (atK_kept m c r (List.mem_cons_of_mem _ hr) k).trans (after_of_writes_sub hostOps0 _ hostOps0_writes (args_p0 r hr))

theorem atK_fcT (k : ℕ) : atK m k c (Proc.devRef .tc main_v0) = transpose S160x15 [1, 0] (m ((c.tc : Thread nD τ).loc main_arg10)) transposes_S15x160_S160x15_1_0 :=
  (atK_kept m c main_v0 (List.mem_cons_self ..) k).trans (by after_reads_simp)

theorem final_arg (r : Ref sig .tc) (hr : r ∈ args) :
    finalContents condOps preI bodyI postI 200 m c (Proc.devRef .tc r) = m ((c.tc : Thread nD τ).loc r) := by
  refine Eq.trans ?_ (atK_arg m c r hr 200)
  show afterL postI (after condOps (atK m 200 c)) (Proc.devRef .tc r) = _
  simp only [afterL_cons, afterL_nil]
  have hk := List.mem_cons_of_mem main_v0 hr
  rw [after_of_writes_sub hostOps0_4 _ post4_writes (nw_p4 r hk), after_of_writes_sub hostOps0_3 _ post3_writes (nw_p3 r hk), after_of_writes_sub condOps _ condOps_writes (nw_c r hk)]

theorem final_result : finalContents condOps preI bodyI postI 200 m c (Proc.devRef .tc main_v42)
    = postT ((STEP^[200] (entryContents preI m c)) (Proc.devRef .tc main_v7_15)) ((STEP^[200] (entryContents preI m c)) (Proc.devRef .tc main_v7_16))
        (transpose S160x15 [1, 0] (m ((c.tc : Thread nD τ).loc main_arg10)) transposes_S15x160_S160x15_1_0) (m ((c.tc : Thread nD τ).loc main_arg11)) := by
  refine (post_result (after condOps (atK m 200 c))).trans ?_
  rw [cond_keeps _ main_v7_15 (by decide), cond_keeps _ main_v7_16 (by decide), atK_agree m c 200 main_v7_15 (by decide), atK_agree m c 200 main_v7_16 (by decide),
    after_of_writes_sub condOps _ condOps_writes (nw_c main_v0 (by decide)), after_of_writes_sub condOps _ condOps_writes (nw_c main_arg11 (by decide)),
    atK_fcT, atK_arg m c main_arg11 (by decide)]

/-- The run: the result, and every argument unchanged. -/
theorem run (ρ : Dev nD → PrngReg) : θ_run (defs (F := F)) (onTc (τ := τ) (main (F := F))) ⟨m, fun _ => 0, ρ⟩ fun r => ∀ c : Dev nD,
    r.2.mem ((c.tc : Thread nD τ).loc main_v42)
      = postT ((STEP^[200] (entryContents preI m c)) (Proc.devRef .tc main_v7_15)) ((STEP^[200] (entryContents preI m c)) (Proc.devRef .tc main_v7_16))
        (transpose S160x15 [1, 0] (m ((c.tc : Thread nD τ).loc main_arg10)) transposes_S15x160_S160x15_1_0) (m ((c.tc : Thread nD τ).loc main_arg11))
    ∧ ∀ a ∈ args, r.2.mem ((c.tc : Thread nD τ).loc a) = m ((c.tc : Thread nD τ).loc a) :=
  (θ_run defs _ _).mono (fun _ h c => ⟨(h c main_v42 rfl).trans (final_result m c), fun a ha => (h c a ((by decide : ∀ r ∈ args, (Proc.devRef .tc r : DevRef τ sig).isScoped = false) a ha)).trans (final_arg m c a ha)⟩) (run_fold m ρ)

end Cert.Proof.RefPost

end
-- ==== Proof.RefValue.lean ====
/-
  What the reference's operations after the loop make at an entry.
-/
module

public import proofs.«01_k».proof.Proof.RefPost
public import proofs.«01_k».proof.Proof.Norm
public import Idealize.ShloMosaic.Lib.IdealHost

@[expose] public section

noncomputable section

namespace Cert.Proof.RefPost

open Idealize.ShloMosaic hiding ix1 ix2 ix3
open Idealize.ShloMosaic.ValueIdx
open Cert.ReferenceIdeal Cert.ReferenceIdeal.Gen
open Cert.Proof.Norm (IsReal)

abbrev i3 (r : Fin 1024) (t : Fin 200) (k : Fin 160) : S1024x200x160.Idx := ix3 (n0 := 1024) (n1 := 200) (n2 := 160) r t k

theorem back_lt (t : Fin 200) : 199 - t.val < 200 := by omega

theorem catT_apply (a b : FVec Ideal S200x1024x80 .f32) (r : Fin 1024) (t : Fin 200) (k : Fin 160) :
    catT a b (i3 r t k) = Norm.both (fun j => a (ix3 (n0 := 200) (n1 := 1024) (n2 := 80) t r j)) (fun j => b (ix3 (n0 := 200) (n1 := 1024) (n2 := 80) ⟨199 - t.val, back_lt t⟩ r j)) k := by
  unfold catT
  refine (transpose_apply _ _ _ _ (ix3 (n0 := 200) (n1 := 1024) (n2 := 160) t r k) (fun b => by
    match b with
    | ⟨0, _⟩ => rfl
    | ⟨1, _⟩ => rfl
    | ⟨2, _⟩ => rfl)).trans ?_
  unfold Norm.both
  by_cases h : k.val < 80
  · rw [dif_pos h]
    refine concatenate_pair_apply_left (t := S200x1024x160) (s₁ := S200x1024x80) (s₂ := S200x1024x80) 2 _ _ _ _ rfl (ix3 (n0 := 200) (n1 := 1024) (n2 := 80) t r ⟨k.val, h⟩) fun b => ?_
    match b with
    | ⟨0, _⟩ => rfl
    | ⟨1, _⟩ => rfl
    | ⟨2, _⟩ => rfl
  · rw [dif_neg h]
    refine (concatenate_pair_apply_right (t := S200x1024x160) (s₁ := S200x1024x80) (s₂ := S200x1024x80) 2 _ _ _ _ rfl rfl (ix3 (n0 := 200) (n1 := 1024) (n2 := 80) t r ⟨k.val - 80, by omega⟩) (fun b hb => ?_) ?_).trans ?_
    · match b, hb with
      | ⟨0, _⟩, _ => rfl
      | ⟨1, _⟩, _ => rfl
      | ⟨2, _⟩, hb => exact absurd rfl hb
    · show k.val - 80 + 80 = k.val
      omega
    · refine congrArg b (funext fun a => Fin.ext ?_)
      match a with
      | ⟨0, _⟩ => show 200 - (t.val + 1) = 199 - t.val; omega
      | ⟨1, _⟩ => rfl
      | ⟨2, _⟩ => rfl

/-! ## Layer normalization -/

theorem sum_d2 (o : FVec Ideal S1024x200x160 .f32) (r : Fin 1024) (t : Fin 200) :
    broadcastInDim S1024x200x1 ![0, 1] bcast_S1024x200_S1024x200x1_0_1 (Host.reduceAdd o (constant S_ .f32 0x00000000#32) reducesTo_S1024x200x160_S1024x200_d2 h_S_) (ix3 (n0 := 1024) (n1 := 200) (n2 := 1) r t 0)
      = 0 + ∑ k, o (i3 r t k) := by
  refine (broadcastInDim_apply _ _ _ _ (ix2 (n0 := 1024) (n1 := 200) r t) (fun a => by
    match a with
    | ⟨0, _⟩ => rfl
    | ⟨1, _⟩ => rfl)).trans ?_
  refine (hostReduceAdd_apply _ _ _ _ _).trans ((Ideal.hostReduceAdd_single _ (by decide) _ _ _).trans ?_)
  refine congrArg₂ (fun x y : EReal => x + y) Ideal.ofBits_zero_f32 (Finset.sum_congr rfl fun k _ => congrArg o (funext fun a => ?_))
  match a with
  | ⟨0, _⟩ => rfl
  | ⟨1, _⟩ => rfl
  | ⟨2, _⟩ => rfl

theorem wide (x : FVec Ideal S1024x200x1 .f32) (r : Fin 1024) (t : Fin 200) (k : Fin 160) :
    broadcastInDim S1024x200x160 ![0, 1, 2] bcast_S1024x200x1_S1024x200x160_0_1_2 x (i3 r t k) = x (ix3 (n0 := 1024) (n1 := 200) (n2 := 1) r t 0) :=
  broadcastInDim_apply _ _ _ _ _ (fun a => by
    match a with
    | ⟨0, _⟩ => rfl
    | ⟨1, _⟩ => rfl
    | ⟨2, _⟩ => rfl)

theorem muT_apply (o : FVec Ideal S1024x200x160 .f32) (r : Fin 1024) (t : Fin 200) :
    muT o (ix3 (n0 := 1024) (n1 := 200) (n2 := 1) r t 0) = Ideal.div (0 + ∑ k, o (i3 r t k)) ((160 : ℝ) : EReal) :=
  congrArg₂ Ideal.div (sum_d2 o r t) Norm.width_eq

theorem devT_apply (o : FVec Ideal S1024x200x160 .f32) (r : Fin 1024) (t : Fin 200) (k : Fin 160) :
    devT o (i3 r t k) = o (i3 r t k) - muT o (ix3 (n0 := 1024) (n1 := 200) (n2 := 1) r t 0) :=
  congrArg (fun x : EReal => o (i3 r t k) - x) (wide _ r t k)

theorem lnT_apply (o : FVec Ideal S1024x200x160 .f32) (r : Fin 1024) (t : Fin 200) (u : Fin 160 → ℝ) (h : ∀ k, o (i3 r t k) = u k) (k : Fin 160) :
    lnT o (i3 r t k) = (Norm.rLn u Norm.eps k : EReal) := by
  refine Eq.trans ?_ (Norm.ref_ln u Norm.eps Norm.eps_pos (fun k => o (i3 r t k)) h (muT o (ix3 (n0 := 1024) (n1 := 200) (n2 := 1) r t 0)) _ (muT_apply o r t) rfl k)
  refine congrArg₂ Ideal.div (devT_apply o r t k) ((wide _ r t k).trans (congrArg Ideal.sqrt (congrArg₂ (fun x y : EReal => x + y) (congrArg₂ Ideal.div ((sum_d2 _ r t).trans ?_) Norm.width_eq) Norm.eps_val)))
  refine congrArg (fun x : EReal => 0 + x) (Finset.sum_congr rfl fun k _ => ?_)
  exact congrArg₂ (fun x y : EReal => x * y) (devT_apply o r t k) (devT_apply o r t k)

/-! ## The pools -/

theorem fold_max {n : ℕ} (f : Fin n → EReal) :
    Finset.univ.fold (FloatOps.maximumf (F := Ideal) (φ := .f32)) (Ideal.ofBits .f32 0xFF800000#32) f = Finset.univ.fold max ⊥ f := by
  rw [Norm.bot_eq]
  rfl

theorem reduces_d1 : S1024x200x160.Reduces [1] S1024x160 := by decide
theorem lift_d1 (r : Fin 1024) (k : Fin 160) (t : Fin 200) : reduces_d1.lift (ix2 (n0 := 1024) (n1 := 160) r k) t = i3 r t k :=
  funext fun a => by
    match a with
    | ⟨0, _⟩ => rfl
    | ⟨1, _⟩ => rfl
    | ⟨2, _⟩ => rfl

theorem max_d1 (ln : FVec Ideal S1024x200x160 .f32) (r : Fin 1024) (k : Fin 160) (a : Fin 200 → EReal) (h : ∀ t, ln (i3 r t k) = a t) :
    Host.reduce FloatOps.maximumf ln (constant S_ .f32 0xFF800000#32) reducesTo_S1024x200x160_S1024x160_d1 h_S_ (ix2 (n0 := 1024) (n1 := 160) r k) = Norm.pMax a := by
  refine (Host.reduce_eq_fold_single (FloatOps.maximumf (F := Ideal) (φ := .f32)) ln _ _ reduces_d1 _ _).trans ?_
  refine (fold_max (n := 200) _).trans ?_
  refine congrArg (Finset.univ.fold max ⊥) (funext fun t => ?_)
  exact (congrArg ln (lift_d1 r k t)).trans (h t)

theorem sum_d1 (ln : FVec Ideal S1024x200x160 .f32) (r : Fin 1024) (k : Fin 160) (a : Fin 200 → EReal) (h : ∀ t, ln (i3 r t k) = a t) :
    Host.reduceAdd ln (constant S_ .f32 0x00000000#32) reducesTo_S1024x200x160_S1024x160_d1 h_S_ (ix2 (n0 := 1024) (n1 := 160) r k) = ∑ t, a t := by
  refine (hostReduceAdd_apply _ _ _ _ _).trans ((Ideal.hostReduceAdd_single _ reduces_d1 _ _ _).trans ?_)
  refine (congrArg₂ (fun x y : EReal => x + y) Ideal.ofBits_zero_f32 (Finset.sum_congr rfl fun t _ => ?_)).trans (zero_add _)
  exact (congrArg ln (lift_d1 r k t)).trans (h t)

theorem poolT_apply (ln : FVec Ideal S1024x200x160 .f32) (r : Fin 1024) (k : Fin 160) (a : Fin 200 → EReal) (h : ∀ t, ln (i3 r t k) = a t) :
    poolT ln (ix2 (n0 := 1024) (n1 := 160) r k) = Norm.pool a := by
  unfold poolT Norm.pool
  rw [Norm.addf_at, Norm.mulf_at, Norm.mulf_at, Norm.host_divf_at, Norm.host_splat_at, Norm.host_splat_at, Norm.half_eq, Norm.len_eq, max_d1 ln r k a h, sum_d1 ln r k a h]

/-! ## The last layer and the logarithm of its softmax -/

abbrev i2 (r : Fin 1024) (n : Fin 15) : S1024x15.Idx := ix2 (n0 := 1024) (n1 := 15) r n

theorem dotF : dot_S1024x160_S160x15_S1024x15_1_0_0_1_n_n = DotDims.plain 1024 160 15 := rfl

theorem logitsT_apply (z : FVec Ideal S1024x160 .f32) (w : FVec Ideal S15x160 .f32) (v : FVec Ideal S15 .f32) (r : Fin 1024) (zr : Fin 160 → EReal)
    (hz : ∀ k, z (ix2 (n0 := 1024) (n1 := 160) r k) = zr k) (n : Fin 15) :
    logitsT z (transpose S160x15 [1, 0] w transposes_S15x160_S160x15_1_0) v (i2 r n)
      = Norm.logit zr (fun n k => w (ix2 (n0 := 15) (n1 := 160) n k)) (fun n => v (ix1 (n := 15) n)) n := by
  unfold logitsT Norm.logit
  refine congrArg₂ (fun x y : EReal => x + y) ?_ ?_
  · rw [dotF]
    refine (StackMember.dotGeneral_plain_apply none _ _ r n).trans (Finset.sum_congr rfl fun k _ => congrArg₂ (fun x y : EReal => x * y) (hz k) ?_)
    refine transpose_apply _ _ _ _ _ fun a => ?_
    match a with
    | ⟨0, _⟩ => rfl
    | ⟨1, _⟩ => rfl
  · refine (broadcastInDim_apply _ _ _ _ (ix2 (n0 := 1) (n1 := 15) 0 n) (fun a => by
      match a with
      | ⟨0, _⟩ => rfl
      | ⟨1, _⟩ => rfl)).trans (broadcastInDim_apply _ _ _ _ _ fun a => ?_)
    match a with
    | ⟨0, _⟩ => rfl

/-- A value of each row, along the row. -/
theorem row_wide (x : FVec Ideal S1024x1 .f32) (r : Fin 1024) (n : Fin 15) :
    broadcastInDim S1024x15 ![0, 1] bcast_S1024x1_S1024x15_0_1 x (i2 r n) = x (ix2 (n0 := 1024) (n1 := 1) r 0) :=
  broadcastInDim_apply _ _ _ _ _ (fun a => by
    match a with
    | ⟨0, _⟩ => rfl
    | ⟨1, _⟩ => rfl)

theorem row_col (x : FVec Ideal S1024 .f32) (r : Fin 1024) :
    broadcastInDim S1024x1 ![0] bcast_S1024_S1024x1_0 x (ix2 (n0 := 1024) (n1 := 1) r 0) = x (ix1 (n := 1024) r) :=
  broadcastInDim_apply _ _ _ _ _ (fun a => by
    match a with
    | ⟨0, _⟩ => rfl)

theorem shiftT_apply (l : FVec Ideal S1024x15 .f32) (r : Fin 1024) (lr : Fin 15 → EReal) (h : ∀ n, l (i2 r n) = lr n) (n : Fin 15) :
    shiftT l (i2 r n) = lr n - max ⊥ (Norm.lMax lr) := by
  refine congrArg₂ (fun x y : EReal => x - y) (h n) ((row_wide _ r n).trans ((row_col _ r).trans (congrArg₂ max Norm.bot_eq ?_)))
  refine (Host.reduce_eq_fold_single (FloatOps.maximumf (F := Ideal) (φ := .f32)) l _ _ (by decide) _ _).trans ?_
  show Finset.univ.fold max (Ideal.ofBits .f32 0xFF800000#32) _ = _
  rw [Norm.bot_eq]
  refine Finset.fold_congr fun t _ => (congrArg l (funext fun a => ?_)).trans (h t)
  match a with
  | ⟨0, _⟩ => rfl
  | ⟨1, _⟩ => rfl

theorem lsmT_apply (l : FVec Ideal S1024x15 .f32) (r : Fin 1024) (lr : Fin 15 → EReal) (h : ∀ n, l (i2 r n) = lr n) (n : Fin 15) :
    lsmT (shiftT l) (i2 r n) = Norm.lsm lr n := by
  refine congrArg₂ (fun x y : EReal => x - y) (shiftT_apply l r lr h n) ((row_wide _ r n).trans (congrArg Ideal.log ((row_col _ r).trans ?_)))
  refine (hostReduceAdd_apply _ _ _ _ _).trans ((Ideal.hostReduceAdd_single _ (by decide) _ _ _).trans ?_)
  refine congrArg₂ (fun x y : EReal => x + y) Ideal.ofBits_zero_f32 (Finset.sum_congr rfl fun t _ => congrArg Ideal.exp ((congrArg (shiftT l) (funext fun a => ?_)).trans (shiftT_apply l r lr h t)))
  match a with
  | ⟨0, _⟩ => rfl
  | ⟨1, _⟩ => rfl

/-- The result at an entry, of the hidden values `u`. -/
theorem postT_apply (a b : FVec Ideal S200x1024x80 .f32) (w : FVec Ideal S15x160 .f32) (v : FVec Ideal S15 .f32) (r : Fin 1024) (u : Fin 200 → Fin 160 → ℝ)
    (h : ∀ t k, Norm.both (fun j => a (ix3 (n0 := 200) (n1 := 1024) (n2 := 80) t r j)) (fun j => b (ix3 (n0 := 200) (n1 := 1024) (n2 := 80) ⟨199 - t.val, back_lt t⟩ r j)) k = u t k) (n : Fin 15) :
    postT a b (transpose S160x15 [1, 0] w transposes_S15x160_S160x15_1_0) v (i2 r n)
      = Norm.lsm (Norm.logit (fun k => Norm.pool fun t => (Norm.rLn (u t) Norm.eps k : EReal)) (fun n k => w (ix2 (n0 := 15) (n1 := 160) n k)) (fun n => v (ix1 (n := 15) n))) n :=
  lsmT_apply _ r _ (logitsT_apply _ w v r _ fun k => poolT_apply _ r k _ fun t => lnT_apply _ r t (u t) (fun k => (catT_apply a b r t k).trans (h t k)) k) n

end Cert.Proof.RefPost

end
-- ==== Proof.Frames.lean ====
/-
  The claims: each program's run read at the arguments, and the two results' one value.
-/
module

public import proofs.«01_k».proof.Defs
public import proofs.«01_k».proof.Proof.Rows
public import proofs.«01_k».proof.Proof.ScArgs
public import proofs.«01_k».proof.Proof.KernelFwd
public import proofs.«01_k».proof.Proof.RefValue
public import Idealize.ShloMosaic.Adequacy
public import Idealize.ShloMosaic.Init

@[expose] public section

noncomputable section

namespace Cert.Proof

open Idealize.ShloMosaic hiding ix1 ix2 ix3
open Idealize.ShloMosaic.ValueIdx Idealize.ShloMosaic.TcCoe Idealize.SL.Sem
open Cert.Proof.Norm (IsReal)

theorem frame_p : Cert.quiescent_Kernel := by
  intro m ρ hpre
  have hx : ∀ d j, (KernelRun.argI m d j).toNat < 100000 := fun d => Rows.inRange_of_pre _ _ _ _ _ _ _ _ _ _ _ _ (hpre d)
  haveI : ∀ e, Nonempty (Elt Bits e) := fun e => ⟨(default : Elt Bits e)⟩
  exact (θ_run Cert.Kernel.defs _ _).mono (fun r h => ⟨fun c =>
      ⟨(h.1 c _ (KernelRun.mem_arrays rfl)).trans (KernelRun.V6_arg m c Cert.Kernel.main_arg0 (by decide)),
        (h.1 c _ (KernelRun.mem_arrays rfl)).trans (KernelRun.V6_arg m c Cert.Kernel.main_arg1 (by decide)),
        (h.1 c _ (KernelRun.mem_arrays rfl)).trans (KernelRun.V6_arg m c Cert.Kernel.main_arg2 (by decide)),
        (h.1 c _ (KernelRun.mem_arrays rfl)).trans (KernelRun.V6_arg m c Cert.Kernel.main_arg3 (by decide)),
        (h.1 c _ (KernelRun.mem_arrays rfl)).trans (KernelRun.V6_arg m c Cert.Kernel.main_arg4 (by decide)),
        (h.1 c _ (KernelRun.mem_arrays rfl)).trans (KernelRun.V6_arg m c Cert.Kernel.main_arg5 (by decide)),
        (h.1 c _ (KernelRun.mem_arrays rfl)).trans (KernelRun.V6_arg m c Cert.Kernel.main_arg6 (by decide)),
        (h.1 c _ (KernelRun.mem_arrays rfl)).trans (KernelRun.V6_arg m c Cert.Kernel.main_arg7 (by decide)),
        (h.1 c _ (KernelRun.mem_arrays rfl)).trans (KernelRun.V6_arg m c Cert.Kernel.main_arg8 (by decide)),
        (h.1 c _ (KernelRun.mem_arrays rfl)).trans (KernelRun.V6_arg m c Cert.Kernel.main_arg9 (by decide)),
        (h.1 c _ (KernelRun.mem_arrays rfl)).trans (KernelRun.V6_arg m c Cert.Kernel.main_arg10 (by decide)),
        (h.1 c _ (KernelRun.mem_arrays rfl)).trans (KernelRun.V6_arg m c Cert.Kernel.main_arg11 (by decide))⟩, h.2⟩)
    (KernelRun.run_main m ρ fun d => KernelRun.iC_lt m d (hx d))

theorem frame_pi : Cert.quiescent_KernelIdeal := by
  intro m ρ hpre
  have hx : ∀ d j, (KernelIdealRun.argI m d j).toNat < 100000 := fun d => Rows.inRange_of_pre _ _ _ _ _ _ _ _ _ _ _ _ (hpre d)
  haveI : ∀ e, Nonempty (Elt Ideal e) := fun e => ⟨(default : Elt Ideal e)⟩
  exact (θ_run Cert.KernelIdeal.defs _ _).mono (fun r h => ⟨fun c =>
      ⟨(h.1 c _ (KernelIdealRun.mem_arrays rfl)).trans (KernelIdealRun.V6_arg m c Cert.KernelIdeal.main_arg0 (by decide)),
        (h.1 c _ (KernelIdealRun.mem_arrays rfl)).trans (KernelIdealRun.V6_arg m c Cert.KernelIdeal.main_arg1 (by decide)),
        (h.1 c _ (KernelIdealRun.mem_arrays rfl)).trans (KernelIdealRun.V6_arg m c Cert.KernelIdeal.main_arg2 (by decide)),
        (h.1 c _ (KernelIdealRun.mem_arrays rfl)).trans (KernelIdealRun.V6_arg m c Cert.KernelIdeal.main_arg3 (by decide)),
        (h.1 c _ (KernelIdealRun.mem_arrays rfl)).trans (KernelIdealRun.V6_arg m c Cert.KernelIdeal.main_arg4 (by decide)),
        (h.1 c _ (KernelIdealRun.mem_arrays rfl)).trans (KernelIdealRun.V6_arg m c Cert.KernelIdeal.main_arg5 (by decide)),
        (h.1 c _ (KernelIdealRun.mem_arrays rfl)).trans (KernelIdealRun.V6_arg m c Cert.KernelIdeal.main_arg6 (by decide)),
        (h.1 c _ (KernelIdealRun.mem_arrays rfl)).trans (KernelIdealRun.V6_arg m c Cert.KernelIdeal.main_arg7 (by decide)),
        (h.1 c _ (KernelIdealRun.mem_arrays rfl)).trans (KernelIdealRun.V6_arg m c Cert.KernelIdeal.main_arg8 (by decide)),
        (h.1 c _ (KernelIdealRun.mem_arrays rfl)).trans (KernelIdealRun.V6_arg m c Cert.KernelIdeal.main_arg9 (by decide)),
        (h.1 c _ (KernelIdealRun.mem_arrays rfl)).trans (KernelIdealRun.V6_arg m c Cert.KernelIdeal.main_arg10 (by decide)),
        (h.1 c _ (KernelIdealRun.mem_arrays rfl)).trans (KernelIdealRun.V6_arg m c Cert.KernelIdeal.main_arg11 (by decide))⟩, h.2⟩)
    (KernelIdealRun.run_main m ρ fun d => KernelIdealRun.iC_lt m d (hx d))

theorem frame_ri : Cert.quiescent_ReferenceIdeal := fun m ρ _ =>
  (θ_run Cert.ReferenceIdeal.defs _ _).mono (fun r h => ⟨fun c => ⟨(h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩,
    Idealize.ShloMosaic.sem_eq_zero_of_no_sems (by decide) r.2⟩) (RefPost.run m ρ)

theorem frame_ri_pre : Cert.quiescent_ReferenceIdeal_pre_in_vocab_finite := fun m ρ _ => frame_ri m ρ trivial

theorem preserves : Cert.preserves_Kernel_KernelIdeal :=
  ⟨IdealRules.named_const.statement Cert.KernelIdeal.κ "inv_width" .f32 0x3BCCCCCD#32 ((1 / 160 : ℝ) : EReal) rfl,
    IdealRules.named_const.statement Cert.KernelIdeal.κ "half_inv_len" .f32 0x3B23D70A#32 ((1 / 400 : ℝ) : EReal) rfl⟩

/-! ## The value -/

/-- What the precondition says of a weight: it is finite. -/
theorem real_of_lt (x : EReal) (h : FloatOps.cmpf (F := Ideal) (φ := .f32) .olt (FloatOps.hostAbsf (F := Ideal) (φ := .f32) x) (FloatOps.ofBits (F := Ideal) .f32 0x7F800000#32) = 1#1) : IsReal x := by
  have h' : BitVec.ofBool (decide (max x (-x) < Ideal.ofBits .f32 0x7F800000#32)) = 1#1 := h
  rw [Norm.top_eq] at h'
  refine Norm.isReal_iff ?_
  by_contra hc
  rw [decide_eq_false hc] at h'
  exact absurd h' (by decide)

section Value

variable (m : (ℓ : Loc Cert.KernelIdeal.nD Cert.KernelIdeal.τ Cert.KernelIdeal.sig) → Buf (Elt Ideal) ℓ) (c : Dev Cert.KernelIdeal.nD)
  (hx : ∀ j, (KernelIdealRun.argI m c j).toNat < 100000)

theorem fwd_lt (n : ℕ) : n % 200 < 200 := Nat.mod_lt _ (by omega)
theorem bwd_lt (n : ℕ) : 199 - n < 200 := by omega

/-- The row of a time step, as the forward and the backward pass read it. -/
abbrev rowF (b : Fin 1024) (n : ℕ) (k : Fin 64) : EReal :=
  KernelIdealRun.argT m c (ix2 (n0 := 100000) (n1 := 64) ⟨(KernelIdealRun.argI m c (ix2 (n0 := 1024) (n1 := 200) b ⟨n % 200, fwd_lt n⟩)).toNat, hx _⟩ k)
abbrev rowB (b : Fin 1024) (n : ℕ) (k : Fin 64) : EReal :=
  KernelIdealRun.argT m c (ix2 (n0 := 100000) (n1 := 64) ⟨(KernelIdealRun.argI m c (ix2 (n0 := 1024) (n1 := 200) b ⟨199 - n, bwd_lt n⟩)).toNat, hx _⟩ k)
abbrev parF : Lstm.Par := RefStep.par (KernelIdealRun.argWihF m c) (KernelIdealRun.argWhhF m c) (KernelIdealRun.argBihF m c) (KernelIdealRun.argBhhF m c)
abbrev parB : Lstm.Par := RefStep.par (KernelIdealRun.argWihB m c) (KernelIdealRun.argWhhB m c) (KernelIdealRun.argBihB m c) (KernelIdealRun.argBhhB m c)

/-- The hidden values of a time step, forward then backward. -/
abbrev hidden (b : Fin 1024) (t : Fin 200) (k : Fin 160) : EReal :=
  Norm.both (fun j => (Lstm.st (parF m c) (rowF m c hx b) (t.val + 1)).1 j) (fun j => (Lstm.st (parB m c) (rowB m c hx b) (200 - t.val)).1 j) k

theorem hidden_real (b : Fin 1024) (t : Fin 200) (k : Fin 160) : IsReal (hidden m c hx b t k) := by
  unfold hidden Norm.both
  split
  · exact Norm.hid_real _ _ _ _
  · exact Norm.hid_real _ _ _ _

/-- The backward pass's result, at an entry. -/
theorem hid_apply (t : Fin 200) (b : Fin 1024) (j : Fin 80) :
    KernelIdealRun.hid m c (ix3 (n0 := 200) (n1 := 1024) (n2 := 80) t b j) = (Lstm.st (parB m c) (rowB m c hx b) (200 - t.val)).1 j := by
  unfold KernelIdealRun.hid
  rw [KernelIdealRun.V3_ih, KernelIdealRun.V3_hh, KernelIdealRun.V3_b]
  exact KernelIdealRun.hidden_apply _ _ _ _ _ b _ (fun n k => KernelIdealRun.rows_apply m c hx ⟨199 - n, bwd_lt n⟩ b k) t j

variable (b : Fin 1024) (u : Fin 200 → Fin 160 → ℝ) (hu : ∀ t k, hidden m c hx b t k = (u t k : EReal))

/-- The value of a row's result. -/
abbrev value (n : Fin 15) : EReal :=
  Norm.lsm (Norm.logit (fun k => Norm.pool (KernelIdealRun.lnT u k)) (fun n k => KernelIdealRun.argFcW m c (ix2 (n0 := 15) (n1 := 160) n k)) (fun n => KernelIdealRun.argFcB m c (ix1 (n := 15) n))) n

include hu in
theorem kernel_apply (hw : ∀ n k, IsReal (KernelIdealRun.argFcW m c (ix2 (n0 := 15) (n1 := 160) n k))) (hv : ∀ n, IsReal (KernelIdealRun.argFcB m c (ix1 (n := 15) n))) (n : Fin 15) :
    KernelIdealRun.V6 m c (Proc.devRef .tc Cert.KernelIdeal.main_v146) (ix2 (n0 := 1024) (n1 := 15) b n) = value m c u n := by
  unfold KernelIdealRun.V6
  rw [Function.update_self]
  unfold KernelIdealRun.out
  rw [KernelIdealRun.V5_rows, KernelIdealRun.V5_hid, KernelIdealRun.V5_ih, KernelIdealRun.V5_hh, KernelIdealRun.V5_b, KernelIdealRun.V5_u, KernelIdealRun.V5_d, KernelIdealRun.V5_v]
  refine KernelIdealRun.fresult_apply _ _ _ _ _ _ b (rowF m c hx b) (fun n k => KernelIdealRun.rows_apply m c hx ⟨n % 200, fwd_lt n⟩ b k) u (fun t k => ?_) _ _ hw hv n
  exact (congrArg (fun y => Norm.both _ y k) (funext fun j => hid_apply m c hx t b j)).trans (hu t k)

end Value

set_option maxRecDepth 8000 in
theorem algebraic : Cert.algebraic_KernelIdeal_ReferenceIdeal := by
  intro m ρ m' ρ' hpre hagree
  have hx : ∀ d j, (KernelIdealRun.argI m d j).toNat < 100000 := fun d => Rows.inRange_of_pre _ _ _ _ _ _ _ _ _ _ _ _ (hpre d)
  haveI : ∀ e, Nonempty (Elt Ideal e) := fun e => ⟨(default : Elt Ideal e)⟩
  refine ⟨fun c => KernelIdealRun.V6 m c (Proc.devRef .tc Cert.KernelIdeal.main_v146), ?_, ?_⟩
  · exact (θ_run Cert.KernelIdeal.defs _ _).mono (fun r h c =>
      ⟨h.1 c _ (KernelIdealRun.mem_arrays rfl),
        (h.1 c _ (KernelIdealRun.mem_arrays rfl)).trans (KernelIdealRun.V6_arg m c Cert.KernelIdeal.main_arg0 (by decide)),
        (h.1 c _ (KernelIdealRun.mem_arrays rfl)).trans (KernelIdealRun.V6_arg m c Cert.KernelIdeal.main_arg1 (by decide)),
        (h.1 c _ (KernelIdealRun.mem_arrays rfl)).trans (KernelIdealRun.V6_arg m c Cert.KernelIdeal.main_arg2 (by decide)),
        (h.1 c _ (KernelIdealRun.mem_arrays rfl)).trans (KernelIdealRun.V6_arg m c Cert.KernelIdeal.main_arg3 (by decide)),
        (h.1 c _ (KernelIdealRun.mem_arrays rfl)).trans (KernelIdealRun.V6_arg m c Cert.KernelIdeal.main_arg4 (by decide)),
        (h.1 c _ (KernelIdealRun.mem_arrays rfl)).trans (KernelIdealRun.V6_arg m c Cert.KernelIdeal.main_arg5 (by decide)),
        (h.1 c _ (KernelIdealRun.mem_arrays rfl)).trans (KernelIdealRun.V6_arg m c Cert.KernelIdeal.main_arg6 (by decide)),
        (h.1 c _ (KernelIdealRun.mem_arrays rfl)).trans (KernelIdealRun.V6_arg m c Cert.KernelIdeal.main_arg7 (by decide)),
        (h.1 c _ (KernelIdealRun.mem_arrays rfl)).trans (KernelIdealRun.V6_arg m c Cert.KernelIdeal.main_arg8 (by decide)),
        (h.1 c _ (KernelIdealRun.mem_arrays rfl)).trans (KernelIdealRun.V6_arg m c Cert.KernelIdeal.main_arg9 (by decide)),
        (h.1 c _ (KernelIdealRun.mem_arrays rfl)).trans (KernelIdealRun.V6_arg m c Cert.KernelIdeal.main_arg10 (by decide)),
        (h.1 c _ (KernelIdealRun.mem_arrays rfl)).trans (KernelIdealRun.V6_arg m c Cert.KernelIdeal.main_arg11 (by decide))⟩)
      (KernelIdealRun.run_main m ρ fun d => KernelIdealRun.iC_lt m d (hx d))
  · refine (θ_run Cert.ReferenceIdeal.defs _ _).mono (fun r h c => ⟨(h c).1.trans ?_, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩) (RefPost.run m' ρ')
    obtain ⟨h0, h1, h2, h3, h4, h5, h6, h7, h8, h9, h10, h11⟩ := hagree c
    have e0 : RefStep.argI m' c = KernelIdealRun.argI m c := h0
    have e1 : RefStep.argT m' c = KernelIdealRun.argT m c := h1
    have e2 : RefStep.argWihF m' c = KernelIdealRun.argWihF m c := h2
    have e3 : RefStep.argWhhF m' c = KernelIdealRun.argWhhF m c := h3
    have e4 : RefStep.argBihF m' c = KernelIdealRun.argBihF m c := h4
    have e5 : RefStep.argBhhF m' c = KernelIdealRun.argBhhF m c := h5
    have e6 : RefStep.argWihB m' c = KernelIdealRun.argWihB m c := h6
    have e7 : RefStep.argWhhB m' c = KernelIdealRun.argWhhB m c := h7
    have e8 : RefStep.argBihB m' c = KernelIdealRun.argBihB m c := h8
    have e9 : RefStep.argBhhB m' c = KernelIdealRun.argBhhB m c := h9
    have e10 : RefStep.argFcW m' c = KernelIdealRun.argFcW m c := h10
    have e11 : RefStep.argFcB m' c = KernelIdealRun.argFcB m c := h11
    have hf := Rows.finite_of_pre _ _ _ _ _ _ _ _ _ _ _ _ (hpre c)
    have hw : ∀ n k, IsReal (KernelIdealRun.argFcW m c (ix2 (n0 := 15) (n1 := 160) n k)) := fun n k => real_of_lt _ (hf.1 _)
    have hv : ∀ n, IsReal (KernelIdealRun.argFcB m c (ix1 (n := 15) n)) := fun n => real_of_lt _ (hf.2 _)
    have hx' : Rows.InRange (RefStep.argI m' c) := by rw [e0]; exact hx c
    have H := RefStep.holds_iterate (RefStep.entry_holds m' c hx') 200 le_rfl
    rw [e2, e3, e4, e5, e6, e7, e8, e9] at H
    have rF : RefStep.rowF m' c hx' = rowF m c (hx c) := by
      funext b n k
      unfold RefStep.rowF rowF
      rw [e1]
      exact congrArg (fun r => KernelIdealRun.argT m c (ix2 (n0 := 100000) (n1 := 64) r k)) (Fin.ext (congrArg BitVec.toNat (congrFun e0 _)))
    have rB : RefStep.rowB m' c hx' = rowB m c (hx c) := by
      funext b n k
      unfold RefStep.rowB rowB
      rw [e1]
      exact congrArg (fun r => KernelIdealRun.argT m c (ix2 (n0 := 100000) (n1 := 64) r k)) (Fin.ext (congrArg BitVec.toNat (congrFun e0 _)))
    rw [rF, rB] at H
    funext y
    obtain ⟨b, n, rfl⟩ : ∃ b n, y = ix2 (n0 := 1024) (n1 := 15) b n := ⟨_, _, ValueIdx.eq_ix2 y⟩
    choose u hu using hidden_real m c (hx c) b
    refine Eq.trans ?_ (kernel_apply m c (hx c) b u hu hw hv n).symm
    rw [h10, h11]
    refine RefPost.postT_apply _ _ _ _ b u (fun t k => ?_) n
    refine Eq.trans ?_ (hu t k)
    refine congrArg₂ (fun x y => Norm.both x y k) (funext fun j => H.fwd.out t b j t.isLt) (funext fun j => (H.bwd.out ⟨199 - t.val, RefPost.back_lt t⟩ b j (RefPost.back_lt t)).trans ?_)
    exact congrArg (fun n => (Lstm.st (parB m c) (rowB m c (hx c) b) n).1 j) (by show 199 - t.val + 1 = 200 - t.val; omega)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab_finite
public import proofs.«01_k».proof.Proof.Frames

@[expose] public section

noncomputable section

namespace Cert.Proof

theorem claim : Cert.Claim := ⟨Cert.Kernel.Gen.facts, Cert.KernelIdeal.Gen.facts, Cert.ReferenceIdeal.Gen.facts, Cert.Pre_in_vocab_finite.Gen.facts,
  frame_p, frame_pi, frame_ri, frame_ri_pre, preserves, algebraic⟩

end Cert.Proof

end
